-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  IdealRules.named_const.Statement Cert.Kernel2Ideal.κ "scale_mla" .f32 0x3E16C740#32 (((Real.sqrt 96)⁻¹ * (Real.log 2)⁻¹ : ℝ) : EReal)
  ∧ IdealRules.named_const.Statement Cert.Kernel2Ideal.κ "scale_moba" .f32 0x3E38AA3B#32 (((Real.sqrt 64)⁻¹ * (Real.log 2)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v71_0)) (v1 : (c : Dev Cert.Kernel2Ideal.nD) → Buf (Elt Ideal) ((c.tc : Thread Cert.Kernel2Ideal.nD Cert.Kernel2Ideal.τ).loc Cert.Kernel2Ideal.main_v71_1)) (v2 : (c : Dev Cert.Kernel2Ideal.nD) → Buf (Elt Ideal) ((c.tc : Thread Cert.Kernel2Ideal.nD Cert.Kernel2Ideal.τ).loc Cert.Kernel2Ideal.main_v71_2)) (v3 : (c : Dev Cert.Kernel2Ideal.nD) → Buf (Elt Ideal) ((c.tc : Thread Cert.Kernel2Ideal.nD Cert.Kernel2Ideal.τ).loc Cert.Kernel2Ideal.main_v71_3)) (v4 : (c : Dev Cert.Kernel2Ideal.nD) → Buf (Elt Ideal) ((c.tc : Thread Cert.Kernel2Ideal.nD Cert.Kernel2Ideal.τ).loc Cert.Kernel2Ideal.main_v71_4)) (v5 : (c : Dev Cert.Kernel2Ideal.nD) → Buf (Elt Ideal) ((c.tc : Thread Cert.Kernel2Ideal.nD Cert.Kernel2Ideal.τ).loc Cert.Kernel2Ideal.main_v71_5)) (v6 : (c : Dev Cert.Kernel2Ideal.nD) → Buf (Elt Ideal) ((c.tc : Thread Cert.Kernel2Ideal.nD Cert.Kernel2Ideal.τ).loc Cert.Kernel2Ideal.main_v71_6)) (v7 : (c : Dev Cert.Kernel2Ideal.nD) → Buf (Elt Ideal) ((c.tc : Thread Cert.Kernel2Ideal.nD Cert.Kernel2Ideal.τ).loc Cert.Kernel2Ideal.main_v71_7)) (v8 : (c : Dev Cert.Kernel2Ideal.nD) → Buf (Elt Ideal) ((c.tc : Thread Cert.Kernel2Ideal.nD Cert.Kernel2Ideal.τ).loc Cert.Kernel2Ideal.main_v71_8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v71_0) = v0 c
          ∧ r.2.mem ((c.tc : Thread Cert.Kernel2Ideal.nD Cert.Kernel2Ideal.τ).loc Cert.Kernel2Ideal.main_v71_1) = v1 c
          ∧ r.2.mem ((c.tc : Thread Cert.Kernel2Ideal.nD Cert.Kernel2Ideal.τ).loc Cert.Kernel2Ideal.main_v71_2) = v2 c
          ∧ r.2.mem ((c.tc : Thread Cert.Kernel2Ideal.nD Cert.Kernel2Ideal.τ).loc Cert.Kernel2Ideal.main_v71_3) = v3 c
          ∧ r.2.mem ((c.tc : Thread Cert.Kernel2Ideal.nD Cert.Kernel2Ideal.τ).loc Cert.Kernel2Ideal.main_v71_4) = v4 c
          ∧ r.2.mem ((c.tc : Thread Cert.Kernel2Ideal.nD Cert.Kernel2Ideal.τ).loc Cert.Kernel2Ideal.main_v71_5) = v5 c
          ∧ r.2.mem ((c.tc : Thread Cert.Kernel2Ideal.nD Cert.Kernel2Ideal.τ).loc Cert.Kernel2Ideal.main_v71_6) = v6 c
          ∧ r.2.mem ((c.tc : Thread Cert.Kernel2Ideal.nD Cert.Kernel2Ideal.τ).loc Cert.Kernel2Ideal.main_v71_7) = v7 c
          ∧ r.2.mem ((c.tc : Thread Cert.Kernel2Ideal.nD Cert.Kernel2Ideal.τ).loc Cert.Kernel2Ideal.main_v71_8) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v168) = v0 c
          ∧ r.2.mem ((c.tc : Thread Cert.Reference2Ideal.nD Cert.Reference2Ideal.τ).loc Cert.Reference2Ideal.main_v171) = v1 c
          ∧ r.2.mem ((c.tc : Thread Cert.Reference2Ideal.nD Cert.Reference2Ideal.τ).loc Cert.Reference2Ideal.main_v173) = v2 c
          ∧ r.2.mem ((c.tc : Thread Cert.Reference2Ideal.nD Cert.Reference2Ideal.τ).loc Cert.Reference2Ideal.main_v179) = v3 c
          ∧ r.2.mem ((c.tc : Thread Cert.Reference2Ideal.nD Cert.Reference2Ideal.τ).loc Cert.Reference2Ideal.main_v182) = v4 c
          ∧ r.2.mem ((c.tc : Thread Cert.Reference2Ideal.nD Cert.Reference2Ideal.τ).loc Cert.Reference2Ideal.main_v184) = v5 c
          ∧ r.2.mem ((c.tc : Thread Cert.Reference2Ideal.nD Cert.Reference2Ideal.τ).loc Cert.Reference2Ideal.main_v185) = v6 c
          ∧ r.2.mem ((c.tc : Thread Cert.Reference2Ideal.nD Cert.Reference2Ideal.τ).loc Cert.Reference2Ideal.main_v187) = v7 c
          ∧ r.2.mem ((c.tc : Thread Cert.Reference2Ideal.nD Cert.Reference2Ideal.τ).loc Cert.Reference2Ideal.main_v189) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
-- ==== Pre_finite_scores.lean ====
abbrev S8x8192x8x96 : Shape := ⟨4, ![8, 8192, 8, 96]⟩
abbrev S8x8192x8x64 : Shape := ⟨4, ![8, 8192, 8, 64]⟩
abbrev S_ : Shape := ⟨0, ![]⟩

class Facts : Prop where
  bcast_S_S8x8192x8x96 : S_.BroadcastsInDim S8x8192x8x96 (![] : Fin 0 → Fin S8x8192x8x96.rank)
  reducesTo_S8x8192x8x96_S_d0_1_2_3 : S8x8192x8x96.ReducesTo [0, 1, 2, 3] S_
  h_S_ : 0 < S_.numel

variable [Facts]

def fn {F : FTy → Type} [FloatOps F] (main_arg0 : FVec F S8x8192x8x96 .f32) (main_arg1 : FVec F S8x8192x8x96 .f32) (main_arg2 : FVec F S8x8192x8x64 .f32) : IVec S_ 1 :=
  let main_v0 : FVec F S8x8192x8x96 .f32 := Host.absf main_arg0
  let main_cst : FVec F S_ .f32 := constant S_ .f32 0x7F800000#32
  let main_v1 : FVec F S8x8192x8x96 .f32 := broadcastInDim S8x8192x8x96 ![] bcast_S_S8x8192x8x96 main_cst
  let main_v2 : IVec S8x8192x8x96 1 := cmpf .olt main_v0 main_v1
  let main_c : IVec S_ 1 := constantI S_ 1 1#1
  let main_v3 : IVec S_ 1 := (fun x v => Host.reduce IntOp.andi x v reducesTo_S8x8192x8x96_S_d0_1_2_3 h_S_) main_v2 main_c
  let main_v4 : FVec F S8x8192x8x96 .f32 := Host.absf main_arg1
  let main_cst_0 : FVec F S_ .f32 := constant S_ .f32 0x7F800000#32
  let main_v5 : FVec F S8x8192x8x96 .f32 := broadcastInDim S8x8192x8x96 ![] bcast_S_S8x8192x8x96 main_cst_0
  let main_v6 : IVec S8x8192x8x96 1 := cmpf .olt main_v4 main_v5
  let main_c_1 : IVec S_ 1 := constantI S_ 1 1#1
  let main_v7 : IVec S_ 1 := (fun x v => Host.reduce IntOp.andi x v reducesTo_S8x8192x8x96_S_d0_1_2_3 h_S_) main_v6 main_c_1
  let main_v8 : IVec S_ 1 := andi main_v3 main_v7
  main_v8
-- ==== Kernel.lean ====
abbrev S8x8192x8x96 : Shape := ⟨4, ![8, 8192, 8, 96]⟩
abbrev S8x8192x8x64 : Shape := ⟨4, ![8, 8192, 8, 64]⟩
abbrev S_ : Shape := ⟨0, ![]⟩
abbrev S8x8192x8x128 : Shape := ⟨4, ![8, 8192, 8, 128]⟩
abbrev S65536x1024 : Shape := ⟨2, ![65536, 1024]⟩
abbrev S65536x512 : Shape := ⟨2, ![65536, 512]⟩
abbrev S512x512 : Shape := ⟨2, ![512, 512]⟩
abbrev S8192x512 : Shape := ⟨2, ![8192, 512]⟩
abbrev S8192x256 : Shape := ⟨2, ![8192, 256]⟩
abbrev S512x256 : Shape := ⟨2, ![512, 256]⟩
abbrev S1x128 : Shape := ⟨2, ![1, 128]⟩
abbrev S512x128 : Shape := ⟨2, ![512, 128]⟩
abbrev S512x1 : Shape := ⟨2, ![512, 1]⟩
abbrev S1024x128 : Shape := ⟨2, ![1024, 128]⟩
abbrev S512x1024 : Shape := ⟨2, ![512, 1024]⟩
abbrev S512 : Shape := ⟨1, ![512]⟩

abbrev nBuf : Space → Nat
  | .hbm => 23
  | .vmem => 8
  | .smem => 0
  | _ => 0

abbrev bufTy : (tb : Table) → Fin (tcTables nBuf tb) → BufTy
  | .hbm, ⟨0, _⟩ => ⟨S8x8192x8x96, .f32⟩
  | .hbm, ⟨1, _⟩ => ⟨S8x8192x8x96, .f32⟩
  | .hbm, ⟨2, _⟩ => ⟨S8x8192x8x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .i32⟩
  | .hbm, ⟨9, _⟩ => ⟨S_, .f32⟩
  | .hbm, ⟨10, _⟩ => ⟨S8x8192x8x128, .f32⟩
  | .hbm, ⟨11, _⟩ => ⟨S8x8192x8x128, .f32⟩
  | .hbm, ⟨12, _⟩ => ⟨S8x8192x8x128, .f32⟩
  | .hbm, ⟨13, _⟩ => ⟨S8x8192x8x128, .bf16⟩
  | .hbm, ⟨14, _⟩ => ⟨S65536x1024, .bf16⟩
  | .hbm, ⟨15, _⟩ => ⟨S_, .i32⟩
  | .hbm, ⟨16, _⟩ => ⟨S_, .f32⟩
  | .hbm, ⟨17, _⟩ => ⟨S8x8192x8x128, .f32⟩
  | .hbm, ⟨18, _⟩ => ⟨S8x8192x8x128, .bf16⟩
  | .hbm, ⟨19, _⟩ => ⟨S65536x1024, .bf16⟩
  | .hbm, ⟨20, _⟩ => ⟨S8x8192x8x64, .bf16⟩
  | .hbm, ⟨21, _⟩ => ⟨S65536x512, .bf16⟩
  | .hbm, ⟨22, _⟩ => ⟨S65536x512, .bf16⟩
  | .local _ .vmem, ⟨0, _⟩ => ⟨S512x512, .bf16⟩
  | .local _ .vmem, ⟨1, _⟩ => ⟨S512x512, .bf16⟩
  | .local _ .vmem, ⟨2, _⟩ => ⟨S8192x512, .bf16⟩
  | .local _ .vmem, ⟨3, _⟩ => ⟨S8192x512, .bf16⟩
  | .local _ .vmem, ⟨4, _⟩ => ⟨S8192x256, .bf16⟩
  | .local _ .vmem, ⟨5, _⟩ => ⟨S8192x256, .bf16⟩
  | .local _ .vmem, ⟨6, _⟩ => ⟨S512x256, .bf16⟩
  | .local _ .vmem, ⟨7, _⟩ => ⟨S512x256, .bf16⟩
  | _, _ => ⟨S8x8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 16], ![false, false, false]⟩

@[reducible] def k0_t1_loop (i : grid0.Coords) : Scf.Loop 32 :=
  let c0_i32_18 : BitVec 32 := 0#32
  let arg2 : BitVec 32 := BitVec.ofNat 32 (i 2).val
  let c512_i32 : BitVec 32 := 512#32
  let v11 : BitVec 32 := Scalar.muli arg2 c512_i32
  let c0_i32 : BitVec 32 := 0#32
  let v13 : BitVec 1 := Scalar.cmpi .sgt v11 c0_i32
  let v14 : BitVec 32 := Scalar.extui v13
  let c0_i32_4 : BitVec 32 := 0#32
  let v15 : BitVec 1 := Scalar.cmpi .slt v11 c0_i32_4
  let v16 : BitVec 32 := Scalar.extui v15
  let v17 : BitVec 32 := Scalar.subi v14 v16
  let c1024_i32 : BitVec 32 := 1024#32
  let c0_i32_5 : BitVec 32 := 0#32
  let v18 : BitVec 1 := Scalar.cmpi .sgt c1024_i32 c0_i32_5
  let v19 : BitVec 32 := Scalar.extui v18
  let c0_i32_6 : BitVec 32 := 0#32
  let v20 : BitVec 1 := Scalar.cmpi .slt c1024_i32 c0_i32_6
  let v21 : BitVec 32 := Scalar.extui v20
  let v22 : BitVec 32 := Scalar.subi v19 v21
  let v23 : BitVec 1 := Scalar.cmpi .ne v17 v22
  let v24 : BitVec 32 := Scalar.remsi v11 c1024_i32
  let c0_i32_7 : BitVec 32 := 0#32
  let v25 : BitVec 1 := Scalar.cmpi .ne v24 c0_i32_7
  let v26 : BitVec 1 := Scalar.andi v23 v25
  let v12 : BitVec 32 := Scalar.divsi v11 c1024_i32
  let c1_i32 : BitVec 32 := 1#32
  let v27 : BitVec 32 := Scalar.subi v12 c1_i32
  let v28 : BitVec 32 := Scalar.select v26 v27 v12
  let v40 : BitVec 32 := Scalar.subi v28 c0_i32_18
  let c1_i32_19 : BitVec 32 := 1#32
  let v42 : BitVec 32 := Scalar.divsi v40 c1_i32_19
  let v43 : BitVec 32 := Scalar.muli v42 c1_i32_19
  let v44 : BitVec 32 := Scalar.addi c0_i32_18 v43
  let c1_i32_20 : BitVec 32 := 1#32
  ⟨c0_i32_18, v44, c1_i32_20⟩
def k0_mult1 (i : grid0.Coords) (k0_t1 : Fin (k0_t1_loop i).trips) : BitVec 32 :=
  let c0_i32_18 : BitVec 32 := 0#32
  let c1_i32_20 : BitVec 32 := 1#32
  let arg7 : BitVec 32 := Scf.iv c0_i32_18 c1_i32_20 k0_t1
  let c1024_i32_59 : BitVec 32 := 1024#32
  let v197 : BitVec 32 := Scalar.muli arg7 c1024_i32_59
  v197
def k0_off1 (i : grid0.Coords) (k0_t1 : Fin (k0_t1_loop i).trips) : Fin 2 → Nat :=
  let c0_i32_18 : BitVec 32 := 0#32
  let c1_i32_20 : BitVec 32 := 1#32
  let arg7 : BitVec 32 := Scf.iv c0_i32_18 c1_i32_20 k0_t1
  let c1024_i32_59 : BitVec 32 := 1024#32
  let v197 : BitVec 32 := Scalar.muli arg7 c1024_i32_59
  let v198 : BitVec 32 := v197
  let v199 : Index := Scalar.indexCast v198
  let c0_60 : Index := 0#32
  ![v199.toNat, 0]
def k0_mult2 (i : grid0.Coords) (k0_t1 : Fin (k0_t1_loop i).trips) : BitVec 32 :=
  let c0_i32_18 : BitVec 32 := 0#32
  let c1_i32_20 : BitVec 32 := 1#32
  let arg7 : BitVec 32 := Scf.iv c0_i32_18 c1_i32_20 k0_t1
  let c1024_i32_62 : BitVec 32 := 1024#32
  let v203 : BitVec 32 := Scalar.muli arg7 c1024_i32_62
  v203
def k0_off2 (i : grid0.Coords) (k0_t1 : Fin (k0_t1_loop i).trips) : Fin 2 → Nat :=
  let c0_i32_18 : BitVec 32 := 0#32
  let c1_i32_20 : BitVec 32 := 1#32
  let arg7 : BitVec 32 := Scf.iv c0_i32_18 c1_i32_20 k0_t1
  let c1024_i32_62 : BitVec 32 := 1024#32
  let v203 : BitVec 32 := Scalar.muli arg7 c1024_i32_62
  let v204 : BitVec 32 := v203
  let v205 : Index := Scalar.indexCast v204
  let c128_63 : Index := 128#32
  ![v205.toNat, 128]
def k0_mult3 (i : grid0.Coords) (k0_t1 : Fin (k0_t1_loop i).trips) : BitVec 32 :=
  let c0_i32_18 : BitVec 32 := 0#32
  let c1_i32_20 : BitVec 32 := 1#32
  let arg7 : BitVec 32 := Scf.iv c0_i32_18 c1_i32_20 k0_t1
  let c1024_i32_65 : BitVec 32 := 1024#32
  let v209 : BitVec 32 := Scalar.muli arg7 c1024_i32_65
  v209
def k0_off3 (i : grid0.Coords) (k0_t1 : Fin (k0_t1_loop i).trips) : Fin 2 → Nat :=
  let c0_i32_18 : BitVec 32 := 0#32
  let c1_i32_20 : BitVec 32 := 1#32
  let arg7 : BitVec 32 := Scf.iv c0_i32_18 c1_i32_20 k0_t1
  let c1024_i32_65 : BitVec 32 := 1024#32
  let v209 : BitVec 32 := Scalar.muli arg7 c1024_i32_65
  let v210 : BitVec 32 := v209
  let v211 : Index := Scalar.indexCast v210
  let c256_66 : Index := 256#32
  ![v211.toNat, 256]
def k0_mult4 (i : grid0.Coords) (k0_t1 : Fin (k0_t1_loop i).trips) : BitVec 32 :=
  let c0_i32_18 : BitVec 32 := 0#32
  let c1_i32_20 : BitVec 32 := 1#32
  let arg7 : BitVec 32 := Scf.iv c0_i32_18 c1_i32_20 k0_t1
  let c1024_i32_68 : BitVec 32 := 1024#32
  let v215 : BitVec 32 := Scalar.muli arg7 c1024_i32_68
  v215
def k0_off4 (i : grid0.Coords) (k0_t1 : Fin (k0_t1_loop i).trips) : Fin 2 → Nat :=
  let c0_i32_18 : BitVec 32 := 0#32
  let c1_i32_20 : BitVec 32 := 1#32
  let arg7 : BitVec 32 := Scf.iv c0_i32_18 c1_i32_20 k0_t1
  let c1024_i32_68 : BitVec 32 := 1024#32
  let v215 : BitVec 32 := Scalar.muli arg7 c1024_i32_68
  let v216 : BitVec 32 := v215
  let v217 : Index := Scalar.indexCast v216
  let c384_69 : Index := 384#32
  ![v217.toNat, 384]
def k0_mult5 (i : grid0.Coords) (k0_t1 : Fin (k0_t1_loop i).trips) : BitVec 32 :=
  let c0_i32_18 : BitVec 32 := 0#32
  let c1_i32_20 : BitVec 32 := 1#32
  let arg7 : BitVec 32 := Scf.iv c0_i32_18 c1_i32_20 k0_t1
  let c1024_i32_71 : BitVec 32 := 1024#32
  let v221 : BitVec 32 := Scalar.muli arg7 c1024_i32_71
  v221
def k0_off5 (i : grid0.Coords) (k0_t1 : Fin (k0_t1_loop i).trips) : Fin 2 → Nat :=
  let c0_i32_18 : BitVec 32 := 0#32
  let c1_i32_20 : BitVec 32 := 1#32
  let arg7 : BitVec 32 := Scf.iv c0_i32_18 c1_i32_20 k0_t1
  let c1024_i32_71 : BitVec 32 := 1024#32
  let v221 : BitVec 32 := Scalar.muli arg7 c1024_i32_71
  let v222 : BitVec 32 := v221
  let v223 : Index := Scalar.indexCast v222
  let c0_72 : Index := 0#32
  ![v223.toNat, 0]
def k0_mult6 (i : grid0.Coords) (k0_t1 : Fin (k0_t1_loop i).trips) : BitVec 32 :=
  let c0_i32_18 : BitVec 32 := 0#32
  let c1_i32_20 : BitVec 32 := 1#32
  let arg7 : BitVec 32 := Scf.iv c0_i32_18 c1_i32_20 k0_t1
  let c1024_i32_73 : BitVec 32 := 1024#32
  let v226 : BitVec 32 := Scalar.muli arg7 c1024_i32_73
  v226
def k0_off6 (i : grid0.Coords) (k0_t1 : Fin (k0_t1_loop i).trips) : Fin 2 → Nat :=
  let c0_i32_18 : BitVec 32 := 0#32
  let c1_i32_20 : BitVec 32 := 1#32
  let arg7 : BitVec 32 := Scf.iv c0_i32_18 c1_i32_20 k0_t1
  let c1024_i32_73 : BitVec 32 := 1024#32
  let v226 : BitVec 32 := Scalar.muli arg7 c1024_i32_73
  let v227 : BitVec 32 := v226
  let v228 : Index := Scalar.indexCast v227
  let c128_74 : Index := 128#32
  ![v228.toNat, 128]
@[reducible] def k0_t2_loop (i : grid0.Coords) : Scf.Loop 32 :=
  let c0_i32_18 : BitVec 32 := 0#32
  let arg2 : BitVec 32 := BitVec.ofNat 32 (i 2).val
  let c512_i32 : BitVec 32 := 512#32
  let v11 : BitVec 32 := Scalar.muli arg2 c512_i32
  let c0_i32 : BitVec 32 := 0#32
  let v13 : BitVec 1 := Scalar.cmpi .sgt v11 c0_i32
  let v14 : BitVec 32 := Scalar.extui v13
  let c0_i32_4 : BitVec 32 := 0#32
  let v15 : BitVec 1 := Scalar.cmpi .slt v11 c0_i32_4
  let v16 : BitVec 32 := Scalar.extui v15
  let v17 : BitVec 32 := Scalar.subi v14 v16
  let c1024_i32 : BitVec 32 := 1024#32
  let c0_i32_5 : BitVec 32 := 0#32
  let v18 : BitVec 1 := Scalar.cmpi .sgt c1024_i32 c0_i32_5
  let v19 : BitVec 32 := Scalar.extui v18
  let c0_i32_6 : BitVec 32 := 0#32
  let v20 : BitVec 1 := Scalar.cmpi .slt c1024_i32 c0_i32_6
  let v21 : BitVec 32 := Scalar.extui v20
  let v22 : BitVec 32 := Scalar.subi v19 v21
  let v23 : BitVec 1 := Scalar.cmpi .ne v17 v22
  let v24 : BitVec 32 := Scalar.remsi v11 c1024_i32
  let c0_i32_7 : BitVec 32 := 0#32
  let v25 : BitVec 1 := Scalar.cmpi .ne v24 c0_i32_7
  let v26 : BitVec 1 := Scalar.andi v23 v25
  let v12 : BitVec 32 := Scalar.divsi v11 c1024_i32
  let c1_i32 : BitVec 32 := 1#32
  let v27 : BitVec 32 := Scalar.subi v12 c1_i32
  let v28 : BitVec 32 := Scalar.select v26 v27 v12
  let v40 : BitVec 32 := Scalar.subi v28 c0_i32_18
  let c1_i32_19 : BitVec 32 := 1#32
  let v42 : BitVec 32 := Scalar.divsi v40 c1_i32_19
  let v43 : BitVec 32 := Scalar.muli v42 c1_i32_19
  let v44 : BitVec 32 := Scalar.addi c0_i32_18 v43
  let v41 : BitVec 32 := Scalar.addi c0_i32_18 v40
  let c1_i32_21 : BitVec 32 := 1#32
  ⟨v44, v41, c1_i32_21⟩
def k0_mult7 (i : grid0.Coords) (k0_t2 : Fin (k0_t2_loop i).trips) : BitVec 32 :=
  let c0_i32_18 : BitVec 32 := 0#32
  let arg2 : BitVec 32 := BitVec.ofNat 32 (i 2).val
  let c512_i32 : BitVec 32 := 512#32
  let v11 : BitVec 32 := Scalar.muli arg2 c512_i32
  let c0_i32 : BitVec 32 := 0#32
  let v13 : BitVec 1 := Scalar.cmpi .sgt v11 c0_i32
  let v14 : BitVec 32 := Scalar.extui v13
  let c0_i32_4 : BitVec 32 := 0#32
  let v15 : BitVec 1 := Scalar.cmpi .slt v11 c0_i32_4
  let v16 : BitVec 32 := Scalar.extui v15
  let v17 : BitVec 32 := Scalar.subi v14 v16
  let c1024_i32 : BitVec 32 := 1024#32
  let c0_i32_5 : BitVec 32 := 0#32
  let v18 : BitVec 1 := Scalar.cmpi .sgt c1024_i32 c0_i32_5
  let v19 : BitVec 32 := Scalar.extui v18
  let c0_i32_6 : BitVec 32 := 0#32
  let v20 : BitVec 1 := Scalar.cmpi .slt c1024_i32 c0_i32_6
  let v21 : BitVec 32 := Scalar.extui v20
  let v22 : BitVec 32 := Scalar.subi v19 v21
  let v23 : BitVec 1 := Scalar.cmpi .ne v17 v22
  let v24 : BitVec 32 := Scalar.remsi v11 c1024_i32
  let c0_i32_7 : BitVec 32 := 0#32
  let v25 : BitVec 1 := Scalar.cmpi .ne v24 c0_i32_7
  let v26 : BitVec 1 := Scalar.andi v23 v25
  let v12 : BitVec 32 := Scalar.divsi v11 c1024_i32
  let c1_i32 : BitVec 32 := 1#32
  let v27 : BitVec 32 := Scalar.subi v12 c1_i32
  let v28 : BitVec 32 := Scalar.select v26 v27 v12
  let v40 : BitVec 32 := Scalar.subi v28 c0_i32_18
  let c1_i32_19 : BitVec 32 := 1#32
  let v42 : BitVec 32 := Scalar.divsi v40 c1_i32_19
  let v43 : BitVec 32 := Scalar.muli v42 c1_i32_19
  let v44 : BitVec 32 := Scalar.addi c0_i32_18 v43
  let c1_i32_21 : BitVec 32 := 1#32
  let arg7 : BitVec 32 := Scf.iv v44 c1_i32_21 k0_t2
  let c1024_i32_59 : BitVec 32 := 1024#32
  let v197 : BitVec 32 := Scalar.muli arg7 c1024_i32_59
  v197
def k0_off7 (i : grid0.Coords) (k0_t2 : Fin (k0_t2_loop i).trips) : Fin 2 → Nat :=
  let c0_i32_18 : BitVec 32 := 0#32
  let arg2 : BitVec 32 := BitVec.ofNat 32 (i 2).val
  let c512_i32 : BitVec 32 := 512#32
  let v11 : BitVec 32 := Scalar.muli arg2 c512_i32
  let c0_i32 : BitVec 32 := 0#32
  let v13 : BitVec 1 := Scalar.cmpi .sgt v11 c0_i32
  let v14 : BitVec 32 := Scalar.extui v13
  let c0_i32_4 : BitVec 32 := 0#32
  let v15 : BitVec 1 := Scalar.cmpi .slt v11 c0_i32_4
  let v16 : BitVec 32 := Scalar.extui v15
  let v17 : BitVec 32 := Scalar.subi v14 v16
  let c1024_i32 : BitVec 32 := 1024#32
  let c0_i32_5 : BitVec 32 := 0#32
  let v18 : BitVec 1 := Scalar.cmpi .sgt c1024_i32 c0_i32_5
  let v19 : BitVec 32 := Scalar.extui v18
  let c0_i32_6 : BitVec 32 := 0#32
  let v20 : BitVec 1 := Scalar.cmpi .slt c1024_i32 c0_i32_6
  let v21 : BitVec 32 := Scalar.extui v20
  let v22 : BitVec 32 := Scalar.subi v19 v21
  let v23 : BitVec 1 := Scalar.cmpi .ne v17 v22
  let v24 : BitVec 32 := Scalar.remsi v11 c1024_i32
  let c0_i32_7 : BitVec 32 := 0#32
  let v25 : BitVec 1 := Scalar.cmpi .ne v24 c0_i32_7
  let v26 : BitVec 1 := Scalar.andi v23 v25
  let v12 : BitVec 32 := Scalar.divsi v11 c1024_i32
  let c1_i32 : BitVec 32 := 1#32
  let v27 : BitVec 32 := Scalar.subi v12 c1_i32
  let v28 : BitVec 32 := Scalar.select v26 v27 v12
  let v40 : BitVec 32 := Scalar.subi v28 c0_i32_18
  let c1_i32_19 : BitVec 32 := 1#32
  let v42 : BitVec 32 := Scalar.divsi v40 c1_i32_19
  let v43 : BitVec 32 := Scalar.muli v42 c1_i32_19
  let v44 : BitVec 32 := Scalar.addi c0_i32_18 v43
  let c1_i32_21 : BitVec 32 := 1#32
  let arg7 : BitVec 32 := Scf.iv v44 c1_i32_21 k0_t2
  let c1024_i32_59 : BitVec 32 := 1024#32
  let v197 : BitVec 32 := Scalar.muli arg7 c1024_i32_59
  let v198 : BitVec 32 := v197
  let v199 : Index := Scalar.indexCast v198
  let c0_60 : Index := 0#32
  ![v199.toNat, 0]
def k0_mult8 (i : grid0.Coords) (k0_t2 : Fin (k0_t2_loop i).trips) : BitVec 32 :=
  let c0_i32_18 : BitVec 32 := 0#32
  let arg2 : BitVec 32 := BitVec.ofNat 32 (i 2).val
  let c512_i32 : BitVec 32 := 512#32
  let v11 : BitVec 32 := Scalar.muli arg2 c512_i32
  let c0_i32 : BitVec 32 := 0#32
  let v13 : BitVec 1 := Scalar.cmpi .sgt v11 c0_i32
  let v14 : BitVec 32 := Scalar.extui v13
  let c0_i32_4 : BitVec 32 := 0#32
  let v15 : BitVec 1 := Scalar.cmpi .slt v11 c0_i32_4
  let v16 : BitVec 32 := Scalar.extui v15
  let v17 : BitVec 32 := Scalar.subi v14 v16
  let c1024_i32 : BitVec 32 := 1024#32
  let c0_i32_5 : BitVec 32 := 0#32
  let v18 : BitVec 1 := Scalar.cmpi .sgt c1024_i32 c0_i32_5
  let v19 : BitVec 32 := Scalar.extui v18
  let c0_i32_6 : BitVec 32 := 0#32
  let v20 : BitVec 1 := Scalar.cmpi .slt c1024_i32 c0_i32_6
  let v21 : BitVec 32 := Scalar.extui v20
  let v22 : BitVec 32 := Scalar.subi v19 v21
  let v23 : BitVec 1 := Scalar.cmpi .ne v17 v22
  let v24 : BitVec 32 := Scalar.remsi v11 c1024_i32
  let c0_i32_7 : BitVec 32 := 0#32
  let v25 : BitVec 1 := Scalar.cmpi .ne v24 c0_i32_7
  let v26 : BitVec 1 := Scalar.andi v23 v25
  let v12 : BitVec 32 := Scalar.divsi v11 c1024_i32
  let c1_i32 : BitVec 32 := 1#32
  let v27 : BitVec 32 := Scalar.subi v12 c1_i32
  let v28 : BitVec 32 := Scalar.select v26 v27 v12
  let v40 : BitVec 32 := Scalar.subi v28 c0_i32_18
  let c1_i32_19 : BitVec 32 := 1#32
  let v42 : BitVec 32 := Scalar.divsi v40 c1_i32_19
  let v43 : BitVec 32 := Scalar.muli v42 c1_i32_19
  let v44 : BitVec 32 := Scalar.addi c0_i32_18 v43
  let c1_i32_21 : BitVec 32 := 1#32
  let arg7 : BitVec 32 := Scf.iv v44 c1_i32_21 k0_t2
  let c1024_i32_62 : BitVec 32 := 1024#32
  let v203 : BitVec 32 := Scalar.muli arg7 c1024_i32_62
  v203
def k0_off8 (i : grid0.Coords) (k0_t2 : Fin (k0_t2_loop i).trips) : Fin 2 → Nat :=
  let c0_i32_18 : BitVec 32 := 0#32
  let arg2 : BitVec 32 := BitVec.ofNat 32 (i 2).val
  let c512_i32 : BitVec 32 := 512#32
  let v11 : BitVec 32 := Scalar.muli arg2 c512_i32
  let c0_i32 : BitVec 32 := 0#32
  let v13 : BitVec 1 := Scalar.cmpi .sgt v11 c0_i32
  let v14 : BitVec 32 := Scalar.extui v13
  let c0_i32_4 : BitVec 32 := 0#32
  let v15 : BitVec 1 := Scalar.cmpi .slt v11 c0_i32_4
  let v16 : BitVec 32 := Scalar.extui v15
  let v17 : BitVec 32 := Scalar.subi v14 v16
  let c1024_i32 : BitVec 32 := 1024#32
  let c0_i32_5 : BitVec 32 := 0#32
  let v18 : BitVec 1 := Scalar.cmpi .sgt c1024_i32 c0_i32_5
  let v19 : BitVec 32 := Scalar.extui v18
  let c0_i32_6 : BitVec 32 := 0#32
  let v20 : BitVec 1 := Scalar.cmpi .slt c1024_i32 c0_i32_6
  let v21 : BitVec 32 := Scalar.extui v20
  let v22 : BitVec 32 := Scalar.subi v19 v21
  let v23 : BitVec 1 := Scalar.cmpi .ne v17 v22
  let v24 : BitVec 32 := Scalar.remsi v11 c1024_i32
  let c0_i32_7 : BitVec 32 := 0#32
  let v25 : BitVec 1 := Scalar.cmpi .ne v24 c0_i32_7
  let v26 : BitVec 1 := Scalar.andi v23 v25
  let v12 : BitVec 32 := Scalar.divsi v11 c1024_i32
  let c1_i32 : BitVec 32 := 1#32
  let v27 : BitVec 32 := Scalar.subi v12 c1_i32
  let v28 : BitVec 32 := Scalar.select v26 v27 v12
  let v40 : BitVec 32 := Scalar.subi v28 c0_i32_18
  let c1_i32_19 : BitVec 32 := 1#32
  let v42 : BitVec 32 := Scalar.divsi v40 c1_i32_19
  let v43 : BitVec 32 := Scalar.muli v42 c1_i32_19
  let v44 : BitVec 32 := Scalar.addi c0_i32_18 v43
  let c1_i32_21 : BitVec 32 := 1#32
  let arg7 : BitVec 32 := Scf.iv v44 c1_i32_21 k0_t2
  let c1024_i32_62 : BitVec 32 := 1024#32
  let v203 : BitVec 32 := Scalar.muli arg7 c1024_i32_62
  let v204 : BitVec 32 := v203
  let v205 : Index := Scalar.indexCast v204
  let c128_63 : Index := 128#32
  ![v205.toNat, 128]
def k0_mult9 (i : grid0.Coords) (k0_t2 : Fin (k0_t2_loop i).trips) : BitVec 32 :=
  let c0_i32_18 : BitVec 32 := 0#32
  let arg2 : BitVec 32 := BitVec.ofNat 32 (i 2).val
  let c512_i32 : BitVec 32 := 512#32
  let v11 : BitVec 32 := Scalar.muli arg2 c512_i32
  let c0_i32 : BitVec 32 := 0#32
  let v13 : BitVec 1 := Scalar.cmpi .sgt v11 c0_i32
  let v14 : BitVec 32 := Scalar.extui v13
  let c0_i32_4 : BitVec 32 := 0#32
  let v15 : BitVec 1 := Scalar.cmpi .slt v11 c0_i32_4
  let v16 : BitVec 32 := Scalar.extui v15
  let v17 : BitVec 32 := Scalar.subi v14 v16
  let c1024_i32 : BitVec 32 := 1024#32
  let c0_i32_5 : BitVec 32 := 0#32
  let v18 : BitVec 1 := Scalar.cmpi .sgt c1024_i32 c0_i32_5
  let v19 : BitVec 32 := Scalar.extui v18
  let c0_i32_6 : BitVec 32 := 0#32
  let v20 : BitVec 1 := Scalar.cmpi .slt c1024_i32 c0_i32_6
  let v21 : BitVec 32 := Scalar.extui v20
  let v22 : BitVec 32 := Scalar.subi v19 v21
  let v23 : BitVec 1 := Scalar.cmpi .ne v17 v22
  let v24 : BitVec 32 := Scalar.remsi v11 c1024_i32
  let c0_i32_7 : BitVec 32 := 0#32
  let v25 : BitVec 1 := Scalar.cmpi .ne v24 c0_i32_7
  let v26 : BitVec 1 := Scalar.andi v23 v25
  let v12 : BitVec 32 := Scalar.divsi v11 c1024_i32
  let c1_i32 : BitVec 32 := 1#32
  let v27 : BitVec 32 := Scalar.subi v12 c1_i32
  let v28 : BitVec 32 := Scalar.select v26 v27 v12
  let v40 : BitVec 32 := Scalar.subi v28 c0_i32_18
  let c1_i32_19 : BitVec 32 := 1#32
  let v42 : BitVec 32 := Scalar.divsi v40 c1_i32_19
  let v43 : BitVec 32 := Scalar.muli v42 c1_i32_19
  let v44 : BitVec 32 := Scalar.addi c0_i32_18 v43
  let c1_i32_21 : BitVec 32 := 1#32
  let arg7 : BitVec 32 := Scf.iv v44 c1_i32_21 k0_t2
  let c1024_i32_65 : BitVec 32 := 1024#32
  let v209 : BitVec 32 := Scalar.muli arg7 c1024_i32_65
  v209
def k0_off9 (i : grid0.Coords) (k0_t2 : Fin (k0_t2_loop i).trips) : Fin 2 → Nat :=
  let c0_i32_18 : BitVec 32 := 0#32
  let arg2 : BitVec 32 := BitVec.ofNat 32 (i 2).val
  let c512_i32 : BitVec 32 := 512#32
  let v11 : BitVec 32 := Scalar.muli arg2 c512_i32
  let c0_i32 : BitVec 32 := 0#32
  let v13 : BitVec 1 := Scalar.cmpi .sgt v11 c0_i32
  let v14 : BitVec 32 := Scalar.extui v13
  let c0_i32_4 : BitVec 32 := 0#32
  let v15 : BitVec 1 := Scalar.cmpi .slt v11 c0_i32_4
  let v16 : BitVec 32 := Scalar.extui v15
  let v17 : BitVec 32 := Scalar.subi v14 v16
  let c1024_i32 : BitVec 32 := 1024#32
  let c0_i32_5 : BitVec 32 := 0#32
  let v18 : BitVec 1 := Scalar.cmpi .sgt c1024_i32 c0_i32_5
  let v19 : BitVec 32 := Scalar.extui v18
  let c0_i32_6 : BitVec 32 := 0#32
  let v20 : BitVec 1 := Scalar.cmpi .slt c1024_i32 c0_i32_6
  let v21 : BitVec 32 := Scalar.extui v20
  let v22 : BitVec 32 := Scalar.subi v19 v21
  let v23 : BitVec 1 := Scalar.cmpi .ne v17 v22
  let v24 : BitVec 32 := Scalar.remsi v11 c1024_i32
  let c0_i32_7 : BitVec 32 := 0#32
  let v25 : BitVec 1 := Scalar.cmpi .ne v24 c0_i32_7
  let v26 : BitVec 1 := Scalar.andi v23 v25
  let v12 : BitVec 32 := Scalar.divsi v11 c1024_i32
  let c1_i32 : BitVec 32 := 1#32
  let v27 : BitVec 32 := Scalar.subi v12 c1_i32
  let v28 : BitVec 32 := Scalar.select v26 v27 v12
  let v40 : BitVec 32 := Scalar.subi v28 c0_i32_18
  let c1_i32_19 : BitVec 32 := 1#32
  let v42 : BitVec 32 := Scalar.divsi v40 c1_i32_19
  let v43 : BitVec 32 := Scalar.muli v42 c1_i32_19
  let v44 : BitVec 32 := Scalar.addi c0_i32_18 v43
  let c1_i32_21 : BitVec 32 := 1#32
  let arg7 : BitVec 32 := Scf.iv v44 c1_i32_21 k0_t2
  let c1024_i32_65 : BitVec 32 := 1024#32
  let v209 : BitVec 32 := Scalar.muli arg7 c1024_i32_65
  let v210 : BitVec 32 := v209
  let v211 : Index := Scalar.indexCast v210
  let c256_66 : Index := 256#32
  ![v211.toNat, 256]
def k0_mult10 (i : grid0.Coords) (k0_t2 : Fin (k0_t2_loop i).trips) : BitVec 32 :=
  let c0_i32_18 : BitVec 32 := 0#32
  let arg2 : BitVec 32 := BitVec.ofNat 32 (i 2).val
  let c512_i32 : BitVec 32 := 512#32
  let v11 : BitVec 32 := Scalar.muli arg2 c512_i32
  let c0_i32 : BitVec 32 := 0#32
  let v13 : BitVec 1 := Scalar.cmpi .sgt v11 c0_i32
  let v14 : BitVec 32 := Scalar.extui v13
  let c0_i32_4 : BitVec 32 := 0#32
  let v15 : BitVec 1 := Scalar.cmpi .slt v11 c0_i32_4
  let v16 : BitVec 32 := Scalar.extui v15
  let v17 : BitVec 32 := Scalar.subi v14 v16
  let c1024_i32 : BitVec 32 := 1024#32
  let c0_i32_5 : BitVec 32 := 0#32
  let v18 : BitVec 1 := Scalar.cmpi .sgt c1024_i32 c0_i32_5
  let v19 : BitVec 32 := Scalar.extui v18
  let c0_i32_6 : BitVec 32 := 0#32
  let v20 : BitVec 1 := Scalar.cmpi .slt c1024_i32 c0_i32_6
  let v21 : BitVec 32 := Scalar.extui v20
  let v22 : BitVec 32 := Scalar.subi v19 v21
  let v23 : BitVec 1 := Scalar.cmpi .ne v17 v22
  let v24 : BitVec 32 := Scalar.remsi v11 c1024_i32
  let c0_i32_7 : BitVec 32 := 0#32
  let v25 : BitVec 1 := Scalar.cmpi .ne v24 c0_i32_7
  let v26 : BitVec 1 := Scalar.andi v23 v25
  let v12 : BitVec 32 := Scalar.divsi v11 c1024_i32
  let c1_i32 : BitVec 32 := 1#32
  let v27 : BitVec 32 := Scalar.subi v12 c1_i32
  let v28 : BitVec 32 := Scalar.select v26 v27 v12
  let v40 : BitVec 32 := Scalar.subi v28 c0_i32_18
  let c1_i32_19 : BitVec 32 := 1#32
  let v42 : BitVec 32 := Scalar.divsi v40 c1_i32_19
  let v43 : BitVec 32 := Scalar.muli v42 c1_i32_19
  let v44 : BitVec 32 := Scalar.addi c0_i32_18 v43
  let c1_i32_21 : BitVec 32 := 1#32
  let arg7 : BitVec 32 := Scf.iv v44 c1_i32_21 k0_t2
  let c1024_i32_68 : BitVec 32 := 1024#32
  let v215 : BitVec 32 := Scalar.muli arg7 c1024_i32_68
  v215
def k0_off10 (i : grid0.Coords) (k0_t2 : Fin (k0_t2_loop i).trips) : Fin 2 → Nat :=
  let c0_i32_18 : BitVec 32 := 0#32
  let arg2 : BitVec 32 := BitVec.ofNat 32 (i 2).val
  let c512_i32 : BitVec 32 := 512#32
  let v11 : BitVec 32 := Scalar.muli arg2 c512_i32
  let c0_i32 : BitVec 32 := 0#32
  let v13 : BitVec 1 := Scalar.cmpi .sgt v11 c0_i32
  let v14 : BitVec 32 := Scalar.extui v13
  let c0_i32_4 : BitVec 32 := 0#32
  let v15 : BitVec 1 := Scalar.cmpi .slt v11 c0_i32_4
  let v16 : BitVec 32 := Scalar.extui v15
  let v17 : BitVec 32 := Scalar.subi v14 v16
  let c1024_i32 : BitVec 32 := 1024#32
  let c0_i32_5 : BitVec 32 := 0#32
  let v18 : BitVec 1 := Scalar.cmpi .sgt c1024_i32 c0_i32_5
  let v19 : BitVec 32 := Scalar.extui v18
  let c0_i32_6 : BitVec 32 := 0#32
  let v20 : BitVec 1 := Scalar.cmpi .slt c1024_i32 c0_i32_6
  let v21 : BitVec 32 := Scalar.extui v20
  let v22 : BitVec 32 := Scalar.subi v19 v21
  let v23 : BitVec 1 := Scalar.cmpi .ne v17 v22
  let v24 : BitVec 32 := Scalar.remsi v11 c1024_i32
  let c0_i32_7 : BitVec 32 := 0#32
  let v25 : BitVec 1 := Scalar.cmpi .ne v24 c0_i32_7
  let v26 : BitVec 1 := Scalar.andi v23 v25
  let v12 : BitVec 32 := Scalar.divsi v11 c1024_i32
  let c1_i32 : BitVec 32 := 1#32
  let v27 : BitVec 32 := Scalar.subi v12 c1_i32
  let v28 : BitVec 32 := Scalar.select v26 v27 v12
  let v40 : BitVec 32 := Scalar.subi v28 c0_i32_18
  let c1_i32_19 : BitVec 32 := 1#32
  let v42 : BitVec 32 := Scalar.divsi v40 c1_i32_19
  let v43 : BitVec 32 := Scalar.muli v42 c1_i32_19
  let v44 : BitVec 32 := Scalar.addi c0_i32_18 v43
  let c1_i32_21 : BitVec 32 := 1#32
  let arg7 : BitVec 32 := Scf.iv v44 c1_i32_21 k0_t2
  let c1024_i32_68 : BitVec 32 := 1024#32
  let v215 : BitVec 32 := Scalar.muli arg7 c1024_i32_68
  let v216 : BitVec 32 := v215
  let v217 : Index := Scalar.indexCast v216
  let c384_69 : Index := 384#32
  ![v217.toNat, 384]
def k0_mult11 (i : grid0.Coords) (k0_t2 : Fin (k0_t2_loop i).trips) : BitVec 32 :=
  let c0_i32_18 : BitVec 32 := 0#32
  let arg2 : BitVec 32 := BitVec.ofNat 32 (i 2).val
  let c512_i32 : BitVec 32 := 512#32
  let v11 : BitVec 32 := Scalar.muli arg2 c512_i32
  let c0_i32 : BitVec 32 := 0#32
  let v13 : BitVec 1 := Scalar.cmpi .sgt v11 c0_i32
  let v14 : BitVec 32 := Scalar.extui v13
  let c0_i32_4 : BitVec 32 := 0#32
  let v15 : BitVec 1 := Scalar.cmpi .slt v11 c0_i32_4
  let v16 : BitVec 32 := Scalar.extui v15
  let v17 : BitVec 32 := Scalar.subi v14 v16
  let c1024_i32 : BitVec 32 := 1024#32
  let c0_i32_5 : BitVec 32 := 0#32
  let v18 : BitVec 1 := Scalar.cmpi .sgt c1024_i32 c0_i32_5
  let v19 : BitVec 32 := Scalar.extui v18
  let c0_i32_6 : BitVec 32 := 0#32
  let v20 : BitVec 1 := Scalar.cmpi .slt c1024_i32 c0_i32_6
  let v21 : BitVec 32 := Scalar.extui v20
  let v22 : BitVec 32 := Scalar.subi v19 v21
  let v23 : BitVec 1 := Scalar.cmpi .ne v17 v22
  let v24 : BitVec 32 := Scalar.remsi v11 c1024_i32
  let c0_i32_7 : BitVec 32 := 0#32
  let v25 : BitVec 1 := Scalar.cmpi .ne v24 c0_i32_7
  let v26 : BitVec 1 := Scalar.andi v23 v25
  let v12 : BitVec 32 := Scalar.divsi v11 c1024_i32
  let c1_i32 : BitVec 32 := 1#32
  let v27 : BitVec 32 := Scalar.subi v12 c1_i32
  let v28 : BitVec 32 := Scalar.select v26 v27 v12
  let v40 : BitVec 32 := Scalar.subi v28 c0_i32_18
  let c1_i32_19 : BitVec 32 := 1#32
  let v42 : BitVec 32 := Scalar.divsi v40 c1_i32_19
  let v43 : BitVec 32 := Scalar.muli v42 c1_i32_19
  let v44 : BitVec 32 := Scalar.addi c0_i32_18 v43
  let c1_i32_21 : BitVec 32 := 1#32
  let arg7 : BitVec 32 := Scf.iv v44 c1_i32_21 k0_t2
  let c1024_i32_71 : BitVec 32 := 1024#32
  let v221 : BitVec 32 := Scalar.muli arg7 c1024_i32_71
  v221
def k0_off11 (i : grid0.Coords) (k0_t2 : Fin (k0_t2_loop i).trips) : Fin 2 → Nat :=
  let c0_i32_18 : BitVec 32 := 0#32
  let arg2 : BitVec 32 := BitVec.ofNat 32 (i 2).val
  let c512_i32 : BitVec 32 := 512#32
  let v11 : BitVec 32 := Scalar.muli arg2 c512_i32
  let c0_i32 : BitVec 32 := 0#32
  let v13 : BitVec 1 := Scalar.cmpi .sgt v11 c0_i32
  let v14 : BitVec 32 := Scalar.extui v13
  let c0_i32_4 : BitVec 32 := 0#32
  let v15 : BitVec 1 := Scalar.cmpi .slt v11 c0_i32_4
  let v16 : BitVec 32 := Scalar.extui v15
  let v17 : BitVec 32 := Scalar.subi v14 v16
  let c1024_i32 : BitVec 32 := 1024#32
  let c0_i32_5 : BitVec 32 := 0#32
  let v18 : BitVec 1 := Scalar.cmpi .sgt c1024_i32 c0_i32_5
  let v19 : BitVec 32 := Scalar.extui v18
  let c0_i32_6 : BitVec 32 := 0#32
  let v20 : BitVec 1 := Scalar.cmpi .slt c1024_i32 c0_i32_6
  let v21 : BitVec 32 := Scalar.extui v20
  let v22 : BitVec 32 := Scalar.subi v19 v21
  let v23 : BitVec 1 := Scalar.cmpi .ne v17 v22
  let v24 : BitVec 32 := Scalar.remsi v11 c1024_i32
  let c0_i32_7 : BitVec 32 := 0#32
  let v25 : BitVec 1 := Scalar.cmpi .ne v24 c0_i32_7
  let v26 : BitVec 1 := Scalar.andi v23 v25
  let v12 : BitVec 32 := Scalar.divsi v11 c1024_i32
  let c1_i32 : BitVec 32 := 1#32
  let v27 : BitVec 32 := Scalar.subi v12 c1_i32
  let v28 : BitVec 32 := Scalar.select v26 v27 v12
  let v40 : BitVec 32 := Scalar.subi v28 c0_i32_18
  let c1_i32_19 : BitVec 32 := 1#32
  let v42 : BitVec 32 := Scalar.divsi v40 c1_i32_19
  let v43 : BitVec 32 := Scalar.muli v42 c1_i32_19
  let v44 : BitVec 32 := Scalar.addi c0_i32_18 v43
  let c1_i32_21 : BitVec 32 := 1#32
  let arg7 : BitVec 32 := Scf.iv v44 c1_i32_21 k0_t2
  let c1024_i32_71 : BitVec 32 := 1024#32
  let v221 : BitVec 32 := Scalar.muli arg7 c1024_i32_71
  let v222 : BitVec 32 := v221
  let v223 : Index := Scalar.indexCast v222
  let c0_72 : Index := 0#32
  ![v223.toNat, 0]
def k0_mult12 (i : grid0.Coords) (k0_t2 : Fin (k0_t2_loop i).trips) : BitVec 32 :=
  let c0_i32_18 : BitVec 32 := 0#32
  let arg2 : BitVec 32 := BitVec.ofNat 32 (i 2).val
  let c512_i32 : BitVec 32 := 512#32
  let v11 : BitVec 32 := Scalar.muli arg2 c512_i32
  let c0_i32 : BitVec 32 := 0#32
  let v13 : BitVec 1 := Scalar.cmpi .sgt v11 c0_i32
  let v14 : BitVec 32 := Scalar.extui v13
  let c0_i32_4 : BitVec 32 := 0#32
  let v15 : BitVec 1 := Scalar.cmpi .slt v11 c0_i32_4
  let v16 : BitVec 32 := Scalar.extui v15
  let v17 : BitVec 32 := Scalar.subi v14 v16
  let c1024_i32 : BitVec 32 := 1024#32
  let c0_i32_5 : BitVec 32 := 0#32
  let v18 : BitVec 1 := Scalar.cmpi .sgt c1024_i32 c0_i32_5
  let v19 : BitVec 32 := Scalar.extui v18
  let c0_i32_6 : BitVec 32 := 0#32
  let v20 : BitVec 1 := Scalar.cmpi .slt c1024_i32 c0_i32_6
  let v21 : BitVec 32 := Scalar.extui v20
  let v22 : BitVec 32 := Scalar.subi v19 v21
  let v23 : BitVec 1 := Scalar.cmpi .ne v17 v22
  let v24 : BitVec 32 := Scalar.remsi v11 c1024_i32
  let c0_i32_7 : BitVec 32 := 0#32
  let v25 : BitVec 1 := Scalar.cmpi .ne v24 c0_i32_7
  let v26 : BitVec 1 := Scalar.andi v23 v25
  let v12 : BitVec 32 := Scalar.divsi v11 c1024_i32
  let c1_i32 : BitVec 32 := 1#32
  let v27 : BitVec 32 := Scalar.subi v12 c1_i32
  let v28 : BitVec 32 := Scalar.select v26 v27 v12
  let v40 : BitVec 32 := Scalar.subi v28 c0_i32_18
  let c1_i32_19 : BitVec 32 := 1#32
  let v42 : BitVec 32 := Scalar.divsi v40 c1_i32_19
  let v43 : BitVec 32 := Scalar.muli v42 c1_i32_19
  let v44 : BitVec 32 := Scalar.addi c0_i32_18 v43
  let c1_i32_21 : BitVec 32 := 1#32
  let arg7 : BitVec 32 := Scf.iv v44 c1_i32_21 k0_t2
  let c1024_i32_73 : BitVec 32 := 1024#32
  let v226 : BitVec 32 := Scalar.muli arg7 c1024_i32_73
  v226
def k0_off12 (i : grid0.Coords) (k0_t2 : Fin (k0_t2_loop i).trips) : Fin 2 → Nat :=
  let c0_i32_18 : BitVec 32 := 0#32
  let arg2 : BitVec 32 := BitVec.ofNat 32 (i 2).val
  let c512_i32 : BitVec 32 := 512#32
  let v11 : BitVec 32 := Scalar.muli arg2 c512_i32
  let c0_i32 : BitVec 32 := 0#32
  let v13 : BitVec 1 := Scalar.cmpi .sgt v11 c0_i32
  let v14 : BitVec 32 := Scalar.extui v13
  let c0_i32_4 : BitVec 32 := 0#32
  let v15 : BitVec 1 := Scalar.cmpi .slt v11 c0_i32_4
  let v16 : BitVec 32 := Scalar.extui v15
  let v17 : BitVec 32 := Scalar.subi v14 v16
  let c1024_i32 : BitVec 32 := 1024#32
  let c0_i32_5 : BitVec 32 := 0#32
  let v18 : BitVec 1 := Scalar.cmpi .sgt c1024_i32 c0_i32_5
  let v19 : BitVec 32 := Scalar.extui v18
  let c0_i32_6 : BitVec 32 := 0#32
  let v20 : BitVec 1 := Scalar.cmpi .slt c1024_i32 c0_i32_6
  let v21 : BitVec 32 := Scalar.extui v20
  let v22 : BitVec 32 := Scalar.subi v19 v21
  let v23 : BitVec 1 := Scalar.cmpi .ne v17 v22
  let v24 : BitVec 32 := Scalar.remsi v11 c1024_i32
  let c0_i32_7 : BitVec 32 := 0#32
  let v25 : BitVec 1 := Scalar.cmpi .ne v24 c0_i32_7
  let v26 : BitVec 1 := Scalar.andi v23 v25
  let v12 : BitVec 32 := Scalar.divsi v11 c1024_i32
  let c1_i32 : BitVec 32 := 1#32
  let v27 : BitVec 32 := Scalar.subi v12 c1_i32
  let v28 : BitVec 32 := Scalar.select v26 v27 v12
  let v40 : BitVec 32 := Scalar.subi v28 c0_i32_18
  let c1_i32_19 : BitVec 32 := 1#32
  let v42 : BitVec 32 := Scalar.divsi v40 c1_i32_19
  let v43 : BitVec 32 := Scalar.muli v42 c1_i32_19
  let v44 : BitVec 32 := Scalar.addi c0_i32_18 v43
  let c1_i32_21 : BitVec 32 := 1#32
  let arg7 : BitVec 32 := Scf.iv v44 c1_i32_21 k0_t2
  let c1024_i32_73 : BitVec 32 := 1024#32
  let v226 : BitVec 32 := Scalar.muli arg7 c1024_i32_73
  let v227 : BitVec 32 := v226
  let v228 : Index := Scalar.indexCast v227
  let c128_74 : Index := 128#32
  ![v228.toNat, 128]
def k0_mult13 (i : grid0.Coords) : BitVec 32 :=
  let arg2 : BitVec 32 := BitVec.ofNat 32 (i 2).val
  let c512_i32 : BitVec 32 := 512#32
  let v11 : BitVec 32 := Scalar.muli arg2 c512_i32
  let c0_i32 : BitVec 32 := 0#32
  let v13 : BitVec 1 := Scalar.cmpi .sgt v11 c0_i32
  let v14 : BitVec 32 := Scalar.extui v13
  let c0_i32_4 : BitVec 32 := 0#32
  let v15 : BitVec 1 := Scalar.cmpi .slt v11 c0_i32_4
  let v16 : BitVec 32 := Scalar.extui v15
  let v17 : BitVec 32 := Scalar.subi v14 v16
  let c1024_i32 : BitVec 32 := 1024#32
  let c0_i32_5 : BitVec 32 := 0#32
  let v18 : BitVec 1 := Scalar.cmpi .sgt c1024_i32 c0_i32_5
  let v19 : BitVec 32 := Scalar.extui v18
  let c0_i32_6 : BitVec 32 := 0#32
  let v20 : BitVec 1 := Scalar.cmpi .slt c1024_i32 c0_i32_6
  let v21 : BitVec 32 := Scalar.extui v20
  let v22 : BitVec 32 := Scalar.subi v19 v21
  let v23 : BitVec 1 := Scalar.cmpi .ne v17 v22
  let v24 : BitVec 32 := Scalar.remsi v11 c1024_i32
  let c0_i32_7 : BitVec 32 := 0#32
  let v25 : BitVec 1 := Scalar.cmpi .ne v24 c0_i32_7
  let v26 : BitVec 1 := Scalar.andi v23 v25
  let v12 : BitVec 32 := Scalar.divsi v11 c1024_i32
  let c1_i32 : BitVec 32 := 1#32
  let v27 : BitVec 32 := Scalar.subi v12 c1_i32
  let v28 : BitVec 32 := Scalar.select v26 v27 v12
  let c1024_i32_23 : BitVec 32 := 1024#32
  let v55 : BitVec 32 := Scalar.muli v28 c1024_i32_23
  v55
def k0_off13 (i : grid0.Coords) : Fin 2 → Nat :=
  let arg2 : BitVec 32 := BitVec.ofNat 32 (i 2).val
  let c512_i32 : BitVec 32 := 512#32
  let v11 : BitVec 32 := Scalar.muli arg2 c512_i32
  let c0_i32 : BitVec 32 := 0#32
  let v13 : BitVec 1 := Scalar.cmpi .sgt v11 c0_i32
  let v14 : BitVec 32 := Scalar.extui v13
  let c0_i32_4 : BitVec 32 := 0#32
  let v15 : BitVec 1 := Scalar.cmpi .slt v11 c0_i32_4
  let v16 : BitVec 32 := Scalar.extui v15
  let v17 : BitVec 32 := Scalar.subi v14 v16
  let c1024_i32 : BitVec 32 := 1024#32
  let c0_i32_5 : BitVec 32 := 0#32
  let v18 : BitVec 1 := Scalar.cmpi .sgt c1024_i32 c0_i32_5
  let v19 : BitVec 32 := Scalar.extui v18
  let c0_i32_6 : BitVec 32 := 0#32
  let v20 : BitVec 1 := Scalar.cmpi .slt c1024_i32 c0_i32_6
  let v21 : BitVec 32 := Scalar.extui v20
  let v22 : BitVec 32 := Scalar.subi v19 v21
  let v23 : BitVec 1 := Scalar.cmpi .ne v17 v22
  let v24 : BitVec 32 := Scalar.remsi v11 c1024_i32
  let c0_i32_7 : BitVec 32 := 0#32
  let v25 : BitVec 1 := Scalar.cmpi .ne v24 c0_i32_7
  let v26 : BitVec 1 := Scalar.andi v23 v25
  let v12 : BitVec 32 := Scalar.divsi v11 c1024_i32
  let c1_i32 : BitVec 32 := 1#32
  let v27 : BitVec 32 := Scalar.subi v12 c1_i32
  let v28 : BitVec 32 := Scalar.select v26 v27 v12
  let c1024_i32_23 : BitVec 32 := 1024#32
  let v55 : BitVec 32 := Scalar.muli v28 c1024_i32_23
  let v56 : BitVec 32 := v55
  let v57 : Index := Scalar.indexCast v56
  let c0_24 : Index := 0#32
  ![v57.toNat, 0]
def k0_mult14 (i : grid0.Coords) : BitVec 32 :=
  let arg2 : BitVec 32 := BitVec.ofNat 32 (i 2).val
  let c512_i32 : BitVec 32 := 512#32
  let v11 : BitVec 32 := Scalar.muli arg2 c512_i32
  let c0_i32 : BitVec 32 := 0#32
  let v13 : BitVec 1 := Scalar.cmpi .sgt v11 c0_i32
  let v14 : BitVec 32 := Scalar.extui v13
  let c0_i32_4 : BitVec 32 := 0#32
  let v15 : BitVec 1 := Scalar.cmpi .slt v11 c0_i32_4
  let v16 : BitVec 32 := Scalar.extui v15
  let v17 : BitVec 32 := Scalar.subi v14 v16
  let c1024_i32 : BitVec 32 := 1024#32
  let c0_i32_5 : BitVec 32 := 0#32
  let v18 : BitVec 1 := Scalar.cmpi .sgt c1024_i32 c0_i32_5
  let v19 : BitVec 32 := Scalar.extui v18
  let c0_i32_6 : BitVec 32 := 0#32
  let v20 : BitVec 1 := Scalar.cmpi .slt c1024_i32 c0_i32_6
  let v21 : BitVec 32 := Scalar.extui v20
  let v22 : BitVec 32 := Scalar.subi v19 v21
  let v23 : BitVec 1 := Scalar.cmpi .ne v17 v22
  let v24 : BitVec 32 := Scalar.remsi v11 c1024_i32
  let c0_i32_7 : BitVec 32 := 0#32
  let v25 : BitVec 1 := Scalar.cmpi .ne v24 c0_i32_7
  let v26 : BitVec 1 := Scalar.andi v23 v25
  let v12 : BitVec 32 := Scalar.divsi v11 c1024_i32
  let c1_i32 : BitVec 32 := 1#32
  let v27 : BitVec 32 := Scalar.subi v12 c1_i32
  let v28 : BitVec 32 := Scalar.select v26 v27 v12
  let c1024_i32_26 : BitVec 32 := 1024#32
  let v61 : BitVec 32 := Scalar.muli v28 c1024_i32_26
  v61
def k0_off14 (i : grid0.Coords) : Fin 2 → Nat :=
  let arg2 : BitVec 32 := BitVec.ofNat 32 (i 2).val
  let c512_i32 : BitVec 32 := 512#32
  let v11 : BitVec 32 := Scalar.muli arg2 c512_i32
  let c0_i32 : BitVec 32 := 0#32
  let v13 : BitVec 1 := Scalar.cmpi .sgt v11 c0_i32
  let v14 : BitVec 32 := Scalar.extui v13
  let c0_i32_4 : BitVec 32 := 0#32
  let v15 : BitVec 1 := Scalar.cmpi .slt v11 c0_i32_4
  let v16 : BitVec 32 := Scalar.extui v15
  let v17 : BitVec 32 := Scalar.subi v14 v16
  let c1024_i32 : BitVec 32 := 1024#32
  let c0_i32_5 : BitVec 32 := 0#32
  let v18 : BitVec 1 := Scalar.cmpi .sgt c1024_i32 c0_i32_5
  let v19 : BitVec 32 := Scalar.extui v18
  let c0_i32_6 : BitVec 32 := 0#32
  let v20 : BitVec 1 := Scalar.cmpi .slt c1024_i32 c0_i32_6
  let v21 : BitVec 32 := Scalar.extui v20
  let v22 : BitVec 32 := Scalar.subi v19 v21
  let v23 : BitVec 1 := Scalar.cmpi .ne v17 v22
  let v24 : BitVec 32 := Scalar.remsi v11 c1024_i32
  let c0_i32_7 : BitVec 32 := 0#32
  let v25 : BitVec 1 := Scalar.cmpi .ne v24 c0_i32_7
  let v26 : BitVec 1 := Scalar.andi v23 v25
  let v12 : BitVec 32 := Scalar.divsi v11 c1024_i32
  let c1_i32 : BitVec 32 := 1#32
  let v27 : BitVec 32 := Scalar.subi v12 c1_i32
  let v28 : BitVec 32 := Scalar.select v26 v27 v12
  let c1024_i32_26 : BitVec 32 := 1024#32
  let v61 : BitVec 32 := Scalar.muli v28 c1024_i32_26
  let v62 : BitVec 32 := v61
  let v63 : Index := Scalar.indexCast v62
  let c128_27 : Index := 128#32
  ![v63.toNat, 128]
def k0_mult15 (i : grid0.Coords) : BitVec 32 :=
  let arg2 : BitVec 32 := BitVec.ofNat 32 (i 2).val
  let c512_i32 : BitVec 32 := 512#32
  let v11 : BitVec 32 := Scalar.muli arg2 c512_i32
  let c0_i32 : BitVec 32 := 0#32
  let v13 : BitVec 1 := Scalar.cmpi .sgt v11 c0_i32
  let v14 : BitVec 32 := Scalar.extui v13
  let c0_i32_4 : BitVec 32 := 0#32
  let v15 : BitVec 1 := Scalar.cmpi .slt v11 c0_i32_4
  let v16 : BitVec 32 := Scalar.extui v15
  let v17 : BitVec 32 := Scalar.subi v14 v16
  let c1024_i32 : BitVec 32 := 1024#32
  let c0_i32_5 : BitVec 32 := 0#32
  let v18 : BitVec 1 := Scalar.cmpi .sgt c1024_i32 c0_i32_5
  let v19 : BitVec 32 := Scalar.extui v18
  let c0_i32_6 : BitVec 32 := 0#32
  let v20 : BitVec 1 := Scalar.cmpi .slt c1024_i32 c0_i32_6
  let v21 : BitVec 32 := Scalar.extui v20
  let v22 : BitVec 32 := Scalar.subi v19 v21
  let v23 : BitVec 1 := Scalar.cmpi .ne v17 v22
  let v24 : BitVec 32 := Scalar.remsi v11 c1024_i32
  let c0_i32_7 : BitVec 32 := 0#32
  let v25 : BitVec 1 := Scalar.cmpi .ne v24 c0_i32_7
  let v26 : BitVec 1 := Scalar.andi v23 v25
  let v12 : BitVec 32 := Scalar.divsi v11 c1024_i32
  let c1_i32 : BitVec 32 := 1#32
  let v27 : BitVec 32 := Scalar.subi v12 c1_i32
  let v28 : BitVec 32 := Scalar.select v26 v27 v12
  let c1024_i32_29 : BitVec 32 := 1024#32
  let v67 : BitVec 32 := Scalar.muli v28 c1024_i32_29
  v67
def k0_off15 (i : grid0.Coords) : Fin 2 → Nat :=
  let arg2 : BitVec 32 := BitVec.ofNat 32 (i 2).val
  let c512_i32 : BitVec 32 := 512#32
  let v11 : BitVec 32 := Scalar.muli arg2 c512_i32
  let c0_i32 : BitVec 32 := 0#32
  let v13 : BitVec 1 := Scalar.cmpi .sgt v11 c0_i32
  let v14 : BitVec 32 := Scalar.extui v13
  let c0_i32_4 : BitVec 32 := 0#32
  let v15 : BitVec 1 := Scalar.cmpi .slt v11 c0_i32_4
  let v16 : BitVec 32 := Scalar.extui v15
  let v17 : BitVec 32 := Scalar.subi v14 v16
  let c1024_i32 : BitVec 32 := 1024#32
  let c0_i32_5 : BitVec 32 := 0#32
  let v18 : BitVec 1 := Scalar.cmpi .sgt c1024_i32 c0_i32_5
  let v19 : BitVec 32 := Scalar.extui v18
  let c0_i32_6 : BitVec 32 := 0#32
  let v20 : BitVec 1 := Scalar.cmpi .slt c1024_i32 c0_i32_6
  let v21 : BitVec 32 := Scalar.extui v20
  let v22 : BitVec 32 := Scalar.subi v19 v21
  let v23 : BitVec 1 := Scalar.cmpi .ne v17 v22
  let v24 : BitVec 32 := Scalar.remsi v11 c1024_i32
  let c0_i32_7 : BitVec 32 := 0#32
  let v25 : BitVec 1 := Scalar.cmpi .ne v24 c0_i32_7
  let v26 : BitVec 1 := Scalar.andi v23 v25
  let v12 : BitVec 32 := Scalar.divsi v11 c1024_i32
  let c1_i32 : BitVec 32 := 1#32
  let v27 : BitVec 32 := Scalar.subi v12 c1_i32
  let v28 : BitVec 32 := Scalar.select v26 v27 v12
  let c1024_i32_29 : BitVec 32 := 1024#32
  let v67 : BitVec 32 := Scalar.muli v28 c1024_i32_29
  let v68 : BitVec 32 := v67
  let v69 : Index := Scalar.indexCast v68
  let c256_30 : Index := 256#32
  ![v69.toNat, 256]
def k0_mult16 (i : grid0.Coords) : BitVec 32 :=
  let arg2 : BitVec 32 := BitVec.ofNat 32 (i 2).val
  let c512_i32 : BitVec 32 := 512#32
  let v11 : BitVec 32 := Scalar.muli arg2 c512_i32
  let c0_i32 : BitVec 32 := 0#32
  let v13 : BitVec 1 := Scalar.cmpi .sgt v11 c0_i32
  let v14 : BitVec 32 := Scalar.extui v13
  let c0_i32_4 : BitVec 32 := 0#32
  let v15 : BitVec 1 := Scalar.cmpi .slt v11 c0_i32_4
  let v16 : BitVec 32 := Scalar.extui v15
  let v17 : BitVec 32 := Scalar.subi v14 v16
  let c1024_i32 : BitVec 32 := 1024#32
  let c0_i32_5 : BitVec 32 := 0#32
  let v18 : BitVec 1 := Scalar.cmpi .sgt c1024_i32 c0_i32_5
  let v19 : BitVec 32 := Scalar.extui v18
  let c0_i32_6 : BitVec 32 := 0#32
  let v20 : BitVec 1 := Scalar.cmpi .slt c1024_i32 c0_i32_6
  let v21 : BitVec 32 := Scalar.extui v20
  let v22 : BitVec 32 := Scalar.subi v19 v21
  let v23 : BitVec 1 := Scalar.cmpi .ne v17 v22
  let v24 : BitVec 32 := Scalar.remsi v11 c1024_i32
  let c0_i32_7 : BitVec 32 := 0#32
  let v25 : BitVec 1 := Scalar.cmpi .ne v24 c0_i32_7
  let v26 : BitVec 1 := Scalar.andi v23 v25
  let v12 : BitVec 32 := Scalar.divsi v11 c1024_i32
  let c1_i32 : BitVec 32 := 1#32
  let v27 : BitVec 32 := Scalar.subi v12 c1_i32
  let v28 : BitVec 32 := Scalar.select v26 v27 v12
  let c1024_i32_32 : BitVec 32 := 1024#32
  let v73 : BitVec 32 := Scalar.muli v28 c1024_i32_32
  v73
def k0_off16 (i : grid0.Coords) : Fin 2 → Nat :=
  let arg2 : BitVec 32 := BitVec.ofNat 32 (i 2).val
  let c512_i32 : BitVec 32 := 512#32
  let v11 : BitVec 32 := Scalar.muli arg2 c512_i32
  let c0_i32 : BitVec 32 := 0#32
  let v13 : BitVec 1 := Scalar.cmpi .sgt v11 c0_i32
  let v14 : BitVec 32 := Scalar.extui v13
  let c0_i32_4 : BitVec 32 := 0#32
  let v15 : BitVec 1 := Scalar.cmpi .slt v11 c0_i32_4
  let v16 : BitVec 32 := Scalar.extui v15
  let v17 : BitVec 32 := Scalar.subi v14 v16
  let c1024_i32 : BitVec 32 := 1024#32
  let c0_i32_5 : BitVec 32 := 0#32
  let v18 : BitVec 1 := Scalar.cmpi .sgt c1024_i32 c0_i32_5
  let v19 : BitVec 32 := Scalar.extui v18
  let c0_i32_6 : BitVec 32 := 0#32
  let v20 : BitVec 1 := Scalar.cmpi .slt c1024_i32 c0_i32_6
  let v21 : BitVec 32 := Scalar.extui v20
  let v22 : BitVec 32 := Scalar.subi v19 v21
  let v23 : BitVec 1 := Scalar.cmpi .ne v17 v22
  let v24 : BitVec 32 := Scalar.remsi v11 c1024_i32
  let c0_i32_7 : BitVec 32 := 0#32
  let v25 : BitVec 1 := Scalar.cmpi .ne v24 c0_i32_7
  let v26 : BitVec 1 := Scalar.andi v23 v25
  let v12 : BitVec 32 := Scalar.divsi v11 c1024_i32
  let c1_i32 : BitVec 32 := 1#32
  let v27 : BitVec 32 := Scalar.subi v12 c1_i32
  let v28 : BitVec 32 := Scalar.select v26 v27 v12
  let c1024_i32_32 : BitVec 32 := 1024#32
  let v73 : BitVec 32 := Scalar.muli v28 c1024_i32_32
  let v74 : BitVec 32 := v73
  let v75 : Index := Scalar.indexCast v74
  let c384_33 : Index := 384#32
  ![v75.toNat, 384]
def k0_mult17 (i : grid0.Coords) : BitVec 32 :=
  let arg2 : BitVec 32 := BitVec.ofNat 32 (i 2).val
  let c512_i32 : BitVec 32 := 512#32
  let v11 : BitVec 32 := Scalar.muli arg2 c512_i32
  let c0_i32 : BitVec 32 := 0#32
  let v13 : BitVec 1 := Scalar.cmpi .sgt v11 c0_i32
  let v14 : BitVec 32 := Scalar.extui v13
  let c0_i32_4 : BitVec 32 := 0#32
  let v15 : BitVec 1 := Scalar.cmpi .slt v11 c0_i32_4
  let v16 : BitVec 32 := Scalar.extui v15
  let v17 : BitVec 32 := Scalar.subi v14 v16
  let c1024_i32 : BitVec 32 := 1024#32
  let c0_i32_5 : BitVec 32 := 0#32
  let v18 : BitVec 1 := Scalar.cmpi .sgt c1024_i32 c0_i32_5
  let v19 : BitVec 32 := Scalar.extui v18
  let c0_i32_6 : BitVec 32 := 0#32
  let v20 : BitVec 1 := Scalar.cmpi .slt c1024_i32 c0_i32_6
  let v21 : BitVec 32 := Scalar.extui v20
  let v22 : BitVec 32 := Scalar.subi v19 v21
  let v23 : BitVec 1 := Scalar.cmpi .ne v17 v22
  let v24 : BitVec 32 := Scalar.remsi v11 c1024_i32
  let c0_i32_7 : BitVec 32 := 0#32
  let v25 : BitVec 1 := Scalar.cmpi .ne v24 c0_i32_7
  let v26 : BitVec 1 := Scalar.andi v23 v25
  let v12 : BitVec 32 := Scalar.divsi v11 c1024_i32
  let c1_i32 : BitVec 32 := 1#32
  let v27 : BitVec 32 := Scalar.subi v12 c1_i32
  let v28 : BitVec 32 := Scalar.select v26 v27 v12
  let c1024_i32_39 : BitVec 32 := 1024#32
  let v87 : BitVec 32 := Scalar.muli v28 c1024_i32_39
  v87
def k0_off17 (i : grid0.Coords) : Fin 2 → Nat :=
  let arg2 : BitVec 32 := BitVec.ofNat 32 (i 2).val
  let c512_i32 : BitVec 32 := 512#32
  let v11 : BitVec 32 := Scalar.muli arg2 c512_i32
  let c0_i32 : BitVec 32 := 0#32
  let v13 : BitVec 1 := Scalar.cmpi .sgt v11 c0_i32
  let v14 : BitVec 32 := Scalar.extui v13
  let c0_i32_4 : BitVec 32 := 0#32
  let v15 : BitVec 1 := Scalar.cmpi .slt v11 c0_i32_4
  let v16 : BitVec 32 := Scalar.extui v15
  let v17 : BitVec 32 := Scalar.subi v14 v16
  let c1024_i32 : BitVec 32 := 1024#32
  let c0_i32_5 : BitVec 32 := 0#32
  let v18 : BitVec 1 := Scalar.cmpi .sgt c1024_i32 c0_i32_5
  let v19 : BitVec 32 := Scalar.extui v18
  let c0_i32_6 : BitVec 32 := 0#32
  let v20 : BitVec 1 := Scalar.cmpi .slt c1024_i32 c0_i32_6
  let v21 : BitVec 32 := Scalar.extui v20
  let v22 : BitVec 32 := Scalar.subi v19 v21
  let v23 : BitVec 1 := Scalar.cmpi .ne v17 v22
  let v24 : BitVec 32 := Scalar.remsi v11 c1024_i32
  let c0_i32_7 : BitVec 32 := 0#32
  let v25 : BitVec 1 := Scalar.cmpi .ne v24 c0_i32_7
  let v26 : BitVec 1 := Scalar.andi v23 v25
  let v12 : BitVec 32 := Scalar.divsi v11 c1024_i32
  let c1_i32 : BitVec 32 := 1#32
  let v27 : BitVec 32 := Scalar.subi v12 c1_i32
  let v28 : BitVec 32 := Scalar.select v26 v27 v12
  let c1024_i32_39 : BitVec 32 := 1024#32
  let v87 : BitVec 32 := Scalar.muli v28 c1024_i32_39
  let v88 : BitVec 32 := v87
  let v89 : Index := Scalar.indexCast v88
  let c0_40 : Index := 0#32
  ![v89.toNat, 0]
def k0_mult18 (i : grid0.Coords) : BitVec 32 :=
  let arg2 : BitVec 32 := BitVec.ofNat 32 (i 2).val
  let c512_i32 : BitVec 32 := 512#32
  let v11 : BitVec 32 := Scalar.muli arg2 c512_i32
  let c0_i32 : BitVec 32 := 0#32
  let v13 : BitVec 1 := Scalar.cmpi .sgt v11 c0_i32
  let v14 : BitVec 32 := Scalar.extui v13
  let c0_i32_4 : BitVec 32 := 0#32
  let v15 : BitVec 1 := Scalar.cmpi .slt v11 c0_i32_4
  let v16 : BitVec 32 := Scalar.extui v15
  let v17 : BitVec 32 := Scalar.subi v14 v16
  let c1024_i32 : BitVec 32 := 1024#32
  let c0_i32_5 : BitVec 32 := 0#32
  let v18 : BitVec 1 := Scalar.cmpi .sgt c1024_i32 c0_i32_5
  let v19 : BitVec 32 := Scalar.extui v18
  let c0_i32_6 : BitVec 32 := 0#32
  let v20 : BitVec 1 := Scalar.cmpi .slt c1024_i32 c0_i32_6
  let v21 : BitVec 32 := Scalar.extui v20
  let v22 : BitVec 32 := Scalar.subi v19 v21
  let v23 : BitVec 1 := Scalar.cmpi .ne v17 v22
  let v24 : BitVec 32 := Scalar.remsi v11 c1024_i32
  let c0_i32_7 : BitVec 32 := 0#32
  let v25 : BitVec 1 := Scalar.cmpi .ne v24 c0_i32_7
  let v26 : BitVec 1 := Scalar.andi v23 v25
  let v12 : BitVec 32 := Scalar.divsi v11 c1024_i32
  let c1_i32 : BitVec 32 := 1#32
  let v27 : BitVec 32 := Scalar.subi v12 c1_i32
  let v28 : BitVec 32 := Scalar.select v26 v27 v12
  let c1024_i32_41 : BitVec 32 := 1024#32
  let v92 : BitVec 32 := Scalar.muli v28 c1024_i32_41
  v92
def k0_off18 (i : grid0.Coords) : Fin 2 → Nat :=
  let arg2 : BitVec 32 := BitVec.ofNat 32 (i 2).val
  let c512_i32 : BitVec 32 := 512#32
  let v11 : BitVec 32 := Scalar.muli arg2 c512_i32
  let c0_i32 : BitVec 32 := 0#32
  let v13 : BitVec 1 := Scalar.cmpi .sgt v11 c0_i32
  let v14 : BitVec 32 := Scalar.extui v13
  let c0_i32_4 : BitVec 32 := 0#32
  let v15 : BitVec 1 := Scalar.cmpi .slt v11 c0_i32_4
  let v16 : BitVec 32 := Scalar.extui v15
  let v17 : BitVec 32 := Scalar.subi v14 v16
  let c1024_i32 : BitVec 32 := 1024#32
  let c0_i32_5 : BitVec 32 := 0#32
  let v18 : BitVec 1 := Scalar.cmpi .sgt c1024_i32 c0_i32_5
  let v19 : BitVec 32 := Scalar.extui v18
  let c0_i32_6 : BitVec 32 := 0#32
  let v20 : BitVec 1 := Scalar.cmpi .slt c1024_i32 c0_i32_6
  let v21 : BitVec 32 := Scalar.extui v20
  let v22 : BitVec 32 := Scalar.subi v19 v21
  let v23 : BitVec 1 := Scalar.cmpi .ne v17 v22
  let v24 : BitVec 32 := Scalar.remsi v11 c1024_i32
  let c0_i32_7 : BitVec 32 := 0#32
  let v25 : BitVec 1 := Scalar.cmpi .ne v24 c0_i32_7
  let v26 : BitVec 1 := Scalar.andi v23 v25
  let v12 : BitVec 32 := Scalar.divsi v11 c1024_i32
  let c1_i32 : BitVec 32 := 1#32
  let v27 : BitVec 32 := Scalar.subi v12 c1_i32
  let v28 : BitVec 32 := Scalar.select v26 v27 v12
  let c1024_i32_41 : BitVec 32 := 1024#32
  let v92 : BitVec 32 := Scalar.muli v28 c1024_i32_41
  let v93 : BitVec 32 := v92
  let v94 : Index := Scalar.indexCast v93
  let c128_42 : Index := 128#32
  ![v94.toNat, 128]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S8x8192x8x96 : Shape := ⟨4, ![8, 8192, 8, 96]⟩
abbrev S8x8192x8x64 : Shape := ⟨4, ![8, 8192, 8, 64]⟩
abbrev S_ : Shape := ⟨0, ![]⟩
abbrev S8192 : Shape := ⟨1, ![8192]⟩
abbrev S8x8x8192x8192 : Shape := ⟨4, ![8, 8, 8192, 8192]⟩
abbrev S1x8192 : Shape := ⟨2, ![1, 8192]⟩
abbrev S8192x1 : Shape := ⟨2, ![8192, 1]⟩
abbrev S8192x8192 : Shape := ⟨2, ![8192, 8192]⟩
abbrev S8x8x8192 : Shape := ⟨3, ![8, 8, 8192]⟩
abbrev S8x8x8192x1 : Shape := ⟨4, ![8, 8, 8192, 1]⟩
abbrev S8x8x64x8192 : Shape := ⟨4, ![8, 8, 64, 8192]⟩
abbrev S65536x512 : Shape := ⟨2, ![65536, 512]⟩

abbrev nBuf : Space → Nat
  | .hbm => 37
  | .vmem => 0
  | .smem => 0
  | _ => 0

abbrev bufTy : (tb : Table) → Fin (tcTables nBuf tb) → BufTy
  | .hbm, ⟨0, _⟩ => ⟨S8x8192x8x96, .f32⟩
  | .hbm, ⟨1, _⟩ => ⟨S8x8192x8x96, .f32⟩
  | .hbm, ⟨2, _⟩ => ⟨S8x8192x8x64, .f32⟩
  | .hbm, ⟨3, _⟩ => ⟨S_, .f32⟩
  | .hbm, ⟨4, _⟩ => ⟨S_, .f32⟩
  | .hbm, ⟨5, _⟩ => ⟨S8192, .i32⟩
  | .hbm, ⟨6, _⟩ => ⟨S8x8x8192x8192, .f32⟩
  | .hbm, ⟨7, _⟩ => ⟨S8x8x8192x8192, .f32⟩
  | .hbm, ⟨8, _⟩ => ⟨S8x8x8192x8192, .f32⟩
  | .hbm, ⟨9, _⟩ => ⟨S1x8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S_, .f32⟩
  | .hbm, ⟨15, _⟩ => ⟨S_, .f32⟩
  | .hbm, ⟨16, _⟩ => ⟨S8x8x8192x8192, .i1⟩
  | .hbm, ⟨17, _⟩ => ⟨S8x8x8192x8192, .f32⟩
  | .hbm, ⟨18, _⟩ => ⟨S8x8x8192x8192, .f32⟩
  | .hbm, ⟨19, _⟩ => ⟨S_, .f32⟩
  | .hbm, ⟨20, _⟩ => ⟨S8x8x8192, .f32⟩
  | .hbm, ⟨21, _⟩ => ⟨S_, .f32⟩
  | .hbm, ⟨22, _⟩ => ⟨S8x8x8192, .f32⟩
  | .hbm, ⟨23, _⟩ => ⟨S8x8x8192, .f32⟩
  | .hbm, ⟨24, _⟩ => ⟨S8x8x8192x1, .f32⟩
  | .hbm, ⟨25, _⟩ => ⟨S8x8x8192x8192, .f32⟩
  | .hbm, ⟨26, _⟩ => ⟨S8x8x8192x8192, .f32⟩
  | .hbm, ⟨27, _⟩ => ⟨S8x8x8192x8192, .f32⟩
  | .hbm, ⟨28, _⟩ => ⟨S_, .f32⟩
  | .hbm, ⟨29, _⟩ => ⟨S8x8x8192, .f32⟩
  | .hbm, ⟨30, _⟩ => ⟨S8x8x8192x1, .f32⟩
  | .hbm, ⟨31, _⟩ => ⟨S8x8x8192x8192, .f32⟩
  | .hbm, ⟨32, _⟩ => ⟨S8x8x8192x8192, .f32⟩
  | .hbm, ⟨33, _⟩ => ⟨S8x8x64x8192, .f32⟩
  | .hbm, ⟨34, _⟩ => ⟨S8x8192x8x64, .f32⟩
  | .hbm, ⟨35, _⟩ => ⟨S65536x512, .f32⟩
  | .hbm, ⟨36, _⟩ => ⟨S65536x512, .bf16⟩
  | _, _ => ⟨S8x8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Kernel2.lean ====
abbrev S8x8192x1024 : Shape := ⟨3, ![8, 8192, 1024]⟩
abbrev S1024 : Shape := ⟨1, ![1024]⟩
abbrev S1024x4640 : Shape := ⟨2, ![1024, 4640]⟩
abbrev S768 : Shape := ⟨1, ![768]⟩
abbrev S768x768 : Shape := ⟨2, ![768, 768]⟩
abbrev S256 : Shape := ⟨1, ![256]⟩
abbrev S256x1024 : Shape := ⟨2, ![256, 1024]⟩
abbrev S1024x32 : Shape := ⟨2, ![1024, 32]⟩
abbrev S_ : Shape := ⟨0, ![]⟩
abbrev S1024x128 : Shape := ⟨2, ![1024, 128]⟩
abbrev S1024x1024 : Shape := ⟨2, ![1024, 1024]⟩
abbrev S1024x3584 : Shape := ⟨2, ![1024, 3584]⟩
abbrev S1024x4736 : Shape := ⟨2, ![1024, 4736]⟩
abbrev S768x8x96 : Shape := ⟨3, ![768, 8, 96]⟩
abbrev S768x8x128 : Shape := ⟨3, ![768, 8, 128]⟩
abbrev S768x1024 : Shape := ⟨2, ![768, 1024]⟩
abbrev S256x8x128 : Shape := ⟨3, ![256, 8, 128]⟩
abbrev S256x8x64 : Shape := ⟨3, ![256, 8, 64]⟩
abbrev S256x512 : Shape := ⟨2, ![256, 512]⟩
abbrev S65536x1024 : Shape := ⟨2, ![65536, 1024]⟩
abbrev S1x1024 : Shape := ⟨2, ![1, 1024]⟩
abbrev S1x768 : Shape := ⟨2, ![1, 768]⟩
abbrev S1x256 : Shape := ⟨2, ![1, 256]⟩
abbrev S16 : Shape := ⟨1, ![16]⟩
abbrev S8192 : Shape := ⟨1, ![8192]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S8192x32 : Shape := ⟨2, ![8192, 32]⟩
abbrev S8192x128 : Shape := ⟨2, ![8192, 128]⟩
abbrev S8192x48 : Shape := ⟨2, ![8192, 48]⟩
abbrev S8192x80 : Shape := ⟨2, ![8192, 80]⟩
abbrev S8 : Shape := ⟨1, ![8]⟩
abbrev S1x8 : Shape := ⟨2, ![1, 8]⟩
abbrev S8192x8 : Shape := ⟨2, ![8192, 8]⟩
abbrev S8192x56 : Shape := ⟨2, ![8192, 56]⟩
abbrev S65536x512 : Shape := ⟨2, ![65536, 512]⟩
abbrev S64x512x1024 : Shape := ⟨3, ![64, 512, 1024]⟩
abbrev S256x1x512 : Shape := ⟨3, ![256, 1, 512]⟩
abbrev S512x1024 : Shape := ⟨2, ![512, 1024]⟩
abbrev S512x128 : Shape := ⟨2, ![512, 128]⟩
abbrev S512x512 : Shape := ⟨2, ![512, 512]⟩
abbrev S1x512x512 : Shape := ⟨3, ![1, 512, 512]⟩
abbrev S2x1x512 : Shape := ⟨3, ![2, 1, 512]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S1024x256 : Shape := ⟨2, ![1024, 256]⟩
abbrev S512x256 : Shape := ⟨2, ![512, 256]⟩
abbrev S1024x512 : Shape := ⟨2, ![1024, 512]⟩
abbrev S128x512 : Shape := ⟨2, ![128, 512]⟩
abbrev S1x128x512 : Shape := ⟨3, ![1, 128, 512]⟩
abbrev S256x128 : Shape := ⟨2, ![256, 128]⟩
abbrev S128 : Shape := ⟨1, ![128]⟩
abbrev S1x128 : Shape := ⟨2, ![1, 128]⟩
abbrev S1x1x128 : Shape := ⟨3, ![1, 1, 128]⟩

abbrev nBuf : Space → Nat
  | .hbm => 107
  | .vmem => 39
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x4640, .f32⟩
  | .hbm, ⟨3, _⟩ => ⟨S768, .f32⟩
  | .hbm, ⟨4, _⟩ => ⟨S768x768, .f32⟩
  | .hbm, ⟨5, _⟩ => ⟨S256, .f32⟩
  | .hbm, ⟨6, _⟩ => ⟨S256x1024, .f32⟩
  | .hbm, ⟨7, _⟩ => ⟨S1024x32, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x1024, .f32⟩
  | .hbm, ⟨12, _⟩ => ⟨S1024x3584, .f32⟩
  | .hbm, ⟨13, _⟩ => ⟨S1024x4736, .f32⟩
  | .hbm, ⟨14, _⟩ => ⟨S1024x4736, .bf16⟩
  | .hbm, ⟨15, _⟩ => ⟨S768x8x96, .f32⟩
  | .hbm, ⟨16, _⟩ => ⟨S_, .i32⟩
  | .hbm, ⟨17, _⟩ => ⟨S_, .f32⟩
  | .hbm, ⟨18, _⟩ => ⟨S768x8x128, .f32⟩
  | .hbm, ⟨19, _⟩ => ⟨S768x1024, .f32⟩
  | .hbm, ⟨20, _⟩ => ⟨S256x8x128, .f32⟩
  | .hbm, ⟨21, _⟩ => ⟨S256x8x64, .f32⟩
  | .hbm, ⟨22, _⟩ => ⟨S_, .i32⟩
  | .hbm, ⟨23, _⟩ => ⟨S_, .f32⟩
  | .hbm, ⟨24, _⟩ => ⟨S256x8x128, .f32⟩
  | .hbm, ⟨25, _⟩ => ⟨S256x1024, .f32⟩
  | .hbm, ⟨26, _⟩ => ⟨S256x8x64, .f32⟩
  | .hbm, ⟨27, _⟩ => ⟨S256x512, .f32⟩
  | .hbm, ⟨28, _⟩ => ⟨S768x1024, .bf16⟩
  | .hbm, ⟨29, _⟩ => ⟨S256x1024, .bf16⟩
  | .hbm, ⟨30, _⟩ => ⟨S256x512, .bf16⟩
  | .hbm, ⟨31, _⟩ => ⟨S65536x1024, .f32⟩
  | .hbm, ⟨32, _⟩ => ⟨S1x1024, .f32⟩
  | .hbm, ⟨33, _⟩ => ⟨S1x768, .f32⟩
  | .hbm, ⟨34, _⟩ => ⟨S1x256, .f32⟩
  | .hbm, ⟨35, _⟩ => ⟨S16, .f32⟩
  | .hbm, ⟨36, _⟩ => ⟨S16, .f32⟩
  | .hbm, ⟨37, _⟩ => ⟨S_, .f32⟩
  | .hbm, ⟨38, _⟩ => ⟨S16, .f32⟩
  | .hbm, ⟨39, _⟩ => ⟨S16, .f32⟩
  | .hbm, ⟨40, _⟩ => ⟨S_, .f32⟩
  | .hbm, ⟨41, _⟩ => ⟨S16, .f32⟩
  | .hbm, ⟨42, _⟩ => ⟨S16, .f32⟩
  | .hbm, ⟨43, _⟩ => ⟨S8192, .f32⟩
  | .hbm, ⟨44, _⟩ => ⟨S8192x1, .f32⟩
  | .hbm, ⟨45, _⟩ => ⟨S1x16, .f32⟩
  | .hbm, ⟨46, _⟩ => ⟨S8192x16, .f32⟩
  | .hbm, ⟨47, _⟩ => ⟨S8192x16, .f32⟩
  | .hbm, ⟨48, _⟩ => ⟨S8192x16, .f32⟩
  | .hbm, ⟨49, _⟩ => ⟨S8192x16, .f32⟩
  | .hbm, ⟨50, _⟩ => ⟨S8192x16, .f32⟩
  | .hbm, ⟨51, _⟩ => ⟨S_, .f32⟩
  | .hbm, ⟨52, _⟩ => ⟨S8192x64, .f32⟩
  | .hbm, ⟨53, _⟩ => ⟨S_, .f32⟩
  | .hbm, ⟨54, _⟩ => ⟨S8192x32, .f32⟩
  | .hbm, ⟨55, _⟩ => ⟨S8192x128, .f32⟩
  | .hbm, ⟨56, _⟩ => ⟨S_, .f32⟩
  | .hbm, ⟨57, _⟩ => ⟨S8192x64, .f32⟩
  | .hbm, ⟨58, _⟩ => ⟨S8192x16, .f32⟩
  | .hbm, ⟨59, _⟩ => ⟨S_, .f32⟩
  | .hbm, ⟨60, _⟩ => ⟨S8192x48, .f32⟩
  | .hbm, ⟨61, _⟩ => ⟨S8192x128, .f32⟩
  | .hbm, ⟨62, _⟩ => ⟨S_, .f32⟩
  | .hbm, ⟨63, _⟩ => ⟨S8192x80, .f32⟩
  | .hbm, ⟨64, _⟩ => ⟨S_, .f32⟩
  | .hbm, ⟨65, _⟩ => ⟨S8192x32, .f32⟩
  | .hbm, ⟨66, _⟩ => ⟨S8192x128, .f32⟩
  | .hbm, ⟨67, _⟩ => ⟨S8, .f32⟩
  | .hbm, ⟨68, _⟩ => ⟨S8, .f32⟩
  | .hbm, ⟨69, _⟩ => ⟨S_, .f32⟩
  | .hbm, ⟨70, _⟩ => ⟨S8, .f32⟩
  | .hbm, ⟨71, _⟩ => ⟨S8, .f32⟩
  | .hbm, ⟨72, _⟩ => ⟨S_, .f32⟩
  | .hbm, ⟨73, _⟩ => ⟨S8, .f32⟩
  | .hbm, ⟨74, _⟩ => ⟨S8, .f32⟩
  | .hbm, ⟨75, _⟩ => ⟨S8192, .f32⟩
  | .hbm, ⟨76, _⟩ => ⟨S8192x1, .f32⟩
  | .hbm, ⟨77, _⟩ => ⟨S1x8, .f32⟩
  | .hbm, ⟨78, _⟩ => ⟨S8192x8, .f32⟩
  | .hbm, ⟨79, _⟩ => ⟨S8192x8, .f32⟩
  | .hbm, ⟨80, _⟩ => ⟨S8192x8, .f32⟩
  | .hbm, ⟨81, _⟩ => ⟨S8192x8, .f32⟩
  | .hbm, ⟨82, _⟩ => ⟨S8192x8, .f32⟩
  | .hbm, ⟨83, _⟩ => ⟨S_, .f32⟩
  | .hbm, ⟨84, _⟩ => ⟨S8192x48, .f32⟩
  | .hbm, ⟨85, _⟩ => ⟨S8192x64, .f32⟩
  | .hbm, ⟨86, _⟩ => ⟨S8192x8, .f32⟩
  | .hbm, ⟨87, _⟩ => ⟨S_, .f32⟩
  | .hbm, ⟨88, _⟩ => ⟨S8192x56, .f32⟩
  | .hbm, ⟨89, _⟩ => ⟨S8192x64, .f32⟩
  | .hbm, ⟨90, _⟩ => ⟨S_, .f32⟩
  | .hbm, ⟨91, _⟩ => ⟨S8192x8, .f32⟩
  | .hbm, ⟨92, _⟩ => ⟨S_, .f32⟩
  | .hbm, ⟨93, _⟩ => ⟨S8192x48, .f32⟩
  | .hbm, ⟨94, _⟩ => ⟨S8192x64, .f32⟩
  | .hbm, ⟨95, _⟩ => ⟨S8192x128, .f32⟩
  | .hbm, ⟨96, _⟩ => ⟨S8192x128, .f32⟩
  | .hbm, ⟨97, _⟩ => ⟨S8192x128, .f32⟩
  | .hbm, ⟨98, _⟩ => ⟨S65536x1024, .bf16⟩
  | .hbm, ⟨99, _⟩ => ⟨S65536x1024, .bf16⟩
  | .hbm, ⟨100, _⟩ => ⟨S65536x512, .bf16⟩
  | .hbm, ⟨101, _⟩ => ⟨S65536x512, .bf16⟩
  | .hbm, ⟨102, _⟩ => ⟨S64x512x1024, .bf16⟩
  | .hbm, ⟨103, _⟩ => ⟨S65536x512, .bf16⟩
  | .hbm, ⟨104, _⟩ => ⟨S256x1x512, .f32⟩
  | .hbm, ⟨105, _⟩ => ⟨S65536x1024, .bf16⟩
  | .hbm, ⟨106, _⟩ => ⟨S65536x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4736, .bf16⟩
  | .local _ .vmem, ⟨4, _⟩ => ⟨S1x768, .f32⟩
  | .local _ .vmem, ⟨5, _⟩ => ⟨S768x1024, .bf16⟩
  | .local _ .vmem, ⟨6, _⟩ => ⟨S1x256, .f32⟩
  | .local _ .vmem, ⟨7, _⟩ => ⟨S256x1024, .bf16⟩
  | .local _ .vmem, ⟨8, _⟩ => ⟨S256x512, .bf16⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S1x512x512, .bf16⟩
  | .local _ .vmem, ⟨30, _⟩ => ⟨S1x512x512, .bf16⟩
  | .local _ .vmem, ⟨31, _⟩ => ⟨S512x512, .bf16⟩
  | .local _ .vmem, ⟨32, _⟩ => ⟨S512x512, .bf16⟩
  | .local _ .vmem, ⟨33, _⟩ => ⟨S2x1x512, .f32⟩
  | .local _ .vmem, ⟨34, _⟩ => ⟨S2x1x512, .f32⟩
  | .local _ .vmem, ⟨35, _⟩ => ⟨S512x1024, .bf16⟩
  | .local _ .vmem, ⟨36, _⟩ => ⟨S512x1024, .bf16⟩
  | .local _ .vmem, ⟨37, _⟩ => ⟨S512x1024, .bf16⟩
  | .local _ .vmem, ⟨38, _⟩ => ⟨S512x1024, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_call1_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_call2_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_v63 : Ref sig .tc := ⟨.hbm, 88, rfl⟩
abbrev main_v64 : Ref sig .tc := ⟨.hbm, 89, rfl⟩
abbrev main_cst_13 : Ref sig .tc := ⟨.hbm, 90, rfl⟩
abbrev main_v65 : Ref sig .tc := ⟨.hbm, 91, rfl⟩
abbrev main_cst_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71_0 : Ref sig .tc := ⟨.hbm, 98, rfl⟩
abbrev main_v71_1 : Ref sig .tc := ⟨.hbm, 99, rfl⟩
abbrev main_v71_2 : Ref sig .tc := ⟨.hbm, 100, rfl⟩
abbrev main_v71_3 : Ref sig .tc := ⟨.hbm, 101, rfl⟩
abbrev main_v71_4 : Ref sig .tc := ⟨.hbm, 102, rfl⟩
abbrev main_v71_5 : Ref sig .tc := ⟨.hbm, 103, rfl⟩
abbrev main_v71_6 : Ref sig .tc := ⟨.hbm, 104, rfl⟩
abbrev main_v71_7 : Ref sig .tc := ⟨.hbm, 105, rfl⟩
abbrev main_v71_8 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_stg22_0 : Ref sig .tc := ⟨.vmem, 37, rfl⟩
abbrev cc0_stg22_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36
abbrev cc0_sem22_0 : DmaSem sig := 37
abbrev cc0_sem22_1 : DmaSem sig := 38

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_13 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4736 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S2x1x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== Kernel2Ideal.lean ====
variable {F : FTy → Type} [FloatOps F] [Named F]
def κ : String → Option EReal := fun
  | "scale_mla" => some (((Real.sqrt 96)⁻¹ * (Real.log 2)⁻¹ : ℝ) : EReal)
  | "scale_moba" => some (((Real.sqrt 64)⁻¹ * (Real.log 2)⁻¹ : ℝ) : EReal)
  | _ => none
-- ==== Reference2Ideal.lean ====
abbrev S8x8192x1024 : Shape := ⟨3, ![8, 8192, 1024]⟩
abbrev S1024 : Shape := ⟨1, ![1024]⟩
abbrev S1024x4640 : Shape := ⟨2, ![1024, 4640]⟩
abbrev S768 : Shape := ⟨1, ![768]⟩
abbrev S768x768 : Shape := ⟨2, ![768, 768]⟩
abbrev S256 : Shape := ⟨1, ![256]⟩
abbrev S256x1024 : Shape := ⟨2, ![256, 1024]⟩
abbrev S16 : Shape := ⟨1, ![16]⟩
abbrev S_ : Shape := ⟨0, ![]⟩
abbrev S8192 : Shape := ⟨1, ![8192]⟩
abbrev S8192x1 : Shape := ⟨2, ![8192, 1]⟩
abbrev S1x16 : Shape := ⟨2, ![1, 16]⟩
abbrev S8192x16 : Shape := ⟨2, ![8192, 16]⟩
abbrev S8 : Shape := ⟨1, ![8]⟩
abbrev S1x8 : Shape := ⟨2, ![1, 8]⟩
abbrev S8192x8 : Shape := ⟨2, ![8192, 8]⟩
abbrev S8x8192 : Shape := ⟨2, ![8, 8192]⟩
abbrev S8x8192x1 : Shape := ⟨3, ![8, 8192, 1]⟩
abbrev S1x1x1024 : Shape := ⟨3, ![1, 1, 1024]⟩
abbrev S8x8192x4640 : Shape := ⟨3, ![8, 8192, 4640]⟩
abbrev S8x8192x768 : Shape := ⟨3, ![8, 8192, 768]⟩
abbrev S8x8192x256 : Shape := ⟨3, ![8, 8192, 256]⟩
abbrev S8x8192x32 : Shape := ⟨3, ![8, 8192, 32]⟩
abbrev S8x8192x512 : Shape := ⟨3, ![8, 8192, 512]⟩
abbrev S1x1x768 : Shape := ⟨3, ![1, 1, 768]⟩
abbrev S8x8192x8x96 : Shape := ⟨4, ![8, 8192, 8, 96]⟩
abbrev S8x8192x8x64 : Shape := ⟨4, ![8, 8192, 8, 64]⟩
abbrev S8x8192x8x32 : Shape := ⟨4, ![8, 8192, 8, 32]⟩
abbrev S8x8192x8x16 : Shape := ⟨4, ![8, 8192, 8, 16]⟩
abbrev S1x8192x1x16 : Shape := ⟨4, ![1, 8192, 1, 16]⟩
abbrev S1x1x256 : Shape := ⟨3, ![1, 1, 256]⟩
abbrev S8x8192x8x128 : Shape := ⟨4, ![8, 8192, 8, 128]⟩
abbrev S8x8192x1x32 : Shape := ⟨4, ![8, 8192, 1, 32]⟩
abbrev S8x8192x1x16 : Shape := ⟨4, ![8, 8192, 1, 16]⟩
abbrev S8x8192x8x8 : Shape := ⟨4, ![8, 8192, 8, 8]⟩
abbrev S1x8192x1x8 : Shape := ⟨4, ![1, 8192, 1, 8]⟩
abbrev S8x8192x8x48 : Shape := ⟨4, ![8, 8192, 8, 48]⟩
abbrev S8x32x256x8x64 : Shape := ⟨5, ![8, 32, 256, 8, 64]⟩
abbrev S8x32x8x64 : Shape := ⟨4, ![8, 32, 8, 64]⟩
abbrev S65536x1024 : Shape := ⟨2, ![65536, 1024]⟩
abbrev S65536x512 : Shape := ⟨2, ![65536, 512]⟩
abbrev S64x1024x512 : Shape := ⟨3, ![64, 1024, 512]⟩
abbrev S64x512x1024 : Shape := ⟨3, ![64, 512, 1024]⟩
abbrev S256x1x512 : Shape := ⟨3, ![256, 1, 512]⟩

abbrev nBuf : Space → Nat
  | .hbm => 220
  | .vmem => 0
  | .smem => 0
  | _ => 0

abbrev hbmTy0_0 (i : Nat) : BufTy := match i % 128 with
  | 0 => ⟨S8x8192x1024, .f32⟩
  | 1 => ⟨S1024, .f32⟩
  | 2 => ⟨S1024x4640, .f32⟩
  | 3 => ⟨S768, .f32⟩
  | 4 => ⟨S768x768, .f32⟩
  | 5 => ⟨S256, .f32⟩
  | 6 => ⟨S256x1024, .f32⟩
  | 7 => ⟨S16, .f32⟩
  | 8 => ⟨S16, .f32⟩
  | 9 => ⟨S_, .f32⟩
  | 10 => ⟨S16, .f32⟩
  | 11 => ⟨S16, .f32⟩
  | 12 => ⟨S_, .f32⟩
  | 13 => ⟨S16, .f32⟩
  | 14 => ⟨S16, .f32⟩
  | 15 => ⟨S8192, .f32⟩
  | 16 => ⟨S8192x1, .f32⟩
  | 17 => ⟨S1x16, .f32⟩
  | 18 => ⟨S8192x16, .f32⟩
  | 19 => ⟨S8192x16, .f32⟩
  | 20 => ⟨S8192x16, .f32⟩
  | 21 => ⟨S8192x16, .f32⟩
  | 22 => ⟨S8192x16, .f32⟩
  | 23 => ⟨S8, .f32⟩
  | 24 => ⟨S8, .f32⟩
  | 25 => ⟨S_, .f32⟩
  | 26 => ⟨S8, .f32⟩
  | 27 => ⟨S8, .f32⟩
  | 28 => ⟨S_, .f32⟩
  | 29 => ⟨S8, .f32⟩
  | 30 => ⟨S8, .f32⟩
  | 31 => ⟨S8192, .f32⟩
  | 32 => ⟨S8192x1, .f32⟩
  | 33 => ⟨S1x8, .f32⟩
  | 34 => ⟨S8192x8, .f32⟩
  | 35 => ⟨S8192x8, .f32⟩
  | 36 => ⟨S8192x8, .f32⟩
  | 37 => ⟨S8192x8, .f32⟩
  | 38 => ⟨S8192x8, .f32⟩
  | 39 => ⟨S8x8192x1024, .f32⟩
  | 40 => ⟨S_, .f32⟩
  | 41 => ⟨S8x8192, .f32⟩
  | 42 => ⟨S8x8192x1, .f32⟩
  | 43 => ⟨S_, .f32⟩
  | 44 => ⟨S8x8192x1, .f32⟩
  | 45 => ⟨S8x8192x1, .f32⟩
  | 46 => ⟨S_, .f32⟩
  | 47 => ⟨S8x8192x1, .f32⟩
  | 48 => ⟨S8x8192x1, .f32⟩
  | 49 => ⟨S8x8192x1, .f32⟩
  | 50 => ⟨S8x8192x1024, .f32⟩
  | 51 => ⟨S8x8192x1024, .f32⟩
  | 52 => ⟨S1x1x1024, .f32⟩
  | 53 => ⟨S8x8192x1024, .f32⟩
  | 54 => ⟨S8x8192x1024, .f32⟩
  | 55 => ⟨S8x8192x4640, .f32⟩
  | 56 => ⟨S8x8192x768, .f32⟩
  | 57 => ⟨S8x8192x256, .f32⟩
  | 58 => ⟨S8x8192x32, .f32⟩
  | 59 => ⟨S8x8192x512, .f32⟩
  | 60 => ⟨S8x8192x512, .f32⟩
  | 61 => ⟨S8x8192x512, .f32⟩
  | 62 => ⟨S8x8192x1024, .f32⟩
  | 63 => ⟨S8x8192x1024, .f32⟩
  | 64 => ⟨S8x8192x768, .f32⟩
  | 65 => ⟨S_, .f32⟩
  | 66 => ⟨S8x8192, .f32⟩
  | 67 => ⟨S8x8192x1, .f32⟩
  | 68 => ⟨S_, .f32⟩
  | 69 => ⟨S8x8192x1, .f32⟩
  | 70 => ⟨S8x8192x1, .f32⟩
  | 71 => ⟨S_, .f32⟩
  | 72 => ⟨S8x8192x1, .f32⟩
  | 73 => ⟨S8x8192x1, .f32⟩
  | 74 => ⟨S8x8192x1, .f32⟩
  | 75 => ⟨S8x8192x768, .f32⟩
  | 76 => ⟨S8x8192x768, .f32⟩
  | 77 => ⟨S1x1x768, .f32⟩
  | 78 => ⟨S8x8192x768, .f32⟩
  | 79 => ⟨S8x8192x768, .f32⟩
  | 80 => ⟨S8x8192x768, .f32⟩
  | 81 => ⟨S8x8192x8x96, .f32⟩
  | 82 => ⟨S8x8192x8x64, .f32⟩
  | 83 => ⟨S8x8192x8x32, .f32⟩
  | 84 => ⟨S8x8192x8x16, .f32⟩
  | 85 => ⟨S8x8192x8x16, .f32⟩
  | 86 => ⟨S1x8192x1x16, .f32⟩
  | 87 => ⟨S1x8192x1x16, .f32⟩
  | 88 => ⟨S8x8192x8x16, .f32⟩
  | 89 => ⟨S8x8192x8x16, .f32⟩
  | 90 => ⟨S8x8192x8x16, .f32⟩
  | 91 => ⟨S8x8192x8x16, .f32⟩
  | 92 => ⟨S8x8192x8x16, .f32⟩
  | 93 => ⟨S8x8192x8x16, .f32⟩
  | 94 => ⟨S8x8192x8x16, .f32⟩
  | 95 => ⟨S8x8192x8x16, .f32⟩
  | 96 => ⟨S8x8192x8x16, .f32⟩
  | 97 => ⟨S8x8192x8x16, .f32⟩
  | 98 => ⟨S8x8192x8x32, .f32⟩
  | 99 => ⟨S8x8192x8x96, .f32⟩
  | 100 => ⟨S8x8192x256, .f32⟩
  | 101 => ⟨S_, .f32⟩
  | 102 => ⟨S8x8192, .f32⟩
  | 103 => ⟨S8x8192x1, .f32⟩
  | 104 => ⟨S_, .f32⟩
  | 105 => ⟨S8x8192x1, .f32⟩
  | 106 => ⟨S8x8192x1, .f32⟩
  | 107 => ⟨S_, .f32⟩
  | 108 => ⟨S8x8192x1, .f32⟩
  | 109 => ⟨S8x8192x1, .f32⟩
  | 110 => ⟨S8x8192x1, .f32⟩
  | 111 => ⟨S8x8192x256, .f32⟩
  | 112 => ⟨S8x8192x256, .f32⟩
  | 113 => ⟨S1x1x256, .f32⟩
  | 114 => ⟨S8x8192x256, .f32⟩
  | 115 => ⟨S8x8192x256, .f32⟩
  | 116 => ⟨S8x8192x1024, .f32⟩
  | 117 => ⟨S8x8192x8x128, .f32⟩
  | 118 => ⟨S8x8192x8x64, .f32⟩
  | 119 => ⟨S8x8192x8x64, .f32⟩
  | 120 => ⟨S8x8192x1x32, .f32⟩
  | 121 => ⟨S8x8192x1x16, .f32⟩
  | 122 => ⟨S8x8192x1x16, .f32⟩
  | 123 => ⟨S1x8192x1x16, .f32⟩
  | 124 => ⟨S1x8192x1x16, .f32⟩
  | 125 => ⟨S8x8192x1x16, .f32⟩
  | 126 => ⟨S8x8192x1x16, .f32⟩
  | 127 => ⟨S8x8192x1x16, .f32⟩
  | _ => ⟨S8x8192x1024, .f32⟩

abbrev hbmTy0_1 (i : Nat) : BufTy := match i % 128 with
  | 0 => ⟨S8x8192x1x16, .f32⟩
  | 1 => ⟨S8x8192x1x16, .f32⟩
  | 2 => ⟨S8x8192x1x16, .f32⟩
  | 3 => ⟨S8x8192x1x16, .f32⟩
  | 4 => ⟨S8x8192x1x16, .f32⟩
  | 5 => ⟨S8x8192x1x16, .f32⟩
  | 6 => ⟨S8x8192x1x16, .f32⟩
  | 7 => ⟨S8x8192x1x32, .f32⟩
  | 8 => ⟨S8x8192x8x32, .f32⟩
  | 9 => ⟨S8x8192x8x96, .f32⟩
  | 10 => ⟨S8x8192x8x64, .f32⟩
  | 11 => ⟨S8x8192x8x64, .f32⟩
  | 12 => ⟨S8x8192x8x16, .f32⟩
  | 13 => ⟨S8x8192x8x8, .f32⟩
  | 14 => ⟨S8x8192x8x8, .f32⟩
  | 15 => ⟨S1x8192x1x8, .f32⟩
  | 16 => ⟨S1x8192x1x8, .f32⟩
  | 17 => ⟨S8x8192x8x8, .f32⟩
  | 18 => ⟨S8x8192x8x8, .f32⟩
  | 19 => ⟨S8x8192x8x8, .f32⟩
  | 20 => ⟨S8x8192x8x8, .f32⟩
  | 21 => ⟨S8x8192x8x8, .f32⟩
  | 22 => ⟨S8x8192x8x8, .f32⟩
  | 23 => ⟨S8x8192x8x8, .f32⟩
  | 24 => ⟨S8x8192x8x8, .f32⟩
  | 25 => ⟨S8x8192x8x8, .f32⟩
  | 26 => ⟨S8x8192x8x8, .f32⟩
  | 27 => ⟨S8x8192x8x16, .f32⟩
  | 28 => ⟨S8x8192x8x48, .f32⟩
  | 29 => ⟨S8x8192x8x64, .f32⟩
  | 30 => ⟨S8x8192x8x16, .f32⟩
  | 31 => ⟨S8x8192x8x8, .f32⟩
  | 32 => ⟨S8x8192x8x8, .f32⟩
  | 33 => ⟨S1x8192x1x8, .f32⟩
  | 34 => ⟨S1x8192x1x8, .f32⟩
  | 35 => ⟨S8x8192x8x8, .f32⟩
  | 36 => ⟨S8x8192x8x8, .f32⟩
  | 37 => ⟨S8x8192x8x8, .f32⟩
  | 38 => ⟨S8x8192x8x8, .f32⟩
  | 39 => ⟨S8x8192x8x8, .f32⟩
  | 40 => ⟨S8x8192x8x8, .f32⟩
  | 41 => ⟨S8x8192x8x8, .f32⟩
  | 42 => ⟨S8x8192x8x8, .f32⟩
  | 43 => ⟨S8x8192x8x8, .f32⟩
  | 44 => ⟨S8x8192x8x8, .f32⟩
  | 45 => ⟨S8x8192x8x16, .f32⟩
  | 46 => ⟨S8x8192x8x48, .f32⟩
  | 47 => ⟨S8x8192x8x64, .f32⟩
  | 48 => ⟨S8x32x256x8x64, .f32⟩
  | 49 => ⟨S_, .f32⟩
  | 50 => ⟨S8x32x8x64, .f32⟩
  | 51 => ⟨S_, .f32⟩
  | 52 => ⟨S8x32x8x64, .f32⟩
  | 53 => ⟨S8x32x8x64, .f32⟩
  | 54 => ⟨S_, .f32⟩
  | 55 => ⟨S_, .f32⟩
  | 56 => ⟨S_, .f32⟩
  | 57 => ⟨S_, .f32⟩
  | 58 => ⟨S_, .i32⟩
  | 59 => ⟨S_, .f32⟩
  | 60 => ⟨S8x8192x8x128, .f32⟩
  | 61 => ⟨S_, .f32⟩
  | 62 => ⟨S_, .f32⟩
  | 63 => ⟨S_, .f32⟩
  | 64 => ⟨S8x8192x8x128, .f32⟩
  | 65 => ⟨S8x8192x8x128, .f32⟩
  | 66 => ⟨S65536x1024, .f32⟩
  | 67 => ⟨S65536x1024, .bf16⟩
  | 68 => ⟨S_, .i32⟩
  | 69 => ⟨S_, .f32⟩
  | 70 => ⟨S8x8192x8x128, .f32⟩
  | 71 => ⟨S65536x1024, .f32⟩
  | 72 => ⟨S65536x1024, .bf16⟩
  | 73 => ⟨S65536x512, .f32⟩
  | 74 => ⟨S65536x512, .bf16⟩
  | 75 => ⟨S_, .f32⟩
  | 76 => ⟨S_, .f32⟩
  | 77 => ⟨S_, .f32⟩
  | 78 => ⟨S8x8192x8x64, .f32⟩
  | 79 => ⟨S8x8192x8x64, .f32⟩
  | 80 => ⟨S65536x512, .f32⟩
  | 81 => ⟨S65536x512, .bf16⟩
  | 82 => ⟨S64x1024x512, .f32⟩
  | 83 => ⟨S64x512x1024, .f32⟩
  | 84 => ⟨S64x512x1024, .bf16⟩
  | 85 => ⟨S65536x512, .f32⟩
  | 86 => ⟨S65536x512, .bf16⟩
  | 87 => ⟨S256x1x512, .f32⟩
  | 88 => ⟨S65536x1024, .f32⟩
  | 89 => ⟨S65536x1024, .bf16⟩
  | 90 => ⟨S65536x1024, .f32⟩
  | 91 => ⟨S65536x1024, .bf16⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_6 : Ref sig .tc := ⟨.hbm, 65, rfl⟩
abbrev main_v51 : Ref sig .tc := ⟨.hbm, 66, rfl⟩
abbrev main_v52 : Ref sig .tc := ⟨.hbm, 67, rfl⟩
abbrev main_cst_7 : Ref sig .tc := ⟨.hbm, 68, rfl⟩
abbrev main_v53 : Ref sig .tc := ⟨.hbm, 69, rfl⟩
abbrev main_v54 : Ref sig .tc := ⟨.hbm, 70, rfl⟩
abbrev main_cst_8 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_cst_9 : Ref sig .tc := ⟨.hbm, 101, rfl⟩
abbrev main_v84 : Ref sig .tc := ⟨.hbm, 102, rfl⟩
abbrev main_v85 : Ref sig .tc := ⟨.hbm, 103, rfl⟩
abbrev main_cst_10 : Ref sig .tc := ⟨.hbm, 104, rfl⟩
abbrev main_v86 : Ref sig .tc := ⟨.hbm, 105, rfl⟩
abbrev main_v87 : Ref sig .tc := ⟨.hbm, 106, rfl⟩
abbrev main_cst_11 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_cst_12 : Ref sig .tc := ⟨.hbm, 177, rfl⟩
abbrev main_v157 : Ref sig .tc := ⟨.hbm, 178, rfl⟩
abbrev main_cst_13 : Ref sig .tc := ⟨.hbm, 179, rfl⟩
abbrev main_v158 : Ref sig .tc := ⟨.hbm, 180, rfl⟩
abbrev main_v159 : Ref sig .tc := ⟨.hbm, 181, rfl⟩
abbrev main_cst_14 : Ref sig .tc := ⟨.hbm, 182, rfl⟩
abbrev main_v160 : Ref sig .tc := ⟨.hbm, 183, rfl⟩
abbrev main_cst_15 : Ref sig .tc := ⟨.hbm, 184, rfl⟩
abbrev main_v161 : Ref sig .tc := ⟨.hbm, 185, rfl⟩
abbrev main_c : Ref sig .tc := ⟨.hbm, 186, rfl⟩
abbrev main_call0_v0 : Ref sig .tc := ⟨.hbm, 187, rfl⟩
abbrev main_v162 : Ref sig .tc := ⟨.hbm, 188, rfl⟩
abbrev main_cst_16 : Ref sig .tc := ⟨.hbm, 189, rfl⟩
abbrev main_v163 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_c_17 : Ref sig .tc := ⟨.hbm, 196, rfl⟩
abbrev main_call1_v0 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_cst_18 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_v181 : Ref sig .tc := ⟨.hbm, 211, rfl⟩
abbrev main_v182 : Ref sig .tc := ⟨.hbm, 212, rfl⟩
abbrev main_v183 : Ref sig .tc := ⟨.hbm, 213, rfl⟩
abbrev main_v184 : Ref sig .tc := ⟨.hbm, 214, rfl⟩
abbrev main_v185 : Ref sig .tc := ⟨.hbm, 215, rfl⟩
abbrev main_v186 : Ref sig .tc := ⟨.hbm, 216, rfl⟩
abbrev main_v187 : Ref sig .tc := ⟨.hbm, 217, rfl⟩
abbrev main_v188 : Ref sig .tc := ⟨.hbm, 218, rfl⟩
abbrev main_v189 : Ref sig .tc := ⟨.hbm, 219, rfl⟩

abbrev nD : Nat := 1
abbrev τ : Topo := Topo.v7x

variable {F : FTy → Type} [FloatOps F]
-- ==== Proof.Body.lean ====
/- One grid step of the attention kernel, on whole vectors: each trip of its loop over key chunks, and the masked
   last chunk, take the same step for each of the two pairs of heads. -/
module

public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.Mla

open Idealize.ShloMosaic Idealize.ShloMosaic.TcCoe Idealize.SL.Sem
open Cert.KernelIdeal Cert.KernelIdeal.Gen

/-- What a pair of heads carries along the keys: the largest score and the weights' sum of each of the two, and
    the weighted values of both, the first head's in lanes 0 to 63 and the second's in lanes 64 to 127. -/
abbrev Pair := FVec Ideal S512x1 .f32 × FVec Ideal S512x1 .f32 × FVec Ideal S512x1 .f32 × FVec Ideal S512x1 .f32 × FVec Ideal S512x128 .f32

/-- Two pairs, as the loop carries them. -/
abbrev Carry := FVec Ideal S512x1 .f32 × FVec Ideal S512x1 .f32 × FVec Ideal S512x1 .f32 × FVec Ideal S512x1 .f32 × FVec Ideal S512x128 .f32 × Pair

/-- The first pair of a carried value. -/
def fstPair (a : Carry) : Pair := (a.1, a.2.1, a.2.2.1, a.2.2.2.1, a.2.2.2.2.1)

/-- The second pair of a carried value. -/
def sndPair (a : Carry) : Pair := a.2.2.2.2.2

/-- A carried value, component by component. -/
abbrev regroup (a : Carry) : Carry :=
  (a.1, a.2.1, a.2.2.1, a.2.2.2.1, a.2.2.2.2.1, a.2.2.2.2.2.1, a.2.2.2.2.2.2.1, a.2.2.2.2.2.2.2.1, a.2.2.2.2.2.2.2.2.1, a.2.2.2.2.2.2.2.2.2)

/-- A chunk's step for one pair: `s0`, `s1` the two heads' scores of the chunk, `w` its values. -/
def stepPair (s0 s1 : FVec Ideal S512x1024 .f32) (w : FVec Ideal S1024x128 .bf16) (p : Pair) : Pair :=
  (k0_pay13 p.1 s0, k0_pay16 p.1 p.2.1 s0, k0_pay13 p.2.2.1 s1, k0_pay16 p.2.2.1 p.2.2.2.1 s1,
    k0_pay17 k0_pay49 p.2.2.1 p.2.2.2.2 s1 w (k0_pay14 p.1 s0) (k0_pay15 p.1 s0))

/-- What every pair starts from. -/
def initPair : Pair := (k0_pay54 (F := Ideal), k0_pay55 (F := Ideal), k0_pay56 (F := Ideal), k0_pay57 (F := Ideal), k0_pay63 (F := Ideal))

variable (c : Dev nD) (i : grid0.Coords)
  (arg3 : Memref sig .tc .vmem S512x512 .bf16) (harg3 : arg3.IsWhole)
  (arg4 : Memref sig .tc .vmem S8192x512 .bf16) (harg4 : arg4.IsWhole)
  (arg5 : Memref sig .tc .vmem S8192x256 .bf16) (harg5 : arg5.IsWhole)
  (arg6 : Memref sig .tc .vmem S512x256 .bf16) (harg6 : arg6.IsWhole)
  (x0 : Vec Ideal S512x512 .bf16) (x1 : Vec Ideal S8192x512 .bf16) (x2 : Vec Ideal S8192x256 .bf16)

/-- A tile of the staged queries. -/
abbrev qTile (off : Fin 2 → ℕ) (h : ∀ d, off d + S512x128.size d ≤ S512x512.size d) : Vec Ideal S512x128 .bf16 :=
  View.readAt (Elt Ideal) arg3.view (Rect.unit (s := S512x512) off S512x128.size h).toLoadRect (harg3.unread x0)

/-- The number of the first key chunk that needs the mask, as the kernel computes it: the row block's first row over
    1024, rounded down. -/
abbrev firstMasked : BitVec 32 :=
  let r : BitVec 32 := Scalar.muli (BitVec.ofNat 32 (i 2).val) 512#32
  Scalar.select
    (Scalar.andi
      (Scalar.cmpi .ne (Scalar.subi (Scalar.extui (Scalar.cmpi .sgt r 0#32)) (Scalar.extui (Scalar.cmpi .slt r 0#32)))
        (Scalar.subi (Scalar.extui (Scalar.cmpi .sgt 1024#32 0#32)) (Scalar.extui (Scalar.cmpi .slt 1024#32 0#32))))
      (Scalar.cmpi .ne (Scalar.remsi r 1024#32) 0#32))
    (Scalar.subi (Scalar.divsi r 1024#32) 1#32) (Scalar.divsi r 1024#32)

/-- One trip of the loop over key chunks, pair by pair. -/
theorem trip_eq (bd : Option Variants.none.V) (v4 v6 v8 v10 : FVec Ideal S512x128 .bf16) (v28 v29 : BitVec 32)
    (v30 v31 v32 v33 : FVec Ideal S512x1 .f32) (z : Ideal .f32) (k : Fin (k0_t1_loop i).trips) (a : Carry) :
    tripR_k0_t1 (F := Ideal) Variants.none c bd i arg3 harg3 arg4 harg4 arg5 harg5 arg6 harg6 k0_pay49 v4 v6 v8 v10 v28 v29 v30 v31 v32 v33 z
        (harg4.unread x1) (harg5.unread x2) k a
      = (let K (off : Fin 2 → ℕ) (h : ∀ d, off d + S1024x128.size d ≤ S8192x512.size d) : Vec Ideal S1024x128 .bf16 :=
          View.readAt (Elt Ideal) arg4.view (Rect.unit (s := S8192x512) off S1024x128.size h).toLoadRect (harg4.unread x1)
        let W (off : Fin 2 → ℕ) (h : ∀ d, off d + S1024x128.size d ≤ S8192x256.size d) : Vec Ideal S1024x128 .bf16 :=
          View.readAt (Elt Ideal) arg5.view (Rect.unit (s := S8192x256) off S1024x128.size h).toLoadRect (harg5.unread x2)
        let p := stepPair (k0_pay3 v4 (K (k0_off1 i k) (k0_off1_inb i k))) (k0_pay4 v6 (K (k0_off2 i k) (k0_off2_inb i k)))
          (k0_pay7 (W (k0_off5 i k) (k0_off5_inb i k))) (fstPair a)
        let q := stepPair (k0_pay5 v8 (K (k0_off3 i k) (k0_off3_inb i k))) (k0_pay6 v10 (K (k0_off4 i k) (k0_off4_inb i k)))
          (k0_pay8 (W (k0_off6 i k) (k0_off6_inb i k))) (sndPair a)
        (p.1, p.2.1, p.2.2.1, p.2.2.2.1, p.2.2.2.2, q)) := by
  with_unfolding_all rfl

/-- The first loop's carried value after `n` trips, at the run's arguments. -/
abbrev carry1 (n : ℕ) : Carry :=
  st_k0_t1 (F := Ideal) Variants.none c none i arg3 harg3 arg4 harg4 arg5 harg5 arg6 harg6 k0_pay49
    (k0_pay50 (qTile arg3 harg3 x0 ![0, 0] inb_S512x512_S512x128_0_0)) (k0_pay51 (qTile arg3 harg3 x0 ![0, 128] inb_S512x512_S512x128_0_128))
    (k0_pay52 (qTile arg3 harg3 x0 ![0, 256] inb_S512x512_S512x128_0_256)) (k0_pay53 (qTile arg3 harg3 x0 ![0, 384] inb_S512x512_S512x128_0_384))
    (firstMasked i) (Scalar.muli (BitVec.ofNat 32 (i 2).val) 512#32)
    (k0_pay54 (F := Ideal)) (k0_pay55 (F := Ideal)) (k0_pay56 (F := Ideal)) (k0_pay57 (F := Ideal)) (Scalar.ofBits .f32 0x00000000#32)
    (harg4.unread x1) (harg5.unread x2)
    (k0_pay54 (F := Ideal), k0_pay55 (F := Ideal), k0_pay56 (F := Ideal), k0_pay57 (F := Ideal), k0_pay58 (Scalar.ofBits .f32 0x00000000#32),
      k0_pay59 (F := Ideal), k0_pay60 (F := Ideal), k0_pay61 (F := Ideal), k0_pay62 (F := Ideal), k0_pay63 (F := Ideal)) n

/-- The carried value after both loops (the second makes no trip). -/
abbrev carry2 : Carry :=
  st_k0_t2 (F := Ideal) Variants.none c none i arg3 harg3 arg4 harg4 arg5 harg5 arg6 harg6 k0_pay49
    (k0_pay50 (qTile arg3 harg3 x0 ![0, 0] inb_S512x512_S512x128_0_0)) (k0_pay51 (qTile arg3 harg3 x0 ![0, 128] inb_S512x512_S512x128_0_128))
    (k0_pay52 (qTile arg3 harg3 x0 ![0, 256] inb_S512x512_S512x128_0_256)) (k0_pay53 (qTile arg3 harg3 x0 ![0, 384] inb_S512x512_S512x128_0_384))
    (firstMasked i) (Scalar.muli (BitVec.ofNat 32 (i 2).val) 512#32)
    (k0_pay54 (F := Ideal)) (k0_pay55 (F := Ideal)) (k0_pay56 (F := Ideal)) (k0_pay57 (F := Ideal)) (Scalar.ofBits .f32 0x00000000#32)
    (k0_t2_loop i).lb
    (harg4.unread x1) (harg5.unread x2)
    (regroup (carry1 c i arg3 harg3 arg4 harg4 arg5 harg5 arg6 harg6 x0 x1 x2 (k0_t1_loop i).trips)) (k0_t2_loop i).trips

/-- A chunk of the staged keys, and of the staged values. -/
abbrev kTile (off : Fin 2 → ℕ) (h : ∀ d, off d + S1024x128.size d ≤ S8192x512.size d) : Vec Ideal S1024x128 .bf16 :=
  View.readAt (Elt Ideal) arg4.view (Rect.unit (s := S8192x512) off S1024x128.size h).toLoadRect (harg4.unread x1)
abbrev vTile (off : Fin 2 → ℕ) (h : ∀ d, off d + S1024x128.size d ≤ S8192x256.size d) : Vec Ideal S1024x128 .bf16 :=
  View.readAt (Elt Ideal) arg5.view (Rect.unit (s := S8192x256) off S1024x128.size h).toLoadRect (harg5.unread x2)

/-- The first pair's tile after the last chunk. -/
def lastTile0 (a : Carry) (mask : IVec S512x1024 1) (s0 s1 : FVec Ideal S512x1024 .f32) (w : Vec Ideal S1024x128 .bf16) : FVec Ideal S512x128 .bf16 :=
  k0_pay1 k0_pay49 (k0_pay83 a.1 a.2.1 mask s0) (k0_pay90 (k0_pay88 a.2.2.1 a.2.2.2.1 mask s1) (k0_pay89 a.2.2.1 mask s1))
    (k0_pay91 k0_pay49 a.2.2.2.2.1 (k0_pay78 w) (k0_pay81 a.1 mask s0) (k0_pay84 a.1 mask s0) (k0_pay86 a.2.2.1 mask s1) (k0_pay87 a.2.2.1 mask s1))

/-- The second pair's. -/
def lastTile1 (a : Carry) (s0 s1 : FVec Ideal S512x1024 .f32) (w : Vec Ideal S1024x128 .bf16) : FVec Ideal S512x128 .bf16 :=
  k0_pay2 k0_pay49 (k0_pay79 w) (k0_pay95 a.2.2.2.2.2.1 a.2.2.2.2.2.2.1 s0) (k0_pay99 a.2.2.2.2.2.2.2.1 a.2.2.2.2.2.2.2.2.1 s1)
    (k0_pay100 a.2.2.2.2.2.2.2.1 s1) (k0_pay101 k0_pay49 a.2.2.2.2.2.1 a.2.2.2.2.2.2.2.1 a.2.2.2.2.2.2.2.2.2 s0 s1)
    (k0_pay102 a.2.2.2.2.2.1 s0 (k0_pay79 w)) (constant S512x128 .f32 0x00000000#32)

/-- The first pair's tile is its weighted values over its weights' sums, after one more step. -/
theorem lastTile0_eq (a : Carry) (mask : IVec S512x1024 1) (s0 s1 : FVec Ideal S512x1024 .f32) (w : Vec Ideal S1024x128 .bf16) :
    lastTile0 a mask s0 s1 w
      = (let p := stepPair (k0_pay74 mask s0) (k0_pay74 mask s1) (k0_pay7 w) (fstPair a)
        k0_pay1 k0_pay49 p.2.1 p.2.2.2.1 p.2.2.2.2) := by
  with_unfolding_all rfl

theorem lastTile1_eq (a : Carry) (s0 s1 : FVec Ideal S512x1024 .f32) (w : Vec Ideal S1024x128 .bf16) :
    lastTile1 a s0 s1 w
      = (let p := stepPair s0 s1 (k0_pay7 w) (sndPair a)
        k0_pay1 k0_pay49 p.2.1 p.2.2.2.1 p.2.2.2.2) := by
  with_unfolding_all rfl

/-- The causal mask of the last chunk. -/
abbrev mask : IVec S512x1024 1 := k0_pay70 (firstMasked i) (Scalar.muli (BitVec.ofNat 32 (i 2).val) 512#32)

seal st_k0_t1 st_k0_t2 in
/-- The two tiles a grid step stores. -/
theorem pieces_eq :
    (kernelRun0_A (F := Ideal) c i arg3 harg3 arg4 harg4 arg5 harg5 arg6 harg6 x0 x1 x2).1
      = [⟨Rect.unit (s := S512x256) ![0, 128] S512x128.size inb_S512x256_S512x128_0_128,
          lastTile1 (carry2 c i arg3 harg3 arg4 harg4 arg5 harg5 arg6 harg6 x0 x1 x2)
            (k0_pay76 (mask i) (k0_pay73 (k0_pay52 (qTile arg3 harg3 x0 ![0, 256] inb_S512x512_S512x128_0_256)) (kTile arg4 harg4 x1 (k0_off15 i) (k0_off15_inb i))))
            (k0_pay77 (k0_pay53 (qTile arg3 harg3 x0 ![0, 384] inb_S512x512_S512x128_0_384)) (mask i) (kTile arg4 harg4 x1 (k0_off16 i) (k0_off16_inb i)))
            (vTile arg5 harg5 x2 (k0_off18 i) (k0_off18_inb i))⟩,
         ⟨Rect.unit (s := S512x256) ![0, 0] S512x128.size inb_S512x256_S512x128_0_0,
          lastTile0 (carry2 c i arg3 harg3 arg4 harg4 arg5 harg5 arg6 harg6 x0 x1 x2) (mask i)
            (k0_pay71 (k0_pay50 (qTile arg3 harg3 x0 ![0, 0] inb_S512x512_S512x128_0_0)) (kTile arg4 harg4 x1 (k0_off13 i) (k0_off13_inb i)))
            (k0_pay72 (k0_pay51 (qTile arg3 harg3 x0 ![0, 128] inb_S512x512_S512x128_0_128)) (kTile arg4 harg4 x1 (k0_off14 i) (k0_off14_inb i)))
            (vTile arg5 harg5 x2 (k0_off17 i) (k0_off17_inb i))⟩] := by
  unfold kernelRun0_A
  rfl

end Cert.Mla

end
-- ==== Proof.Online.lean ====
/- The softmax of a row taken a run of keys at a time, on sequences of extended reals: the largest
   score so far, the sum of the weights relative to it, and the weighted sum of the values. -/
module

public import Idealize.ShloMosaic.PureOps
public import Idealize.ShloMosaic.Lib.Pointwise

@[expose] public section

noncomputable section

namespace Cert.Online

open Idealize.ShloMosaic

/-- The largest of the first `n` scores (`⊥` of none). -/
def top (s : ℕ → EReal) (n : ℕ) : EReal := (Finset.range n).sup s

/-- The first `n` weights `2 ^ (s k - m)`, added up. -/
def wsum (s : ℕ → EReal) (m : EReal) (n : ℕ) : EReal := ∑ k ∈ Finset.range n, Ideal.exp2 (s k - m)

/-- The first `n` values, each times its weight `2 ^ (s k - m)`, added up. -/
def vsum (s v : ℕ → EReal) (m : EReal) (n : ℕ) : EReal :=
  ∑ k ∈ Finset.range n, Ideal.exp2 (s k - m) * v k

theorem exp2_nonneg (x : EReal) : 0 ≤ Ideal.exp2 x := by
  induction x with
  | bot => simp
  | top => simp
  | coe r => simp only [Ideal.exp2_coe]; exact_mod_cast (Real.rpow_pos_of_pos (by norm_num) r).le

/-- A weight relative to a bound of its score is a real number. -/
theorem exp2_sub_ne_top {x a : EReal} (h : x ≤ a) : Ideal.exp2 (x - a) ≠ ⊤ := by
  induction a with
  | bot => obtain rfl := le_bot_iff.mp h; simp
  | top => rw [EReal.sub_top]; simp
  | coe a =>
    induction x with
    | bot => simp
    | top => exact absurd h (by simp)
    | coe x => rw [← EReal.coe_sub, Ideal.exp2_coe]; exact EReal.coe_ne_top _

/-- Raising the bound from `a` to `b` multiplies a weight by `2 ^ (a - b)`. -/
theorem exp2_shift {x a b : EReal} (hx : x ≤ a) (hab : a ≤ b) :
    Ideal.exp2 (a - b) * Ideal.exp2 (x - a) = Ideal.exp2 (x - b) := by
  induction a with
  | bot => obtain rfl := le_bot_iff.mp hx; simp
  | top => obtain rfl := top_le_iff.mp hab; simp only [EReal.sub_top]; simp
  | coe a =>
    induction b with
    | bot => exact absurd hab (by simp)
    | top => simp only [EReal.sub_top]; simp
    | coe b =>
      induction x with
      | bot => simp
      | top => exact absurd hx (by simp)
      | coe x =>
        simp only [← EReal.coe_sub, Ideal.exp2_coe, ← EReal.coe_mul]
        congr 1
        show (2 : ℝ) ^ (a - b) * (2 : ℝ) ^ (x - a) = (2 : ℝ) ^ (x - b)
        rw [← Real.rpow_add (by norm_num)]; congr 1; ring

/-- A nonnegative real factor goes into a sum of extended reals. -/
theorem mul_sum {ι : Type} (S : Finset ι) (f : ι → EReal) {a : EReal} (h0 : 0 ≤ a) (h1 : a ≠ ⊤) :
    a * ∑ k ∈ S, f k = ∑ k ∈ S, a * f k := by
  classical
  induction S using Finset.induction_on with
  | empty => simp
  | insert k S hk ih =>
    rw [Finset.sum_insert hk, Finset.sum_insert hk, EReal.left_distrib_of_nonneg_of_ne_top h0 h1, ih]

theorem le_top_of_lt {s : ℕ → EReal} {n k : ℕ} (h : k < n) : s k ≤ top s n :=
  Finset.le_sup (f := s) (Finset.mem_range.mpr h)

theorem top_mono (s : ℕ → EReal) {n p : ℕ} (h : n ≤ p) : top s n ≤ top s p :=
  Finset.sup_mono (Finset.range_mono h)

/-- The largest of a run that follows the first `n` scores, with the largest of those. -/
theorem top_add (s : ℕ → EReal) (n t : ℕ) : max (top s n) (top (fun j => s (n + j)) t) = top s (n + t) := by
  apply le_antisymm
  · refine max_le (top_mono s (by omega)) (Finset.sup_le fun j hj => ?_)
    exact le_top_of_lt (by have := Finset.mem_range.mp hj; omega)
  · refine Finset.sup_le fun k hk => ?_
    by_cases h : k < n
    · exact le_max_of_le_left (le_top_of_lt h)
    · refine le_max_of_le_right ?_
      have e : s k = (fun j => s (n + j)) (k - n) := by show s k = s (n + (k - n)); congr 1; omega
      rw [e]
      exact le_top_of_lt (s := fun j => s (n + j)) (by have := Finset.mem_range.mp hk; omega)

/-- The weights' sum after a further run of `t` scores: the old one at the new bound, and the run's. -/
theorem wsum_add (s : ℕ → EReal) (n t : ℕ) :
    Ideal.exp2 (top s n - top s (n + t)) * wsum s (top s n) n + wsum (fun j => s (n + j)) (top s (n + t)) t
      = wsum s (top s (n + t)) (n + t) := by
  unfold wsum
  rw [mul_sum _ _ (exp2_nonneg _) (exp2_sub_ne_top (top_mono s (by omega))), Finset.sum_range_add]
  congr 1
  exact Finset.sum_congr rfl fun k hk =>
    exp2_shift (le_top_of_lt (Finset.mem_range.mp hk)) (top_mono s (by omega))

/-- The values' weighted sum after a further run of `t` scores. -/
theorem vsum_add (s v : ℕ → EReal) (n t : ℕ) :
    vsum s v (top s n) n * Ideal.exp2 (top s n - top s (n + t))
        + vsum (fun j => s (n + j)) (fun j => v (n + j)) (top s (n + t)) t
      = vsum s v (top s (n + t)) (n + t) := by
  unfold vsum
  rw [mul_comm, mul_sum _ _ (exp2_nonneg _) (exp2_sub_ne_top (top_mono s (by omega))), Finset.sum_range_add]
  congr 1
  refine Finset.sum_congr rfl fun k hk => ?_
  rw [← mul_assoc, exp2_shift (le_top_of_lt (Finset.mem_range.mp hk)) (top_mono s (by omega))]

/-- Scores that are all `⊥` past the first `n` change nothing. -/
theorem top_of_masked {s : ℕ → EReal} {n p : ℕ} (h : n ≤ p) (hs : ∀ k, n ≤ k → k < p → s k = ⊥) :
    top s p = top s n := by
  refine le_antisymm (Finset.sup_le fun k hk => ?_) (top_mono s h)
  by_cases hk' : k < n
  · exact le_top_of_lt hk'
  · rw [hs k (by omega) (Finset.mem_range.mp hk)]; exact bot_le

theorem wsum_of_masked {s : ℕ → EReal} {n p : ℕ} (m : EReal) (h : n ≤ p) (hs : ∀ k, n ≤ k → k < p → s k = ⊥) :
    wsum s m p = wsum s m n := by
  unfold wsum
  refine (Finset.sum_subset (Finset.range_mono h) fun k hk hk' => ?_).symm
  rw [hs k (by simpa using hk') (Finset.mem_range.mp hk)]; simp

theorem vsum_of_masked {s : ℕ → EReal} (v : ℕ → EReal) {n p : ℕ} (m : EReal) (h : n ≤ p)
    (hs : ∀ k, n ≤ k → k < p → s k = ⊥) : vsum s v m p = vsum s v m n := by
  unfold vsum
  refine (Finset.sum_subset (Finset.range_mono h) fun k hk hk' => ?_).symm
  rw [hs k (by simpa using hk') (Finset.mem_range.mp hk)]; simp

/-- A running maximum over an axis from `⊥`, as the largest of a sequence's first scores. -/
theorem fold_max (s : ℕ → EReal) (t : ℕ) (f : Fin t → EReal) (h : ∀ j : Fin t, f j = s j.val) :
    Finset.univ.fold max ⊥ f = top s t := by
  have e : Finset.univ.fold max ⊥ f = (Finset.univ : Finset (Fin t)).sup f := rfl
  rw [e]
  refine le_antisymm (Finset.sup_le fun j _ => ?_) (Finset.sup_le fun k hk => ?_)
  · rw [h]; exact le_top_of_lt j.isLt
  · have := h ⟨k, Finset.mem_range.mp hk⟩
    simp only at this
    rw [← this]; exact Finset.le_sup (f := f) (Finset.mem_univ _)

/-- A sum over an axis, as the sum of a sequence's first terms. -/
theorem sum_fin (g : ℕ → EReal) (t : ℕ) (f : Fin t → EReal) (h : ∀ j : Fin t, f j = g j.val) :
    ∑ j, f j = ∑ k ∈ Finset.range t, g k := by
  rw [Finset.sum_range]; exact Finset.sum_congr rfl fun j _ => h j

/-! ## From powers of two to exponentials, and from one division to a division of each weight -/

/-- A nonempty row of scores that are real or `⊥`, the first of them real, has a real largest score. -/
theorem top_real {s : ℕ → EReal} {n : ℕ} (hn : 0 < n) (h0 : s 0 ≠ ⊥) (ht : ∀ k, k < n → s k ≠ ⊤) :
    ∃ r : ℝ, top s n = r := by
  have hb : top s n ≠ ⊥ := fun e => h0 (le_bot_iff.mp (e ▸ le_top_of_lt hn))
  have hT : top s n ≠ ⊤ := by
    refine ne_of_lt ((Finset.sup_lt_iff (by simp)).mpr fun k hk => ?_)
    exact lt_top_iff_ne_top.mpr (ht k (Finset.mem_range.mp hk))
  exact ⟨_, (EReal.coe_toReal hT hb).symm⟩

/-- Scaling every score by a positive real scales the largest. -/
theorem top_mul (s : ℕ → EReal) {c : ℝ} (hc : 0 < c) (n : ℕ) :
    top (fun k => s k * (c : EReal)) n = top s n * (c : EReal) := by
  have hc0 : (0 : EReal) ≤ (c : EReal) := by exact_mod_cast hc.le
  induction n with
  | zero => simp [top, EReal.bot_mul_coe_of_pos hc]
  | succ n ih =>
    have e : ∀ f : ℕ → EReal, top f (n + 1) = max (f n) (top f n) := fun f => by
      unfold top; rw [Finset.range_add_one, Finset.sup_insert]
    rw [e, e, ih]
    rcases le_total (s n) (top s n) with h | h
    · rw [max_eq_right h, max_eq_right (mul_le_mul_of_nonneg_right h hc0)]
    · rw [max_eq_left h, max_eq_left (mul_le_mul_of_nonneg_right h hc0)]

/-- Two to a difference of scores over `log 2` is the exponential of the difference. -/
theorem exp2_eq_exp {x : EReal} (hx : x ≠ ⊤) (M : ℝ) :
    Ideal.exp2 (x * (((Real.log 2)⁻¹ : ℝ) : EReal) - (M : EReal) * (((Real.log 2)⁻¹ : ℝ) : EReal))
      = Ideal.exp (x - (M : EReal)) := by
  have hl : (0 : ℝ) < Real.log 2 := Real.log_pos (by norm_num)
  induction x with
  | bot =>
    rw [EReal.bot_mul_coe_of_pos (inv_pos.mpr hl)]; simp
  | top => exact absurd rfl hx
  | coe x =>
    simp only [← EReal.coe_mul, ← EReal.coe_sub, Ideal.exp2_coe, Ideal.exp_coe]
    congr 1
    show (2 : ℝ) ^ (x * (Real.log 2)⁻¹ - M * (Real.log 2)⁻¹) = Real.exp (x - M)
    rw [Real.rpow_def_of_pos (by norm_num)]
    congr 1
    field_simp

/-- THE EQUATION OF ONE RESULT. The scores `s` are real or `⊥`, the first real. The weighted sum at base-two scores `s / log 2`,
    divided by the sum of the weights, is the sum of the values each times its softmax weight. -/
theorem quotient_eq (s v : ℕ → EReal) {n : ℕ} (hn : 0 < n) (h0 : s 0 ≠ ⊥) (ht : ∀ k, k < n → s k ≠ ⊤) :
    Ideal.div (vsum (fun k => s k * (((Real.log 2)⁻¹ : ℝ) : EReal)) v
          (top (fun k => s k * (((Real.log 2)⁻¹ : ℝ) : EReal)) n) n)
        (wsum (fun k => s k * (((Real.log 2)⁻¹ : ℝ) : EReal))
          (top (fun k => s k * (((Real.log 2)⁻¹ : ℝ) : EReal)) n) n)
      = ∑ k ∈ Finset.range n, Ideal.div (Ideal.exp (s k - top s n)) (∑ j ∈ Finset.range n, Ideal.exp (s j - top s n)) * v k := by
  have hl : (0 : ℝ) < Real.log 2 := Real.log_pos (by norm_num)
  obtain ⟨M, hM⟩ := top_real hn h0 ht
  have ew : wsum (fun k => s k * (((Real.log 2)⁻¹ : ℝ) : EReal))
          (top (fun k => s k * (((Real.log 2)⁻¹ : ℝ) : EReal)) n) n
        = ∑ j ∈ Finset.range n, Ideal.exp (s j - top s n) := by
    unfold wsum
    rw [top_mul s (inv_pos.mpr hl), hM]
    exact Finset.sum_congr rfl fun k hk => exp2_eq_exp (ht k (Finset.mem_range.mp hk)) M
  have ev : vsum (fun k => s k * (((Real.log 2)⁻¹ : ℝ) : EReal)) v
          (top (fun k => s k * (((Real.log 2)⁻¹ : ℝ) : EReal)) n) n
        = ∑ j ∈ Finset.range n, Ideal.exp (s j - top s n) * v j := by
    unfold vsum
    rw [top_mul s (inv_pos.mpr hl), hM]
    exact Finset.sum_congr rfl fun k hk => by rw [exp2_eq_exp (ht k (Finset.mem_range.mp hk)) M]
  rw [ew, ev, hM]
  -- the weights are real and their sum is a positive real
  have hw : ∀ k, k < n → ∃ w : ℝ, 0 ≤ w ∧ Ideal.exp (s k - (M : EReal)) = (w : EReal) := fun k hk => by
    have := ht k hk
    generalize s k = x at this
    induction x with
    | bot => exact ⟨0, le_rfl, by simp⟩
    | top => exact absurd rfl this
    | coe x => exact ⟨Real.exp (x - M), (Real.exp_pos _).le, by rw [← EReal.coe_sub, Ideal.exp_coe]⟩
  have hL : ∃ L : ℝ, 0 < L ∧ ∑ j ∈ Finset.range n, Ideal.exp (s j - (M : EReal)) = (L : EReal) := by
    choose! w hw0 hwe using hw
    refine ⟨∑ j ∈ Finset.range n, w j, ?_, ?_⟩
    · refine Finset.sum_pos' (fun j hj => hw0 j (Finset.mem_range.mp hj)) ⟨0, Finset.mem_range.mpr hn, ?_⟩
      have e := hwe 0 hn
      have hx := ht 0 hn
      generalize s 0 = x at e h0 hx
      induction x with
      | bot => exact absurd rfl h0
      | top => exact absurd rfl hx
      | coe x =>
        rw [← EReal.coe_sub, Ideal.exp_coe] at e
        rw [← EReal.coe_eq_coe_iff.mp e]; exact Real.exp_pos _
    · rw [Finset.sum_congr rfl fun j hj => hwe j (Finset.mem_range.mp hj)]
      induction n with
      | zero => exact absurd hn (lt_irrefl _)
      | succ n _ => exact (map_sum (⟨⟨fun r : ℝ => (r : EReal), rfl⟩, fun _ _ => rfl⟩ : ℝ →+ EReal) w _).symm
  obtain ⟨L, hL0, hLe⟩ := hL
  rw [hLe]
  have hne : (L : EReal) ≠ 0 := by exact_mod_cast hL0.ne'
  have hd : ∀ x, Ideal.div x (L : EReal) = x * ((L⁻¹ : ℝ) : EReal) := fun x => by
    unfold Ideal.div; rw [if_neg hne, EReal.coe_inv]
  rw [hd, mul_comm, mul_sum _ _ (by exact_mod_cast (inv_pos.mpr hL0).le) (EReal.coe_ne_top _)]
  refine Finset.sum_congr rfl fun k _ => ?_
  rw [hd, ← mul_assoc, mul_comm (((L⁻¹ : ℝ) : EReal))]

end Cert.Online

end
-- ==== Proof.Step.lean ====
/- What a chunk's step does, row by row: it takes the running softmax of the first `n` keys to that of the first
   `n + 1024`. -/
module

public import proofs.«01_k».proof.Proof.Body
public import proofs.«01_k».proof.Proof.Online

@[expose] public section

set_option maxRecDepth 16384

noncomputable section

namespace Cert.Mla

open Idealize.ShloMosaic Idealize.ShloMosaic.TcCoe Idealize.SL.Sem
open Cert.KernelIdeal Cert.KernelIdeal.Gen Cert.Online

/-- The `-∞` a maximum starts from. -/
theorem negInf : Ideal.ofBits FTy.f32 4286578688#32 = ⊥ := by
  simp [Ideal.ofBits, Ideal.ieee]

/-- Choosing by a decided condition. -/
theorem select_ofBool {α : Type} (d : Bool) (a b : α) : Scalar.select (BitVec.ofBool d) a b = if d then a else b := by
  cases d <;> rfl

/-- The lane mask takes the first head's value in lanes below 64. -/
theorem select_lane {α : Type} (l : Fin 128) (a b : α) :
    Scalar.select (k0_pay49 (ix2 (0 : Fin 1) l)) a b = if l.val < 64 then a else b := by
  pointwise [k0_pay49]
  rw [WordCmp.cmpi_slt_ofNat (by have := l.isLt; omega) (by norm_num), select_ofBool]
  simp

/-- A pair's carried value is the running softmax of each row over its first `n` keys: `S0`, `S1` the scores of the two
    heads, `V` the values by lane. -/
structure Holds (S0 S1 : Fin 512 → ℕ → EReal) (V : Fin 128 → ℕ → EReal) (n : ℕ) (p : Pair) : Prop where
  m0 : ∀ r : Fin 512, p.1 (ix2 r (0 : Fin 1)) = top (S0 r) n
  l0 : ∀ r : Fin 512, p.2.1 (ix2 r (0 : Fin 1)) = wsum (S0 r) (top (S0 r) n) n
  m1 : ∀ r : Fin 512, p.2.2.1 (ix2 r (0 : Fin 1)) = top (S1 r) n
  l1 : ∀ r : Fin 512, p.2.2.2.1 (ix2 r (0 : Fin 1)) = wsum (S1 r) (top (S1 r) n) n
  acc : ∀ (r : Fin 512) (l : Fin 128), p.2.2.2.2 (ix2 r l)
    = if l.val < 64 then vsum (S0 r) (V l) (top (S0 r) n) n else vsum (S1 r) (V l) (top (S1 r) n) n

variable {S0 S1 : Fin 512 → ℕ → EReal} {V : Fin 128 → ℕ → EReal}

/-- The largest score after the chunk. -/
theorem max_step {S : Fin 512 → ℕ → EReal} {n : ℕ} {m : FVec Ideal S512x1 .f32} {s : FVec Ideal S512x1024 .f32}
    (hm : ∀ r : Fin 512, m (ix2 r (0 : Fin 1)) = top (S r) n)
    (hs : ∀ (r : Fin 512) (j : Fin 1024), s (ix2 r j) = S r (n + j.val)) (r : Fin 512) :
    max (m (ix2 r (0 : Fin 1))) (Finset.univ.fold max (Ideal.ofBits FTy.f32 4286578688#32) fun x : Fin 1024 => s (ix2 r x))
      = top (S r) (n + 1024) := by
  rw [negInf, fold_max (fun j => S r (n + j)) 1024 _ (hs r), hm, top_add]

/-- The weights' sum after the chunk. -/
theorem weights_step {S : Fin 512 → ℕ → EReal} {n : ℕ} {m l : FVec Ideal S512x1 .f32} {s : FVec Ideal S512x1024 .f32}
    (hm : ∀ r : Fin 512, m (ix2 r (0 : Fin 1)) = top (S r) n)
    (hl : ∀ r : Fin 512, l (ix2 r (0 : Fin 1)) = wsum (S r) (top (S r) n) n)
    (hs : ∀ (r : Fin 512) (j : Fin 1024), s (ix2 r j) = S r (n + j.val)) (r : Fin 512) :
    k0_pay16 m l s (ix2 r (0 : Fin 1)) = wsum (S r) (top (S r) (n + 1024)) (n + 1024) := by
  pointwise [k0_pay16, k0_pay15, k0_pay14, k0_pay13]
  rw [max_step hm hs r, hm, hl]
  rw [sum_fin (fun j => Ideal.exp2 (S r (n + j) - top (S r) (n + 1024))) 1024 _ (fun j => by rw [hs]; rfl)]
  exact wsum_add (S r) n 1024

/-- The largest score after the chunk, as the step computes it. -/
theorem largest_step {S : Fin 512 → ℕ → EReal} {n : ℕ} {m : FVec Ideal S512x1 .f32} {s : FVec Ideal S512x1024 .f32}
    (hm : ∀ r : Fin 512, m (ix2 r (0 : Fin 1)) = top (S r) n)
    (hs : ∀ (r : Fin 512) (j : Fin 1024), s (ix2 r j) = S r (n + j.val)) (r : Fin 512) :
    k0_pay13 m s (ix2 r (0 : Fin 1)) = top (S r) (n + 1024) := by
  pointwise [k0_pay13]
  rw [max_step hm hs r]

/-- The weighted values after the chunk. -/
theorem values_step {n : ℕ} {m0 m1 : FVec Ideal S512x1 .f32} {acc : FVec Ideal S512x128 .f32} {s0 s1 : FVec Ideal S512x1024 .f32}
    {w : FVec Ideal S1024x128 .bf16}
    (hm0 : ∀ r : Fin 512, m0 (ix2 r (0 : Fin 1)) = top (S0 r) n)
    (hm1 : ∀ r : Fin 512, m1 (ix2 r (0 : Fin 1)) = top (S1 r) n)
    (ha : ∀ (r : Fin 512) (l : Fin 128), acc (ix2 r l)
      = if l.val < 64 then vsum (S0 r) (V l) (top (S0 r) n) n else vsum (S1 r) (V l) (top (S1 r) n) n)
    (h0 : ∀ (r : Fin 512) (j : Fin 1024), s0 (ix2 r j) = S0 r (n + j.val))
    (h1 : ∀ (r : Fin 512) (j : Fin 1024), s1 (ix2 r j) = S1 r (n + j.val))
    (hw : ∀ (j : Fin 1024) (l : Fin 128), w (ix2 j l) = V l (n + j.val)) (r : Fin 512) (l : Fin 128) :
    k0_pay17 k0_pay49 m1 acc s1 w (k0_pay14 m0 s0) (k0_pay15 m0 s0) (ix2 r l)
      = if l.val < 64 then vsum (S0 r) (V l) (top (S0 r) (n + 1024)) (n + 1024)
        else vsum (S1 r) (V l) (top (S1 r) (n + 1024)) (n + 1024) := by
  pointwise [k0_pay17, k0_pay15, k0_pay14, k0_pay13]
  rw [max_step hm0 h0 r, max_step hm1 h1 r, hm0, hm1, select_lane, select_lane, ha]
  have e0 : ∑ x : Fin 1024, FloatOps.exp2 (F := Ideal) (φ := .f32) (s0 (ix2 r x) - top (S0 r) (n + 1024)) * w (ix2 x l)
      = vsum (fun j => S0 r (n + j)) (fun j => V l (n + j)) (top (S0 r) (n + 1024)) 1024 :=
    sum_fin (fun j => Ideal.exp2 (S0 r (n + j) - top (S0 r) (n + 1024)) * V l (n + j)) 1024 _ (fun j => by rw [h0, hw]; rfl)
  have e1 : ∑ x : Fin 1024, FloatOps.exp2 (F := Ideal) (φ := .f32) (s1 (ix2 r x) - top (S1 r) (n + 1024)) * w (ix2 x l)
      = vsum (fun j => S1 r (n + j)) (fun j => V l (n + j)) (top (S1 r) (n + 1024)) 1024 :=
    sum_fin (fun j => Ideal.exp2 (S1 r (n + j) - top (S1 r) (n + 1024)) * V l (n + j)) 1024 _ (fun j => by rw [h1, hw]; rfl)
  rw [e0, e1]
  split
  · exact vsum_add (S0 r) (V l) n 1024
  · exact vsum_add (S1 r) (V l) n 1024

/-- A chunk's step takes the running softmax of the first `n` keys to that of the first `n + 1024`. -/
theorem stepPair_holds {p : Pair} {n : ℕ} (h : Holds S0 S1 V n p) {s0 s1 : FVec Ideal S512x1024 .f32}
    {w : FVec Ideal S1024x128 .bf16}
    (h0 : ∀ (r : Fin 512) (j : Fin 1024), s0 (ix2 r j) = S0 r (n + j.val))
    (h1 : ∀ (r : Fin 512) (j : Fin 1024), s1 (ix2 r j) = S1 r (n + j.val))
    (hw : ∀ (j : Fin 1024) (l : Fin 128), w (ix2 j l) = V l (n + j.val)) :
    Holds S0 S1 V (n + 1024) (stepPair s0 s1 w p) := by
  unfold stepPair
  exact ⟨largest_step h.m0 h0, weights_step h.m0 h.l0 h0, largest_step h.m1 h1, weights_step h.m1 h.l1 h1,
    values_step h.m0 h.m1 h.acc h0 h1 hw⟩

/-- No key seen. -/
theorem init_holds : Holds S0 S1 V 0 initPair := by
  refine ⟨?_, ?_, ?_, ?_, ?_⟩ <;> intros <;> unfold initPair
  · pointwise [k0_pay54]; rw [negInf]; simp [top]
  · pointwise [k0_pay55]; simp [wsum]
  · pointwise [k0_pay56]; rw [negInf]; simp [top]
  · pointwise [k0_pay57]; simp [wsum]
  · pointwise [k0_pay63]; simp [vsum]

/-- What a pair's tile holds: the weighted values over the weights' sum, of the lane's head. -/
theorem out_eq {p : Pair} {n : ℕ} (h : Holds S0 S1 V n p) (r : Fin 512) (l : Fin 128) :
    k0_pay1 k0_pay49 p.2.1 p.2.2.2.1 p.2.2.2.2 (ix2 r l)
      = if l.val < 64 then Ideal.div (vsum (S0 r) (V l) (top (S0 r) n) n) (wsum (S0 r) (top (S0 r) n) n)
        else Ideal.div (vsum (S1 r) (V l) (top (S1 r) n) n) (wsum (S1 r) (top (S1 r) n) n) := by
  pointwise [k0_pay1]
  rw [select_lane, h.l0, h.l1, h.acc]
  split <;> rfl

end Cert.Mla

end
-- ==== Proof.Block.lean ====
/- What one grid step stores: each row's attention, read off the staged blocks. -/
module

public import proofs.«01_k».proof.Proof.Step
public import Idealize.ShloMosaic.Lib.WholeRead

@[expose] public section

set_option maxRecDepth 16384

noncomputable section

namespace Cert.Mla

open Idealize.ShloMosaic Idealize.ShloMosaic.TcCoe Idealize.SL.Sem
open Cert.KernelIdeal Cert.KernelIdeal.Gen Cert.Online

/-! ## The words the kernel computes -/

/-- A grid point with a given last coordinate: what depends on the last coordinate alone is the same at it. -/
def atRow (j : Fin 16) : grid0.Coords := fun a => match a with
  | ⟨0, _⟩ => (0 : Fin 8)
  | ⟨1, _⟩ => (0 : Fin 2)
  | ⟨2, _⟩ => j

theorem firstMasked_eq (i : grid0.Coords) : firstMasked i = BitVec.ofNat 32 ((i 2).val / 2) :=
  (by decide +kernel : ∀ j : Fin 16, firstMasked (atRow j) = BitVec.ofNat 32 (j.val / 2)) (i 2)

/-- The first loop takes the chunks before the first that needs the mask. -/
theorem trips1 (i : grid0.Coords) : (k0_t1_loop i).trips = (i 2).val / 2 :=
  (by decide +kernel : ∀ j : Fin 16, (k0_t1_loop (atRow j)).trips = j.val / 2) (i 2)

theorem trips2 (i : grid0.Coords) : (k0_t2_loop i).trips = 0 :=
  (by decide +kernel : ∀ j : Fin 16, (k0_t2_loop (atRow j)).trips = 0) (i 2)

theorem chunk_word : ∀ n : Fin 8, (Scalar.indexCast (Scalar.muli (Scf.iv 0#32 1#32 n.val) 1024#32) : Index).toNat = 1024 * n.val := by
  decide +kernel

theorem row_lt (i : grid0.Coords) : (i 2).val < 16 := (i 2).isLt

theorem trip_lt (i : grid0.Coords) (k : Fin (k0_t1_loop i).trips) : k.val < 8 := by
  have := k.isLt; have := trips1 i; have := row_lt i; omega

/-! Where each load starts: the loop's, chunk `k` of the keys and values at each head or pair's first column, -/

theorem off1 (i : grid0.Coords) (k : Fin (k0_t1_loop i).trips) : k0_off1 i k = ![1024 * k.val, 0] := by
  unfold k0_off1; dsimp only; rw [chunk_word ⟨k.val, trip_lt i k⟩]
theorem off2 (i : grid0.Coords) (k : Fin (k0_t1_loop i).trips) : k0_off2 i k = ![1024 * k.val, 128] := by
  unfold k0_off2; dsimp only; rw [chunk_word ⟨k.val, trip_lt i k⟩]
theorem off3 (i : grid0.Coords) (k : Fin (k0_t1_loop i).trips) : k0_off3 i k = ![1024 * k.val, 256] := by
  unfold k0_off3; dsimp only; rw [chunk_word ⟨k.val, trip_lt i k⟩]
theorem off4 (i : grid0.Coords) (k : Fin (k0_t1_loop i).trips) : k0_off4 i k = ![1024 * k.val, 384] := by
  unfold k0_off4; dsimp only; rw [chunk_word ⟨k.val, trip_lt i k⟩]
theorem off5 (i : grid0.Coords) (k : Fin (k0_t1_loop i).trips) : k0_off5 i k = ![1024 * k.val, 0] := by
  unfold k0_off5; dsimp only; rw [chunk_word ⟨k.val, trip_lt i k⟩]
theorem off6 (i : grid0.Coords) (k : Fin (k0_t1_loop i).trips) : k0_off6 i k = ![1024 * k.val, 128] := by
  unfold k0_off6; dsimp only; rw [chunk_word ⟨k.val, trip_lt i k⟩]

/-! and the last chunk's. -/

theorem off13 (i : grid0.Coords) : k0_off13 i = ![1024 * ((i 2).val / 2), 0] :=
  (by decide +kernel : ∀ j : Fin 16, k0_off13 (atRow j) = ![1024 * (j.val / 2), 0]) (i 2)
theorem off14 (i : grid0.Coords) : k0_off14 i = ![1024 * ((i 2).val / 2), 128] :=
  (by decide +kernel : ∀ j : Fin 16, k0_off14 (atRow j) = ![1024 * (j.val / 2), 128]) (i 2)
theorem off15 (i : grid0.Coords) : k0_off15 i = ![1024 * ((i 2).val / 2), 256] :=
  (by decide +kernel : ∀ j : Fin 16, k0_off15 (atRow j) = ![1024 * (j.val / 2), 256]) (i 2)
theorem off16 (i : grid0.Coords) : k0_off16 i = ![1024 * ((i 2).val / 2), 384] :=
  (by decide +kernel : ∀ j : Fin 16, k0_off16 (atRow j) = ![1024 * (j.val / 2), 384]) (i 2)
theorem off17 (i : grid0.Coords) : k0_off17 i = ![1024 * ((i 2).val / 2), 0] :=
  (by decide +kernel : ∀ j : Fin 16, k0_off17 (atRow j) = ![1024 * (j.val / 2), 0]) (i 2)
theorem off18 (i : grid0.Coords) : k0_off18 i = ![1024 * ((i 2).val / 2), 128] :=
  (by decide +kernel : ∀ j : Fin 16, k0_off18 (atRow j) = ![1024 * (j.val / 2), 128]) (i 2)

/-! ## What the loads read -/

theorem qTile_apply (arg3 : Memref sig .tc .vmem S512x512 .bf16) (harg3 : arg3.IsWhole) (x0 : Vec Ideal S512x512 .bf16)
    (off : Fin 2 → ℕ) (h) (b : ℕ) (e : off = ![0, b]) (hb : b + 128 ≤ 512) (r : Fin 512) (x : Fin 128) :
    qTile arg3 harg3 x0 off h (ix2 r x) = x0 (ix2 r (⟨b + x.val, by omega⟩ : Fin 512)) := by
  subst e
  unfold qTile
  rw [Idealize.ShloMosaic.Memref.IsWhole.readAt_unread harg3]
  exact congrArg x0 (by idx_ext)

theorem kTile_apply (arg4 : Memref sig .tc .vmem S8192x512 .bf16) (harg4 : arg4.IsWhole) (x1 : Vec Ideal S8192x512 .bf16)
    (off : Fin 2 → ℕ) (h) (a b : ℕ) (e : off = ![a, b]) (ha : a + 1024 ≤ 8192) (hb : b + 128 ≤ 512) (j : Fin 1024) (x : Fin 128) :
    kTile arg4 harg4 x1 off h (ix2 j x) = x1 (ix2 (⟨a + j.val, by omega⟩ : Fin 8192) (⟨b + x.val, by omega⟩ : Fin 512)) := by
  subst e
  unfold kTile
  rw [Idealize.ShloMosaic.Memref.IsWhole.readAt_unread harg4]
  exact congrArg x1 (by idx_ext)

theorem vTile_apply (arg5 : Memref sig .tc .vmem S8192x256 .bf16) (harg5 : arg5.IsWhole) (x2 : Vec Ideal S8192x256 .bf16)
    (off : Fin 2 → ℕ) (h) (a b : ℕ) (e : off = ![a, b]) (ha : a + 1024 ≤ 8192) (hb : b + 128 ≤ 256) (j : Fin 1024) (x : Fin 128) :
    vTile arg5 harg5 x2 off h (ix2 j x) = x2 (ix2 (⟨a + j.val, by omega⟩ : Fin 8192) (⟨b + x.val, by omega⟩ : Fin 256)) := by
  subst e
  unfold vTile
  rw [Idealize.ShloMosaic.Memref.IsWhole.readAt_unread harg5]
  exact congrArg x2 (by idx_ext)

/-! ## The mask -/

theorem mask_apply (i : grid0.Coords) (r : Fin 512) (j : Fin 1024) {α : Type} (a b : α) :
    Scalar.select (mask i (ix2 r j)) a b = if 1024 * ((i 2).val / 2) + j.val ≤ 512 * (i 2).val + r.val then a else b := by
  unfold mask
  pointwise [k0_pay70]
  rw [firstMasked_eq]
  rw [show IntOp.addi (Scalar.muli (BitVec.ofNat 32 ((i 2).val / 2)) 1024#32) (BitVec.ofNat 32 j.val)
      = BitVec.ofNat 32 ((i 2).val / 2 * 1024 + j.val) from by
        rw [BitVec.ofNat_add, BitVec.ofNat_mul]; rfl,
    show IntOp.addi (Scalar.muli (BitVec.ofNat 32 (i 2).val) 512#32) (BitVec.ofNat 32 r.val)
      = BitVec.ofNat 32 ((i 2).val * 512 + r.val) from by
        rw [BitVec.ofNat_add, BitVec.ofNat_mul]; rfl]
  have h2 := row_lt i
  generalize (i 2).val = q at h2 ⊢
  rw [WordCmp.cmpi_sle_ofNat (by omega) (by omega), select_ofBool]
  simp only [decide_eq_true_eq, Nat.mul_comm]

/-! ## The scores and the values of one grid step -/

/-- Key number `n` and column number `n`, as indices. -/
def key (n : ℕ) : Fin 8192 := ⟨n % 8192, Nat.mod_lt _ (by norm_num)⟩
def col (n : ℕ) : Fin 512 := ⟨n % 512, Nat.mod_lt _ (by norm_num)⟩
def vcol (n : ℕ) : Fin 256 := ⟨n % 256, Nat.mod_lt _ (by norm_num)⟩

theorem key_eq {n : ℕ} (h : n < 8192) : (⟨n, h⟩ : Fin 8192) = key n := Fin.ext (Nat.mod_eq_of_lt h).symm
theorem col_eq {n : ℕ} (h : n < 512) : (⟨n, h⟩ : Fin 512) = col n := Fin.ext (Nat.mod_eq_of_lt h).symm
theorem vcol_eq {n : ℕ} (h : n < 256) : (⟨n, h⟩ : Fin 256) = vcol n := Fin.ext (Nat.mod_eq_of_lt h).symm

/-- The score of key `n` for row `r`, of the head whose columns start at `b`; `-∞` for the keys after the row, whose
    number is `q0 + r`. -/
def score (x0 : FVec Ideal S512x512 .bf16) (x1 : FVec Ideal S8192x512 .bf16) (q0 b : ℕ) (r : Fin 512) (n : ℕ) : EReal :=
  if n ≤ q0 + r.val then ∑ x : Fin 128, x0 (ix2 r (col (b + x.val))) * x1 (ix2 (key n) (col (b + x.val))) else ⊥

/-- The value of key `n` in lane `l`, of the pair whose columns start at `b`. -/
def value (x2 : FVec Ideal S8192x256 .bf16) (b : ℕ) (l : Fin 128) (n : ℕ) : EReal := x2 (ix2 (key n) (vcol (b + l.val)))

variable {x0 : FVec Ideal S512x512 .bf16} {x1 : FVec Ideal S8192x512 .bf16} {x2 : FVec Ideal S8192x256 .bf16}

/-- A chunk wholly before the row block has the scores of its keys. -/
theorem scores_apply {v : FVec Ideal S512x128 .bf16} {w : FVec Ideal S1024x128 .bf16} {q0 b n : ℕ} (hn : n + 1024 ≤ q0 + 1)
    (hv : ∀ (r : Fin 512) (x : Fin 128), v (ix2 r x) = x0 (ix2 r (col (b + x.val))))
    (hw : ∀ (j : Fin 1024) (x : Fin 128), w (ix2 j x) = x1 (ix2 (key (n + j.val)) (col (b + x.val))))
    (r : Fin 512) (j : Fin 1024) : k0_pay3 v w (ix2 r j) = score x0 x1 q0 b r (n + j.val) := by
  pointwise [k0_pay3]
  rw [score, if_pos (by omega)]
  exact Finset.sum_congr rfl fun x _ => by rw [hv, hw]

/-- The last chunk's scores, masked. -/
theorem masked_apply (i : grid0.Coords) {v : FVec Ideal S512x128 .bf16} {w : FVec Ideal S1024x128 .bf16} {b : ℕ}
    (hv : ∀ (r : Fin 512) (x : Fin 128), v (ix2 r x) = x0 (ix2 r (col (b + x.val))))
    (hw : ∀ (j : Fin 1024) (x : Fin 128), w (ix2 j x) = x1 (ix2 (key (1024 * ((i 2).val / 2) + j.val)) (col (b + x.val))))
    (r : Fin 512) (j : Fin 1024) :
    k0_pay74 (mask i) (k0_pay3 v w) (ix2 r j) = score x0 x1 (512 * (i 2).val) b r (1024 * ((i 2).val / 2) + j.val) := by
  have e : k0_pay74 (mask i) (k0_pay3 v w) (ix2 r j)
      = Scalar.select (mask i (ix2 r j)) (k0_pay3 v w (ix2 r j)) (Ideal.ofBits FTy.f32 4286578688#32) := rfl
  rw [e, mask_apply, negInf, score]
  refine if_congr Iff.rfl ?_ rfl
  pointwise [k0_pay3]
  exact Finset.sum_congr rfl fun x _ => by rw [hv, hw]

section
variable (arg3 : Memref sig .tc .vmem S512x512 .bf16) (harg3 : arg3.IsWhole)
  (arg4 : Memref sig .tc .vmem S8192x512 .bf16) (harg4 : arg4.IsWhole)
  (arg5 : Memref sig .tc .vmem S8192x256 .bf16) (harg5 : arg5.IsWhole)
  (arg6 : Memref sig .tc .vmem S512x256 .bf16) (harg6 : arg6.IsWhole)
  (x0 : FVec Ideal S512x512 .bf16) (x1 : FVec Ideal S8192x512 .bf16) (x2 : FVec Ideal S8192x256 .bf16)

/-- The queries, keys and values of a head or pair, by their columns. -/
theorem query (b : ℕ) (hb : b + 128 ≤ 512) (h) (r : Fin 512) (x : Fin 128) :
    k0_pay50 (qTile arg3 harg3 x0 ![0, b] h) (ix2 r x) = x0 (ix2 r (col (b + x.val))) := by
  have e : k0_pay50 (qTile arg3 harg3 x0 ![0, b] h) (ix2 r x) = qTile arg3 harg3 x0 ![0, b] h (ix2 r x) := by
    pointwise [k0_pay50]
  rw [e, qTile_apply arg3 harg3 x0 _ h b rfl hb, col_eq]

theorem keys (a b : ℕ) (ha : a + 1024 ≤ 8192) (hb : b + 128 ≤ 512) {off : Fin 2 → ℕ} (e : off = ![a, b]) (h) (j : Fin 1024) (x : Fin 128) :
    kTile arg4 harg4 x1 off h (ix2 j x) = x1 (ix2 (key (a + j.val)) (col (b + x.val))) := by
  rw [kTile_apply arg4 harg4 x1 _ h a b e ha hb, col_eq, key_eq]

theorem values (a b : ℕ) (ha : a + 1024 ≤ 8192) (hb : b + 128 ≤ 256) {off : Fin 2 → ℕ} (e : off = ![a, b]) (h) (j : Fin 1024) (l : Fin 128) :
    k0_pay7 (vTile arg5 harg5 x2 off h) (ix2 j l) = value x2 b l (a + j.val) := by
  have e' : k0_pay7 (vTile arg5 harg5 x2 off h) (ix2 j l) = vTile arg5 harg5 x2 off h (ix2 j l) := by
    pointwise [k0_pay7]
  rw [e', vTile_apply arg5 harg5 x2 _ h a b e ha hb, value, vcol_eq, key_eq]

variable (c : Dev nD) (i : grid0.Coords)

/-- The two pairs' running softmax over the first `n` keys. -/
def Both (n : ℕ) (a : Carry) : Prop :=
  Holds (score x0 x1 (512 * (i 2).val) 0) (score x0 x1 (512 * (i 2).val) 128) (value x2 0) n (fstPair a)
    ∧ Holds (score x0 x1 (512 * (i 2).val) 256) (score x0 x1 (512 * (i 2).val) 384) (value x2 128) n (sndPair a)

/-- After `n` trips the loop has seen the first `1024 n` keys. -/
theorem carry1_holds (n : ℕ) (hn : n ≤ (k0_t1_loop i).trips) :
    Both x0 x1 x2 i (1024 * n) (carry1 c i arg3 harg3 arg4 harg4 arg5 harg5 arg6 harg6 x0 x1 x2 n) := by
  induction n with
  | zero =>
    refine ⟨?_, ?_⟩
    · exact init_holds
    · exact init_holds
  | succ n ih =>
    have h := ih (by omega)
    have ht := trips1 i
    have h2 := row_lt i
    unfold carry1
    rw [show n + 1 = (⟨n, by omega⟩ : Fin (k0_t1_loop i).trips).val + 1 from rfl, st_k0_t1_succ, trip_eq]
    refine ⟨?_, ?_⟩
    · exact stepPair_holds h.1
        (scores_apply (by omega) (query arg3 harg3 x0 0 (by omega) _) (keys arg4 harg4 x1 _ _ (by omega) (by omega) (off1 i _) _))
        (scores_apply (by omega) (query arg3 harg3 x0 128 (by omega) _) (keys arg4 harg4 x1 _ _ (by omega) (by omega) (off2 i _) _))
        (values arg5 harg5 x2 _ _ (by omega) (by omega) (off5 i _) _)
    · exact stepPair_holds h.2
        (scores_apply (by omega) (query arg3 harg3 x0 256 (by omega) _) (keys arg4 harg4 x1 _ _ (by omega) (by omega) (off3 i _) _))
        (scores_apply (by omega) (query arg3 harg3 x0 384 (by omega) _) (keys arg4 harg4 x1 _ _ (by omega) (by omega) (off4 i _) _))
        (values arg5 harg5 x2 _ _ (by omega) (by omega) (off6 i _) _)

seal st_k0_t1 st_k0_t2 in
/-- The second loop makes no trip: all chunks but the last are done. -/
theorem carry2_holds :
    Both x0 x1 x2 i (1024 * ((i 2).val / 2)) (carry2 c i arg3 harg3 arg4 harg4 arg5 harg5 arg6 harg6 x0 x1 x2) := by
  have h := carry1_holds arg3 harg3 arg4 harg4 arg5 harg5 arg6 harg6 x0 x1 x2 c i _ le_rfl
  have e := trips1 i
  unfold carry2
  rw [trips2 i, st_k0_t2_zero]
  rw [← e]
  exact (show ∀ a, Both x0 x1 x2 i (1024 * (k0_t1_loop i).trips) a → Both x0 x1 x2 i (1024 * (k0_t1_loop i).trips) (regroup a) from
    fun a h => h) _ h

/-- The score and value weights a head ends with, over all 8192 keys. -/
def attend (s v : ℕ → EReal) : EReal := Ideal.div (vsum s v (top s 8192) 8192) (wsum s (top s 8192) 8192)

/-- The keys after the last chunk are masked, so the sums over the chunks seen are those over all keys. -/
theorem attend_eq (r : Fin 512) (b : ℕ) (v : ℕ → EReal) :
    (let s := score x0 x1 (512 * (i 2).val) b r
     let n := 1024 * ((i 2).val / 2) + 1024
     Ideal.div (vsum s v (top s n) n) (wsum s (top s n) n)) = attend (score x0 x1 (512 * (i 2).val) b r) v := by
  have h2 := row_lt i
  have hn : 1024 * ((i 2).val / 2) + 1024 ≤ 8192 := by omega
  have hs : ∀ k, 1024 * ((i 2).val / 2) + 1024 ≤ k → k < 8192 → score x0 x1 (512 * (i 2).val) b r k = ⊥ :=
    fun k h _ => if_neg (by omega)
  rw [attend, top_of_masked hn hs, wsum_of_masked _ hn hs, vsum_of_masked v _ hn hs]

/-- The first pair's tile. -/
theorem tile0 (r : Fin 512) (l : Fin 128) :
    lastTile0 (carry2 c i arg3 harg3 arg4 harg4 arg5 harg5 arg6 harg6 x0 x1 x2) (mask i)
        (k0_pay71 (k0_pay50 (qTile arg3 harg3 x0 ![0, 0] inb_S512x512_S512x128_0_0)) (kTile arg4 harg4 x1 (k0_off13 i) (k0_off13_inb i)))
        (k0_pay72 (k0_pay51 (qTile arg3 harg3 x0 ![0, 128] inb_S512x512_S512x128_0_128)) (kTile arg4 harg4 x1 (k0_off14 i) (k0_off14_inb i)))
        (vTile arg5 harg5 x2 (k0_off17 i) (k0_off17_inb i)) (ix2 r l)
      = attend (score x0 x1 (512 * (i 2).val) (if l.val < 64 then 0 else 128) r) (value x2 0 l) := by
  have h2 := row_lt i
  rw [lastTile0_eq]
  refine (out_eq (stepPair_holds (carry2_holds arg3 harg3 arg4 harg4 arg5 harg5 arg6 harg6 x0 x1 x2 c i).1
    (masked_apply i (query arg3 harg3 x0 0 (by omega) _) (keys arg4 harg4 x1 _ _ (by omega) (by omega) (off13 i) _))
    (masked_apply i (query arg3 harg3 x0 128 (by omega) _) (keys arg4 harg4 x1 _ _ (by omega) (by omega) (off14 i) _))
    (values arg5 harg5 x2 _ _ (by omega) (by omega) (off17 i) _)) r l).trans ?_
  split
  · exact attend_eq x0 x1 i r 0 _
  · exact attend_eq x0 x1 i r 128 _

/-- The second pair's. -/
theorem tile1 (r : Fin 512) (l : Fin 128) :
    lastTile1 (carry2 c i arg3 harg3 arg4 harg4 arg5 harg5 arg6 harg6 x0 x1 x2)
        (k0_pay76 (mask i) (k0_pay73 (k0_pay52 (qTile arg3 harg3 x0 ![0, 256] inb_S512x512_S512x128_0_256)) (kTile arg4 harg4 x1 (k0_off15 i) (k0_off15_inb i))))
        (k0_pay77 (k0_pay53 (qTile arg3 harg3 x0 ![0, 384] inb_S512x512_S512x128_0_384)) (mask i) (kTile arg4 harg4 x1 (k0_off16 i) (k0_off16_inb i)))
        (vTile arg5 harg5 x2 (k0_off18 i) (k0_off18_inb i)) (ix2 r l)
      = attend (score x0 x1 (512 * (i 2).val) (if l.val < 64 then 256 else 384) r) (value x2 128 l) := by
  have h2 := row_lt i
  rw [lastTile1_eq]
  refine (out_eq (stepPair_holds (carry2_holds arg3 harg3 arg4 harg4 arg5 harg5 arg6 harg6 x0 x1 x2 c i).2
    (masked_apply i (query arg3 harg3 x0 256 (by omega) _) (keys arg4 harg4 x1 _ _ (by omega) (by omega) (off15 i) _))
    (masked_apply i (query arg3 harg3 x0 384 (by omega) _) (keys arg4 harg4 x1 _ _ (by omega) (by omega) (off16 i) _))
    (values arg5 harg5 x2 _ _ (by omega) (by omega) (off18 i) _)) r l).trans ?_
  split
  · exact attend_eq x0 x1 i r 256 _
  · exact attend_eq x0 x1 i r 384 _

end

end Cert.Mla

end
-- ==== Proof.Array.lean ====
/- What the kernel's call computes, as an array: from the blocks its grid steps store to one value per entry. -/
module

public import proofs.«01_k».proof.Proof.Block
public import Idealize.ShloMosaic.Lib.Claim

@[expose] public section

set_option maxRecDepth 16384

noncomputable section

namespace Cert.Mla

open Idealize.ShloMosaic Idealize.ShloMosaic.TcCoe Idealize.SL.Sem
open Idealize.ShloMosaic.Pipeline (Dat)
open Cert.KernelIdeal Cert.KernelIdeal.Gen Cert.Online

variable (m : (ℓ : Loc nD τ sig) → Buf (Elt Ideal) ℓ)

/-- The scale the queries are multiplied by, as the host computes it: `rsqrt 96` over `log 2`. -/
def scaleWord : FVec Ideal S_ .f32 :=
  Host.divf (Host.rsqrt (constant S_ .f32 0x42C00000#32)) (Host.log (constant S_ .f32 0x40000000#32))

/-- The packed queries: padded to 128 lanes per head, scaled, one row per token. -/
def packQ (A : FVec Ideal S8x8192x8x96 .f32) : FVec Ideal S65536x1024 .bf16 :=
  shapeCast S65536x1024 (truncf .bf16 (mulf
    (pad S8x8192x8x128 ![0, 0, 0, 0] ![0, 0, 0, 32] ![0, 0, 0, 0] A (sitofp .f32 (constantI S_ 32 0#32)) pads_S8x8192x8x96_S8x8192x8x128_000_000_000_0320 h_S_)
    (broadcastInDim S8x8192x8x128 ![] bcast_S_S8x8192x8x128 scaleWord)) bitsLt_bf16_f32 : FVec Ideal S8x8192x8x128 .bf16) shapeCasts_S8x8192x8x128_S65536x1024

/-- The packed keys: padded, one row per token. -/
def packK (A : FVec Ideal S8x8192x8x96 .f32) : FVec Ideal S65536x1024 .bf16 :=
  shapeCast S65536x1024 (truncf .bf16
    (pad S8x8192x8x128 ![0, 0, 0, 0] ![0, 0, 0, 32] ![0, 0, 0, 0] A (sitofp .f32 (constantI S_ 32 0#32)) pads_S8x8192x8x96_S8x8192x8x128_000_000_000_0320 h_S_)
    bitsLt_bf16_f32 : FVec Ideal S8x8192x8x128 .bf16) shapeCasts_S8x8192x8x128_S65536x1024

/-- The packed values: one row per token. -/
def packV (A : FVec Ideal S8x8192x8x64 .f32) : FVec Ideal S65536x512 .bf16 :=
  shapeCast S65536x512 (truncf .bf16 A bitsLt_bf16_f32 : FVec Ideal S8x8192x8x64 .bf16) shapeCasts_S8x8192x8x64_S65536x512

theorem q_entry (c : Dev nD) : V m c main_v7 = packQ (m ((c.tc : Thread nD τ).loc main_arg0)) := by
  simp only [V, List.flatten_cons, List.flatten_nil, List.cons_append, List.nil_append, List.append_nil, StableHlo.TRef.unary, StableHlo.TRef.binary, StableHlo.TRef.toBuf, StableHlo.TRef.ofBuf, cast_eq]
  after_results_simp
  rfl

theorem k_entry (c : Dev nD) : V m c main_v10 = packK (m ((c.tc : Thread nD τ).loc main_arg1)) := by
  simp only [V, List.flatten_cons, List.flatten_nil, List.cons_append, List.nil_append, List.append_nil, StableHlo.TRef.unary, StableHlo.TRef.binary, StableHlo.TRef.toBuf, StableHlo.TRef.ofBuf, cast_eq]
  after_results_simp
  rfl

theorem v_entry (c : Dev nD) : V m c main_v12 = packV (m ((c.tc : Thread nD τ).loc main_arg2)) := by
  simp only [V, List.flatten_cons, List.flatten_nil, List.cons_append, List.nil_append, List.append_nil, StableHlo.TRef.unary, StableHlo.TRef.binary, StableHlo.TRef.toBuf, StableHlo.TRef.ofBuf, cast_eq]
  after_results_simp
  rfl

/-- A padded head: lane `x` of head `h` of token `s` of batch `b`, zero from lane 96 on. -/
def padded (A : FVec Ideal S8x8192x8x96 .f32) (b : Fin 8) (s : Fin 8192) (h : Fin 8) (x : Fin 128) : EReal :=
  if hx : x.val < 96 then A (ix4 b s h (⟨x.val, hx⟩ : Fin 96)) else 0

/-- The queries' scale. -/
def scale : EReal := Ideal.div (Ideal.rsqrt (Ideal.ofBits FTy.f32 1119879168#32)) (Ideal.log (Ideal.ofBits FTy.f32 1073741824#32))

theorem padWord : (FloatOps.sitofp FTy.f32 0#32 : Ideal .f32) = 0 := by
  simp [FloatOps.sitofp]

theorem padded_of_lt (A : FVec Ideal S8x8192x8x96 .f32) (b : Fin 8) (s : Fin 8192) (h : Fin 8) (x : Fin 128) (hx : x.val < 96) :
    padded A b s h x = A (ix4 b s h (⟨x.val, hx⟩ : Fin 96)) := dif_pos hx

theorem padded_of_ge (A : FVec Ideal S8x8192x8x96 .f32) (b : Fin 8) (s : Fin 8192) (h : Fin 8) (x : Fin 128) (hx : ¬ x.val < 96) :
    padded A b s h x = 0 := dif_neg hx

/-- A padded head, by the numbers of its row and column. -/
theorem padded_eq (A : FVec Ideal S8x8192x8x96 .f32) (b : Fin 8) (s : Fin 8192) (h : Fin 8) (x : Fin 128) (r y : ℕ) (z : EReal) (hz : z = 0)
    (hr : r = b.val * 8192 + s.val) (hy : y = h.val * 128 + x.val) :
    (if h : r / 8192 < 8 ∧ r % 8192 < 8192 ∧ y / 128 < 8 ∧ y % 128 < 96 then
      A (ix4 (⟨r / 8192, h.1⟩ : Fin 8) (⟨r % 8192, h.2.1⟩ : Fin 8192) (⟨y / 128, h.2.2.1⟩ : Fin 8) (⟨y % 128, h.2.2.2⟩ : Fin 96)) else z)
      = padded A b s h x := by
  have e0 : r / 8192 = b.val := by omega
  have e1 : r % 8192 = s.val := by omega
  have e2 : y / 128 = h.val := by omega
  have e3 : y % 128 = x.val := by omega
  split
  next hc =>
    have hx : x.val < 96 := by omega
    rw [padded_of_lt A b s h x hx]
    congr 2 <;> exact Fin.ext (by assumption)
  next hc => rw [padded_of_ge A b s h x (by omega), hz]

theorem packQ_apply (A : FVec Ideal S8x8192x8x96 .f32) (row : Fin 65536) (y : Fin 1024) (b : Fin 8) (s : Fin 8192) (h : Fin 8) (x : Fin 128)
    (hr : row.val = b.val * 8192 + s.val) (hy : y.val = h.val * 128 + x.val) :
    packQ A (ix2 row y) = padded A b s h x * scale := by
  have e : scaleWord ix0 = scale := by
    pointwise [scaleWord]; rfl
  pointwise [packQ]
  rw [e]
  exact congrArg (· * scale) (padded_eq A b s h x _ _ _ padWord hr hy)

theorem packK_apply (A : FVec Ideal S8x8192x8x96 .f32) (row : Fin 65536) (y : Fin 1024) (b : Fin 8) (s : Fin 8192) (h : Fin 8) (x : Fin 128)
    (hr : row.val = b.val * 8192 + s.val) (hy : y.val = h.val * 128 + x.val) :
    packK A (ix2 row y) = padded A b s h x := by
  pointwise [packK]
  exact padded_eq A b s h x _ _ _ padWord hr hy

theorem packV_apply (A : FVec Ideal S8x8192x8x64 .f32) (row : Fin 65536) (y : Fin 512) (b : Fin 8) (s : Fin 8192) (h : Fin 8) (x : Fin 64)
    (hr : row.val = b.val * 8192 + s.val) (hy : y.val = h.val * 64 + x.val) :
    packV A (ix2 row y) = A (ix4 b s h x) := by
  pointwise [packV]
  have e0 : row.val / 8192 = b.val := by omega
  have e1 : row.val % 8192 = s.val := by omega
  have e2 : y.val / 64 = h.val := by omega
  have e3 : y.val % 64 = x.val := by omega
  simp only [e0, e1, e2, e3]

/-! ## The blocks a grid step reads -/

/-- Which blocks grid point `t` works on: batch `t / 32`, heads four by four `t / 16 % 2`, row block `t % 16`. -/
theorem idx : ∀ t : Fin cfg0.N, win0_0.index t = ![t.val / 32 * 16 + t.val % 16, t.val / 16 % 2]
    ∧ win0_1.index t = ![t.val / 32, t.val / 16 % 2] ∧ win0_2.index t = ![t.val / 32, t.val / 16 % 2]
    ∧ win0_3.index t = ![t.val / 32 * 16 + t.val % 16, t.val / 16 % 2] ∧ (grid0.coords t 2).val = t.val % 16 :=
  (by decide +kernel : ∀ t : Fin grid0.N, _)

theorem points : cfg0.N = 256 := rfl

/-- The queries of grid point `t`. -/
theorem q_block (c : Dev nD) (t : Fin cfg0.N) (r y : Fin 512) (b : Fin 8) (s : Fin 8192) (h : Fin 8) (x : Fin 128)
    (hb : b.val = t.val / 32) (hs : s.val = t.val % 16 * 512 + r.val) (hy : t.val / 16 % 2 * 512 + y.val = h.val * 128 + x.val) :
    (show FVec Ideal S512x512 .bf16 from iblk m c 0 t) (ix2 r y) = padded (m ((c.tc : Thread nD τ).loc main_arg0)) b s h x * scale := by
  have ht := t.isLt
  have hN := points
  rw [← packQ_apply _ (⟨(t.val / 32 * 16 + t.val % 16) * 512 + r.val, by omega⟩ : Fin 65536) (⟨t.val / 16 % 2 * 512 + y.val, by omega⟩ : Fin 1024)
    b s h x (by simp only; omega) hy, ← q_entry]
  blk_ext [iblk, idx t]

/-- The keys. -/
theorem k_block (c : Dev nD) (t : Fin cfg0.N) (n : Fin 8192) (y : Fin 512) (b : Fin 8) (h : Fin 8) (x : Fin 128)
    (hb : b.val = t.val / 32) (hy : t.val / 16 % 2 * 512 + y.val = h.val * 128 + x.val) :
    (show FVec Ideal S8192x512 .bf16 from iblk m c 1 t) (ix2 n y) = padded (m ((c.tc : Thread nD τ).loc main_arg1)) b n h x := by
  have ht := t.isLt
  have hN := points
  rw [← packK_apply _ (⟨t.val / 32 * 8192 + n.val, by omega⟩ : Fin 65536) (⟨t.val / 16 % 2 * 512 + y.val, by omega⟩ : Fin 1024)
    b n h x (by simp only; omega) hy, ← k_entry]
  blk_ext [iblk, idx t]

/-- The values. -/
theorem v_block (c : Dev nD) (t : Fin cfg0.N) (n : Fin 8192) (y : Fin 256) (b : Fin 8) (h : Fin 8) (x : Fin 64)
    (hb : b.val = t.val / 32) (hy : t.val / 16 % 2 * 256 + y.val = h.val * 64 + x.val) :
    (show FVec Ideal S8192x256 .bf16 from iblk m c 2 t) (ix2 n y) = (show FVec Ideal S8x8192x8x64 .f32 from m ((c.tc : Thread nD τ).loc main_arg2)) (ix4 b n h x) := by
  have ht := t.isLt
  have hN := points
  show iblk m c 2 t (ix2 n y) = (m ((c.tc : Thread nD τ).loc main_arg2) : FVec Ideal S8x8192x8x64 .f32) (ix4 b n h x)
  refine Eq.trans ?_ (packV_apply (m ((c.tc : Thread nD τ).loc main_arg2)) (⟨t.val / 32 * 8192 + n.val, by omega⟩ : Fin 65536) (⟨t.val / 16 % 2 * 256 + y.val, by omega⟩ : Fin 512)
    b n h x (by simp only; omega) hy)
  rw [← v_entry]
  blk_ext [iblk, idx t]

/-! ## One entry of the result -/

/-- The kernel's score of key `n` for token `s`, in base-two units; `-∞` for the keys after the token. -/
def kernelScore (Q K : FVec Ideal S8x8192x8x96 .f32) (b : Fin 8) (s : Fin 8192) (h : Fin 8) (n : ℕ) : EReal :=
  if n ≤ s.val then ∑ x : Fin 128, padded Q b s h x * scale * padded K b (key n) h x else ⊥

/-- What the call computes at row `row`, column `y`: the attention of token `row % 8192` of batch `row / 8192`, head `y / 64`, lane `y % 64`. -/
def attention (Q K : FVec Ideal S8x8192x8x96 .f32) (W : FVec Ideal S8x8192x8x64 .f32) : FVec Ideal S65536x512 .bf16 := fun j =>
  have h0 : (j 0).val < 65536 := (j 0).isLt
  have h1 : (j 1).val < 512 := (j 1).isLt
  attend (kernelScore Q K ⟨(j 0).val / 8192, by omega⟩ ⟨(j 0).val % 8192, by omega⟩ ⟨(j 1).val / 64, by omega⟩)
    (fun n => W (ix4 (⟨(j 0).val / 8192, by omega⟩ : Fin 8) (key n) (⟨(j 1).val / 64, by omega⟩ : Fin 8) (⟨(j 1).val % 64, by omega⟩ : Fin 64)))

theorem score_eq (c : Dev nD) (t : Fin cfg0.N) (o : ℕ) (r : Fin 512) (b : Fin 8) (s : Fin 8192) (h : Fin 8)
    (ho : o + 128 ≤ 512) (hb : b.val = t.val / 32) (hs : s.val = t.val % 16 * 512 + r.val) (hh : t.val / 16 % 2 * 512 + o = h.val * 128) :
    score (iblk m c 0 t) (iblk m c 1 t) (512 * (grid0.coords t 2).val) o r
      = kernelScore (m ((c.tc : Thread nD τ).loc main_arg0)) (m ((c.tc : Thread nD τ).loc main_arg1)) b s h := by
  funext n
  rw [score, kernelScore, (idx t).2.2.2.2]
  refine if_congr (by omega) (Finset.sum_congr rfl fun x _ => ?_) rfl
  have hc : (col (o + x.val)).val = o + x.val := Nat.mod_eq_of_lt (by omega)
  exact congrArg₂ (· * ·) (q_block m c t r _ b s h x hb hs (by omega)) (k_block m c t _ _ b h x hb (by omega))

theorem value_eq (c : Dev nD) (t : Fin cfg0.N) (o : ℕ) (l : Fin 128) (b : Fin 8) (h : Fin 8) (d : Fin 64)
    (ho : o + 128 ≤ 256) (hb : b.val = t.val / 32) (hh : t.val / 16 % 2 * 256 + (o + l.val) = h.val * 64 + d.val) :
    value (iblk m c 2 t) o l
      = fun n => (show FVec Ideal S8x8192x8x64 .f32 from m ((c.tc : Thread nD τ).loc main_arg2)) (ix4 b (key n) h d) := by
  funext n
  have hc : (vcol (o + l.val)).val = o + l.val := Nat.mod_eq_of_lt (by omega)
  exact v_block m c t _ _ b h d hb (by omega)

/-- The tile of the pair of heads whose columns start at `o0` and `o1`, its values at `p`. -/
def tile (x0 : FVec Ideal S512x512 .bf16) (x1 : FVec Ideal S8192x512 .bf16) (x2 : FVec Ideal S8192x256 .bf16) (i : grid0.Coords)
    (o0 o1 p : ℕ) : FVec Ideal S512x128 .bf16 := fun j =>
  attend (score x0 x1 (512 * (i 2).val) (if (j 1).val < 64 then o0 else o1) (j 0)) (value x2 p (j 1))

/-- The two tiles a grid step stores are its pairs' attention. -/
theorem pieces_tiles (c : Dev nD) (i : grid0.Coords)
    (arg3 : Memref sig .tc .vmem S512x512 .bf16) (harg3 : arg3.IsWhole)
    (arg4 : Memref sig .tc .vmem S8192x512 .bf16) (harg4 : arg4.IsWhole)
    (arg5 : Memref sig .tc .vmem S8192x256 .bf16) (harg5 : arg5.IsWhole)
    (arg6 : Memref sig .tc .vmem S512x256 .bf16) (harg6 : arg6.IsWhole)
    (x0 : FVec Ideal S512x512 .bf16) (x1 : FVec Ideal S8192x512 .bf16) (x2 : FVec Ideal S8192x256 .bf16) :
    (kernelRun0_A (F := Ideal) c i arg3 harg3 arg4 harg4 arg5 harg5 arg6 harg6 x0 x1 x2).1
      = [⟨Rect.unit (s := S512x256) ![0, 128] S512x128.size inb_S512x256_S512x128_0_128, tile x0 x1 x2 i 256 384 128⟩,
         ⟨Rect.unit (s := S512x256) ![0, 0] S512x128.size inb_S512x256_S512x128_0_0, tile x0 x1 x2 i 0 128 0⟩] := by
  rw [pieces_eq]
  congr 1
  · congr 1
    funext j
    idx_vars j
    exact tile1 arg3 harg3 arg4 harg4 arg5 harg5 arg6 harg6 x0 x1 x2 c i _ _
  · congr 2
    funext j
    idx_vars j
    exact tile0 arg3 harg3 arg4 harg4 arg5 harg5 arg6 harg6 x0 x1 x2 c i _ _

/-- A tile's entry is the result's. -/
theorem tile_point (c : Dev nD) (t : Fin cfg0.N) (p : ℕ) (hp : p = 0 ∨ p = 128) (x : S512x128.Idx) (j : S65536x512.Idx)
    (hj0 : (j 0).val = (t.val / 32 * 16 + t.val % 16) * 512 + (x 0).val) (hj1 : (j 1).val = t.val / 16 % 2 * 256 + (p + (x 1).val)) :
    tile (iblk m c 0 t) (iblk m c 1 t) (iblk m c 2 t) (grid0.coords t) (2 * p) (2 * p + 128) p x
      = attention (m ((c.tc : Thread nD τ).loc main_arg0)) (m ((c.tc : Thread nD τ).loc main_arg1)) (m ((c.tc : Thread nD τ).loc main_arg2)) j := by
  have h0 : (j 0).val < 65536 := (j 0).isLt
  have h1 : (j 1).val < 512 := (j 1).isLt
  have x0 : (x 0).val < 512 := (x 0).isLt
  have x1 : (x 1).val < 128 := (x 1).isLt
  have ht := t.isLt
  have hN := points
  have es := score_eq m c t (if (x 1).val < 64 then 2 * p else 2 * p + 128) (x 0)
    (⟨(j 0).val / 8192, by omega⟩ : Fin 8) (⟨(j 0).val % 8192, by omega⟩ : Fin 8192) (⟨(j 1).val / 64, by omega⟩ : Fin 8)
    (by split <;> omega) (by simp only; omega) (by simp only; omega) (by simp only; split <;> omega)
  have ev := value_eq m c t p (x 1) (⟨(j 0).val / 8192, by omega⟩ : Fin 8) (⟨(j 1).val / 64, by omega⟩ : Fin 8)
    (⟨(j 1).val % 64, by omega⟩ : Fin 64) (by omega) (by simp only; omega) (by simp only; omega)
  exact congrArg₂ attend es ev

/-- The call's result array. -/
theorem result_eq (c : Dev nD) : (dats m 0 c).arrAt 3 cfg0.N
    = attention (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  unfold Gen.outsAt0 out0_A_3
  rw [pieces_tiles]
  frame_out
  canon_tiles x h
  · refine tile_point m c t 128 (.inr rfl) x _ ?_ ?_
    all_goals (blk_simp [idx t] <;> try omega)
  · refine tile_point m c t 0 (.inl rfl) x _ ?_ ?_
    all_goals (blk_simp [idx t] <;> try omega)

end Cert.Mla

end
-- ==== Proof.Ref.lean ====
/- What the reference computes, entry by entry: stage by stage, then as one sum over the keys. -/
module

public import proofs.«01_k».proof.Proof.Gen.ReferenceIdeal.Run
public import Idealize.ShloMosaic.Lib.Pointwise
public import Idealize.ShloMosaic.Lib.WordCmp
public import proofs.«01_k».proof.Proof.Online

@[expose] public section

set_option maxRecDepth 16384

noncomputable section

namespace Cert.Mla.Ref

open Idealize.ShloMosaic Idealize.ShloMosaic.TcCoe Idealize.SL.Sem
open Cert.ReferenceIdeal Cert.ReferenceIdeal.Gen Cert.ReferenceIdeal.Value Cert.Online

/-- The masked scores of every batch, head, query and key. -/
def scores (Q K : FVec Ideal S8x8192x8x96 .f32) : FVec Ideal S8x8x8192x8192 .f32 :=
  select (broadcastInDim S8x8x8192x8192 ![2, 3] bcast_S8192x8192_S8x8x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) (mulf (Host.dotGeneral dot_S8x8192x8x96_S8x8192x8x96_S8x8x8192x8192_3_3_1_1_02_02 none Q K) (broadcastInDim S8x8x8192x8192 ![] bcast_S_S8x8x8192x8192 (Host.rsqrt (constant S_ .f32 0x42C00000#32)))) (broadcastInDim S8x8x8192x8192 ![] bcast_S_S8x8x8192x8192 (id (constant S_ .f32 0xFF800000#32)))

/-- Each query's largest score. -/
def largest (s : FVec Ideal S8x8x8192x8192 .f32) : FVec Ideal S8x8x8192 .f32 :=
  maximumf (broadcastInDim S8x8x8192 ![] bcast_S_S8x8x8192 (constant S_ .f32 0xFF800000#32)) (Host.reduce FloatOps.maximumf s (constant S_ .f32 0xFF800000#32) reducesTo_S8x8x8192x8192_S8x8x8192_d3 h_S_)

/-- The exponentials relative to it. -/
def exps (s : FVec Ideal S8x8x8192x8192 .f32) (M : FVec Ideal S8x8x8192 .f32) : FVec Ideal S8x8x8192x8192 .f32 :=
  Host.exp (subf s (broadcastInDim S8x8x8192x8192 ![0, 1, 2, 3] bcast_S8x8x8192x1_S8x8x8192x8192_0_1_2_3 (broadcastInDim S8x8x8192x1 ![0, 1, 2] bcast_S8x8x8192_S8x8x8192x1_0_1_2 M)))

/-- The weights: the exponentials over their sums. -/
def weights (e : FVec Ideal S8x8x8192x8192 .f32) : FVec Ideal S8x8x8192x8192 .f32 :=
  Host.divf e (broadcastInDim S8x8x8192x8192 ![0, 1, 2, 3] bcast_S8x8x8192x1_S8x8x8192x8192_0_1_2_3 (broadcastInDim S8x8x8192x1 ![0, 1, 2] bcast_S8x8x8192_S8x8x8192x1_0_1_2 (Host.reduceAdd e (constant S_ .f32 0x00000000#32) reducesTo_S8x8x8192x8192_S8x8x8192_d3 h_S_)))

/-- The values, weighted, one row per token. -/
def output (W : FVec Ideal S8x8192x8x64 .f32) (p : FVec Ideal S8x8x8192x8192 .f32) : FVec Ideal S65536x512 .bf16 :=
  truncf .bf16 (shapeCast _ (transpose S8x8192x8x64 [0, 3, 1, 2] (Host.dotGeneral dot_S8x8192x8x64_S8x8x8192x8192_S8x8x64x8192_1_3_3_2_02_01 none W p : FVec Ideal S8x8x64x8192 .f32) transposes_S8x8x64x8192_S8x8192x8x64_0_3_1_2) shapeCasts_S8x8192x8x64_S65536x512) bitsLt_bf16_f32

variable (m : (ℓ : Loc nD τ sig) → Buf (Elt Ideal) ℓ)

/-- The reference's result is these stages. -/
theorem res_eq (c : Dev nD) : res_main_v25 m c
    = output (m ((c.tc : Thread nD τ).loc main_arg2))
        (weights (exps (scores (m ((c.tc : Thread nD τ).loc main_arg0)) (m ((c.tc : Thread nD τ).loc main_arg1)))
          (largest (scores (m ((c.tc : Thread nD τ).loc main_arg0)) (m ((c.tc : Thread nD τ).loc main_arg1)))))) := by
  unfold res_main_v25
  rfl

/-- The score of key `n` for query `q`; `-∞` for the keys after it. -/
def score (Q K : FVec Ideal S8x8192x8x96 .f32) (b : Fin 8) (q : Fin 8192) (h : Fin 8) (n : ℕ) : EReal :=
  if n ≤ q.val then
    (∑ x : Fin 96, Q (ix4 b q h x) * K (ix4 b (⟨n % 8192, Nat.mod_lt _ (by norm_num)⟩ : Fin 8192) h x)) * Ideal.rsqrt (Ideal.ofBits FTy.f32 1119879168#32)
  else ⊥

theorem scores_apply (Q K : FVec Ideal S8x8192x8x96 .f32) (b h : Fin 8) (q k : Fin 8192) :
    scores Q K (ix4 b h q k) = score Q K b q h k.val := by
  have negInf : Ideal.ofBits FTy.f32 4286578688#32 = ⊥ := by simp [Ideal.ofBits, Ideal.ieee]
  have ek : (⟨k.val % 8192, Nat.mod_lt _ (by norm_num)⟩ : Fin 8192) = k := Fin.ext (Nat.mod_eq_of_lt k.isLt)
  have sel : ∀ (d : Bool) (x y : EReal), Scalar.select (BitVec.ofBool d) x y = if d then x else y := by
    intro d x y; cases d <;> rfl
  pointwise [scores]
  rw [WordCmp.cmpi_sle_ofNat (by omega) (by omega), sel, score, ek]
  simp only [decide_eq_true_eq]
  exact if_congr Iff.rfl rfl negInf

theorem max_at {S : Shape} (a b : FVec Ideal S .f32) (i : S.Idx) : maximumf a b i = max (a i) (b i) := rfl

/-- A fold of an operation that takes the greater is a fold of `max`. -/
theorem fold_op {n : ℕ} (op : EReal → EReal → EReal) [Std.Commutative op] [Std.Associative op] (e : ∀ a b, op a b = max a b)
    (b : EReal) (f : Fin n → EReal) : Finset.univ.fold op b f = Finset.univ.fold max b f := by
  obtain rfl : op = max := funext fun a => funext fun b => e a b
  rfl

theorem largest_apply (s : FVec Ideal S8x8x8192x8192 .f32) (f : ℕ → EReal) (b h : Fin 8) (q : Fin 8192)
    (hf : ∀ k : Fin 8192, s (ix4 b h q k) = f k.val) : largest s (ix3 b h q) = top f 8192 := by
  have negInf : Ideal.ofBits FTy.f32 4286578688#32 = ⊥ := by simp [Ideal.ofBits, Ideal.ieee]
  have e0 : ∀ {S : Shape} (i : S.Idx), (constant S .f32 (4286578688#32) : FVec Ideal S .f32) i = ⊥ := fun i => negInf
  have e1 : (broadcastInDim S8x8x8192 ![] bcast_S_S8x8x8192 (constant S_ .f32 0xFF800000#32 : FVec Ideal S_ .f32)) (ix3 b h q) = (⊥ : EReal) := negInf
  unfold largest
  rw [max_at, e1, Host.reduce_eq_fold, Shape.ReducesTo.fold_fiber_r4_a3, e0]
  exact (congrArg (max (⊥ : EReal)) ((fold_op (FloatOps.maximumf (F := Ideal) (φ := .f32)) (fun _ _ => rfl) _ _).trans (fold_max f 8192 _ hf))).trans (max_bot_left _)

theorem exps_apply (s : FVec Ideal S8x8x8192x8192 .f32) (M : FVec Ideal S8x8x8192 .f32) (b h : Fin 8) (q k : Fin 8192) :
    exps s M (ix4 b h q k) = Ideal.exp (s (ix4 b h q k) - M (ix3 b h q)) := by
  pointwise [exps]

theorem weights_apply (e : FVec Ideal S8x8x8192x8192 .f32) (b h : Fin 8) (q k : Fin 8192) :
    weights e (ix4 b h q k) = Ideal.div (e (ix4 b h q k)) (∑ j : Fin 8192, e (ix4 b h q j)) := by
  pointwise [weights]

theorem output_apply (W : FVec Ideal S8x8192x8x64 .f32) (p : FVec Ideal S8x8x8192x8192 .f32) (row : Fin 65536) (y : Fin 512) :
    output W p (ix2 row y)
      = ∑ k : Fin 8192, W (ix4 (⟨row.val / 8192, by omega⟩ : Fin 8) k (⟨y.val / 64, by omega⟩ : Fin 8) (⟨y.val % 64, by omega⟩ : Fin 64))
        * p (ix4 (⟨row.val / 8192, by omega⟩ : Fin 8) (⟨y.val / 64, by omega⟩ : Fin 8) (⟨row.val % 8192, by omega⟩ : Fin 8192) k) := by
  pointwise [output]

/-- The softmax of the scores `s`, applied to the values `v`. -/
def softmaxSum (s v : ℕ → EReal) : EReal :=
  ∑ k ∈ Finset.range 8192, Ideal.div (Ideal.exp (s k - top s 8192)) (∑ j ∈ Finset.range 8192, Ideal.exp (s j - top s 8192)) * v k

/-- The reference's result at row `row`, column `y`. -/
theorem res_apply (c : Dev nD) (row : Fin 65536) (y : Fin 512) :
    (res_main_v25 m c : FVec Ideal S65536x512 .bf16) (ix2 row y)
      = softmaxSum (score (m ((c.tc : Thread nD τ).loc main_arg0)) (m ((c.tc : Thread nD τ).loc main_arg1))
          ⟨row.val / 8192, by omega⟩ ⟨row.val % 8192, by omega⟩ ⟨y.val / 64, by omega⟩)
        (fun n => (m ((c.tc : Thread nD τ).loc main_arg2) : FVec Ideal S8x8192x8x64 .f32)
          (ix4 (⟨row.val / 8192, by omega⟩ : Fin 8) (⟨n % 8192, Nat.mod_lt _ (by norm_num)⟩ : Fin 8192) (⟨y.val / 64, by omega⟩ : Fin 8) (⟨y.val % 64, by omega⟩ : Fin 64))) := by
  rw [res_eq, output_apply, softmaxSum]
  refine sum_fin _ 8192 _ fun k => ?_
  have ek : (⟨k.val % 8192, Nat.mod_lt _ (by norm_num)⟩ : Fin 8192) = k := Fin.ext (Nat.mod_eq_of_lt k.isLt)
  rw [ek, weights_apply, mul_comm]
  simp only [exps_apply, scores_apply]
  rw [largest_apply _ _ _ _ _ (fun k => scores_apply _ _ _ _ _ k)]
  rw [sum_fin (fun n => Ideal.exp (score (m ((c.tc : Thread nD τ).loc main_arg0)) (m ((c.tc : Thread nD τ).loc main_arg1))
          ⟨row.val / 8192, by omega⟩ ⟨row.val % 8192, by omega⟩ ⟨y.val / 64, by omega⟩ n - top (score (m ((c.tc : Thread nD τ).loc main_arg0)) (m ((c.tc : Thread nD τ).loc main_arg1))
          ⟨row.val / 8192, by omega⟩ ⟨row.val % 8192, by omega⟩ ⟨y.val / 64, by omega⟩) 8192)) 8192 _ (fun _ => rfl)]

end Cert.Mla.Ref

end
-- ==== Proof.Equation.lean ====
/- The kernel's attention is the reference's: the kernel scores in base-two units over padded heads and divides once,
   the reference scores in natural units and divides each weight. -/
module

public import proofs.«01_k».proof.Proof.Array
public import proofs.«01_k».proof.Proof.Ref
public import Idealize.ShloMosaic.Lib.Pointwise

@[expose] public section

set_option maxRecDepth 16384

noncomputable section

namespace Cert.Mla

open Idealize.ShloMosaic Cert.Online
open Cert.KernelIdeal (S8x8192x8x96 S8x8192x8x64)

theorem word96 : Ideal.ofBits FTy.f32 1119879168#32 = ((96 : ℝ) : EReal) := by
  simp [Ideal.ofBits, Ideal.ieee]
  rw [← EReal.coe_mul]
  norm_num

theorem word2 : Ideal.ofBits FTy.f32 1073741824#32 = ((2 : ℝ) : EReal) := by
  simp [Ideal.ofBits, Ideal.ieee]
  rw [← EReal.coe_mul]
  norm_num

/-- The reference's scale: one over the square root of 96. -/
theorem rsqrt96 : Ideal.rsqrt (Ideal.ofBits FTy.f32 1119879168#32) = (((Real.sqrt 96)⁻¹ : ℝ) : EReal) := by
  rw [word96, Ideal.rsqrt_coe, if_neg (by norm_num), if_neg (by norm_num)]

/-- The kernel's scale is the reference's over the logarithm of two. -/
theorem scale_eq : scale = (((Real.sqrt 96)⁻¹ : ℝ) : EReal) * (((Real.log 2)⁻¹ : ℝ) : EReal) := by
  have hl : (0 : ℝ) < Real.log 2 := Real.log_pos (by norm_num)
  have h0 : ((Real.log 2 : ℝ) : EReal) ≠ 0 := by exact_mod_cast hl.ne'
  rw [scale, rsqrt96, word2, Ideal.log_coe, if_neg (by norm_num), Ideal.div, if_neg h0]
  exact congrArg _ (EReal.coe_inv _).symm

/-- The padding lanes add nothing, and the scale comes out of the sum. -/
theorem padded_sum (Q K : FVec Ideal S8x8192x8x96 .f32) (b : Fin 8) (s n : Fin 8192) (h : Fin 8) :
    ∑ x : Fin 128, padded Q b s h x * scale * padded K b n h x
      = (∑ x : Fin 96, Q (ix4 b s h x) * K (ix4 b n h x)) * (((Real.sqrt 96)⁻¹ : ℝ) : EReal) * (((Real.log 2)⁻¹ : ℝ) : EReal) := by
  have hl : (0 : ℝ) < Real.log 2 := Real.log_pos (by norm_num)
  have e : scale = (((Real.sqrt 96)⁻¹ * (Real.log 2)⁻¹ : ℝ) : EReal) := by rw [scale_eq, EReal.coe_mul]
  have hs : 0 ≤ scale := by rw [e]; exact_mod_cast by positivity
  have ht : scale ≠ ⊤ := by rw [e]; exact EReal.coe_ne_top _
  rw [mul_assoc, ← scale_eq, mul_comm, mul_sum _ _ hs ht]
  rw [show (∑ x : Fin 128, padded Q b s h x * scale * padded K b n h x)
      = ∑ x : Fin (96 + 32), padded Q b s h x * scale * padded K b n h x from rfl, Fin.sum_univ_add]
  rw [Finset.sum_eq_zero (s := (Finset.univ : Finset (Fin 32))) fun x _ => by
    rw [padded_of_ge Q b s h _ (by simp), zero_mul, zero_mul], add_zero]
  refine Finset.sum_congr rfl fun x _ => ?_
  rw [padded_of_lt Q b s h _ (by simp), padded_of_lt K b n h _ (by simp)]
  rw [mul_comm (Q _) scale, mul_assoc]
  rfl

/-- The kernel's scores are the reference's in base-two units. -/
theorem kernelScore_eq (Q K : FVec Ideal S8x8192x8x96 .f32) (b : Fin 8) (s : Fin 8192) (h : Fin 8) :
    kernelScore Q K b s h = fun n => Ref.score Q K b s h n * (((Real.log 2)⁻¹ : ℝ) : EReal) := by
  have hl : (0 : ℝ) < Real.log 2 := Real.log_pos (by norm_num)
  funext n
  rw [kernelScore, Ref.score]
  split
  · rw [padded_sum, rsqrt96]; rfl
  · rw [EReal.bot_mul_coe_of_pos (by positivity)]

/-- A sum of products of finite numbers is finite. -/
theorem sum_finite {n : ℕ} (f g : Fin n → EReal) (hf : ∀ i, f i ≠ ⊤ ∧ f i ≠ ⊥) (hg : ∀ i, g i ≠ ⊤ ∧ g i ≠ ⊥) :
    ∃ r : ℝ, ∑ i, f i * g i = r := by
  classical
  have step : ∀ S : Finset (Fin n), ∃ r : ℝ, ∑ i ∈ S, f i * g i = r := by
    intro S
    induction S using Finset.induction_on with
    | empty => exact ⟨0, by simp⟩
    | insert a S ha ih =>
      obtain ⟨r, hr⟩ := ih
      refine ⟨(f a).toReal * (g a).toReal + r, ?_⟩
      rw [Finset.sum_insert ha, hr, EReal.coe_add, EReal.coe_mul, EReal.coe_toReal (hf a).1 (hf a).2, EReal.coe_toReal (hg a).1 (hg a).2]
  exact step _

/-- On finite queries and keys the kernel's attention of a token is the reference's. -/
theorem attend_softmax (Q K : FVec Ideal S8x8192x8x96 .f32) (hQ : ∀ i, Q i ≠ ⊤ ∧ Q i ≠ ⊥) (hK : ∀ i, K i ≠ ⊤ ∧ K i ≠ ⊥)
    (b : Fin 8) (s : Fin 8192) (h : Fin 8) (v : ℕ → EReal) :
    attend (kernelScore Q K b s h) v = Ref.softmaxSum (Ref.score Q K b s h) v := by
  have real : ∀ n, n ≤ s.val → ∃ r : ℝ, Ref.score Q K b s h n = r := by
    intro n hn
    obtain ⟨r, hr⟩ := sum_finite (fun x : Fin 96 => Q (ix4 b s h x))
      (fun x : Fin 96 => K (ix4 b (⟨n % 8192, Nat.mod_lt _ (by norm_num)⟩ : Fin 8192) h x)) (fun _ => hQ _) (fun _ => hK _)
    refine ⟨r * (Real.sqrt 96)⁻¹, ?_⟩
    rw [Ref.score, if_pos hn, rsqrt96, EReal.coe_mul, ← hr]
  rw [kernelScore_eq, attend, Ref.softmaxSum]
  refine quotient_eq (Ref.score Q K b s h) v (by norm_num) ?_ fun k _ => ?_
  · obtain ⟨r, hr⟩ := real 0 (Nat.zero_le _)
    rw [hr]; exact EReal.coe_ne_bot _
  · by_cases hk : k ≤ s.val
    · obtain ⟨r, hr⟩ := real k hk
      rw [hr]; exact EReal.coe_ne_top _
    · rw [Ref.score, if_neg hk]; exact bot_ne_top

/-- On finite queries and keys the reference's result array is the kernel's. -/
theorem reference_eq (m : (ℓ : Loc Cert.ReferenceIdeal.nD Cert.ReferenceIdeal.τ Cert.ReferenceIdeal.sig) → Buf (Elt Ideal) ℓ)
    (c : Dev Cert.ReferenceIdeal.nD) (Q K : FVec Ideal S8x8192x8x96 .f32) (W : FVec Ideal S8x8192x8x64 .f32)
    (eQ : m ((c.tc : Thread Cert.ReferenceIdeal.nD Cert.ReferenceIdeal.τ).loc Cert.ReferenceIdeal.main_arg0) = Q)
    (eK : m ((c.tc : Thread Cert.ReferenceIdeal.nD Cert.ReferenceIdeal.τ).loc Cert.ReferenceIdeal.main_arg1) = K)
    (eW : m ((c.tc : Thread Cert.ReferenceIdeal.nD Cert.ReferenceIdeal.τ).loc Cert.ReferenceIdeal.main_arg2) = W)
    (hQ : ∀ i, Q i ≠ ⊤ ∧ Q i ≠ ⊥) (hK : ∀ i, K i ≠ ⊤ ∧ K i ≠ ⊥) :
    (Cert.ReferenceIdeal.Value.res_main_v25 m c : FVec Ideal Cert.KernelIdeal.S65536x512 .bf16) = attention Q K W := by
  subst eQ eK eW
  funext j
  idx_vars j
  exact (Ref.res_apply m c _ _).trans (attend_softmax _ _ hQ hK _ _ _ _).symm

end Cert.Mla

end
-- ==== Proof.Pre.lean ====
/- What the precondition says: every query and key entry is a real number. -/
module

public import proofs.«01_k».proof.Pre_finite_scores
public import Idealize.ShloMosaic.Lib.Pointwise
public import Idealize.ShloMosaic.Lib.ReduceAll

@[expose] public section

set_option maxRecDepth 16384

noncomputable section

namespace Cert.Mla.Pre

open Idealize.ShloMosaic
open Cert.Pre_finite_scores

/-- The shape relations of the precondition's operations. -/
theorem facts : Facts where
  bcast_S_S8x8192x8x96 := by decide
  reducesTo_S8x8192x8x96_S_d0_1_2_3 := by decide
  h_S_ := by decide

/-- An entry whose absolute value compares below `+∞` is finite. -/
theorem finite_of_lt {x : EReal} (h : FloatOps.cmpf (F := Ideal) (φ := .f32) .olt (FloatOps.hostAbsf (F := Ideal) (φ := .f32) x) (Ideal.ofBits .f32 0x7F800000#32) = 1#1) :
    x ≠ ⊤ ∧ x ≠ ⊥ := by
  have e : Ideal.ofBits .f32 0x7F800000#32 = ⊤ := by simp [Ideal.ofBits, Ideal.ieee]
  rw [e] at h
  have h' : BitVec.ofBool (decide (max x (-x) < ⊤)) = 1#1 := h
  refine ⟨?_, ?_⟩ <;> rintro rfl <;> simp at h'

/-- Under the precondition every query and every key entry is finite. -/
theorem finite [Facts] (Q K : FVec Ideal S8x8192x8x96 .f32) (W : FVec Ideal S8x8192x8x64 .f32)
    (h : fn (F := Ideal) Q K W = fun _ => 1#1) : (∀ i, Q i ≠ ⊤ ∧ Q i ≠ ⊥) ∧ ∀ i, K i ≠ ⊤ ∧ K i ≠ ⊥ := by
  have h' := congrFun h (fun a => a.elim0)
  have : Subsingleton S_.Idx := ⟨fun a b => funext fun d => d.elim0⟩
  unfold fn at h'
  obtain ⟨hq, hk⟩ := (show ∀ a b : BitVec 1, IntOp.andi a b = 1#1 → a = 1#1 ∧ b = 1#1 by decide) _ _ h'
  exact ⟨fun i => finite_of_lt (Host.reduce_andi_all _ _ _ _ _ hq i), fun i => finite_of_lt (Host.reduce_andi_all _ _ _ _ _ hk i)⟩

end Cert.Mla.Pre

end
-- ==== Proof.ProjRun.lean ====
/- The projections' run: its buffers at the region, what each output window holds after a grid step, and the run of the whole program. -/
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.Pipeline.Value
public import Idealize.ShloMosaic.Lib.WordCmp

@[expose] public section

-- the rectangles here have long axes
set_option maxRecDepth 16384

noncomputable section

namespace Cert.Kernel2Ideal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1380000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel2Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The body's accesses -/

abbrev r0_0 : Rect S512x1024 := Rect.unit (s := S512x1024) ![0, 0] S512x1024.size inb_S512x1024_S512x1024_0_0
abbrev r0_1 : Rect S1x1024 := Rect.unit (s := S1x1024) ![0, 0] S1x1024.size inb_S1x1024_S1x1024_0_0
abbrev r0_2 : Rect S512x128 := Rect.unit (s := S512x128) ![0, 0] S512x128.size inb_S512x128_S512x128_0_0
abbrev r0_3 : Rect S1024x4736 := Rect.unit (s := S1024x4736) ![0, 0] S1024x768.size inb_S1024x4736_S1024x768_0_0
abbrev r0_4 : Rect S1x768 := Rect.unit (s := S1x768) ![0, 0] S1x768.size inb_S1x768_S1x768_0_0
abbrev r0_5 : Rect S768x1024 := Rect.unit (s := S768x1024) ![0, 0] S768x1024.size inb_S768x1024_S768x1024_0_0
abbrev r0_6 : Rect S512x1024 := Rect.unit (s := S512x1024) ![0, 0] S512x128.size inb_S512x1024_S512x128_0_0
abbrev r0_7 : Rect S512x1024 := Rect.unit (s := S512x1024) ![0, 128] S512x128.size inb_S512x1024_S512x128_0_128
abbrev r0_8 : Rect S512x1024 := Rect.unit (s := S512x1024) ![0, 256] S512x128.size inb_S512x1024_S512x128_0_256
abbrev r0_9 : Rect S512x1024 := Rect.unit (s := S512x1024) ![0, 384] S512x128.size inb_S512x1024_S512x128_0_384
abbrev r0_10 : Rect S512x1024 := Rect.unit (s := S512x1024) ![0, 512] S512x128.size inb_S512x1024_S512x128_0_512
abbrev r0_11 : Rect S512x1024 := Rect.unit (s := S512x1024) ![0, 640] S512x128.size inb_S512x1024_S512x128_0_640
abbrev r0_12 : Rect S512x1024 := Rect.unit (s := S512x1024) ![0, 768] S512x128.size inb_S512x1024_S512x128_0_768
abbrev r0_13 : Rect S512x1024 := Rect.unit (s := S512x1024) ![0, 896] S512x128.size inb_S512x1024_S512x128_0_896
abbrev r0_14 : Rect S1024x4736 := Rect.unit (s := S1024x4736) ![0, 768] S1024x256.size inb_S1024x4736_S1024x256_0_768
abbrev r0_15 : Rect S1x256 := Rect.unit (s := S1x256) ![0, 0] S1x256.size inb_S1x256_S1x256_0_0
abbrev r0_16 : Rect S256x1024 := Rect.unit (s := S256x1024) ![0, 0] S256x1024.size inb_S256x1024_S256x1024_0_0
abbrev r0_17 : Rect S1024x4736 := Rect.unit (s := S1024x4736) ![0, 1024] S1024x128.size inb_S1024x4736_S1024x128_0_1024
abbrev r0_18 : Rect S256x512 := Rect.unit (s := S256x512) ![0, 0] S256x512.size inb_S256x512_S256x512_0_0
abbrev r0_19 : Rect S512x512 := Rect.unit (s := S512x512) ![0, 0] S512x512.size inb_S512x512_S512x512_0_0
abbrev r0_20 : Rect S1024x4736 := Rect.unit (s := S1024x4736) ![0, 1152] S1024x512.size inb_S1024x4736_S1024x512_0_1152
abbrev r0_21 : Rect S1024x4736 := Rect.unit (s := S1024x4736) ![0, 1664] S1024x512.size inb_S1024x4736_S1024x512_0_1664
abbrev r0_22 : Rect S512x512 := Rect.unit (s := S512x512) ![0, 0] S512x128.size inb_S512x512_S512x128_0_0
abbrev r0_23 : Rect S1x512x512 := Rect.unit (s := S1x512x512) ![0, 0, 0] S1x128x512.size inb_S1x512x512_S1x128x512_0_0_0
abbrev r0_24 : Rect S2x1x512 := Rect.unit (s := S2x1x512) ![0, 0, 0] S1x1x128.size inb_S2x1x512_S1x1x128_0_0_0
abbrev r0_25 : Rect S2x1x512 := Rect.unit (s := S2x1x512) ![1, 0, 0] S1x1x128.size inb_S2x1x512_S1x1x128_1_0_0
abbrev r0_26 : Rect S512x512 := Rect.unit (s := S512x512) ![0, 128] S512x128.size inb_S512x512_S512x128_0_128
abbrev r0_27 : Rect S1x512x512 := Rect.unit (s := S1x512x512) ![0, 128, 0] S1x128x512.size inb_S1x512x512_S1x128x512_0_128_0
abbrev r0_28 : Rect S2x1x512 := Rect.unit (s := S2x1x512) ![0, 0, 128] S1x1x128.size inb_S2x1x512_S1x1x128_0_0_128
abbrev r0_29 : Rect S2x1x512 := Rect.unit (s := S2x1x512) ![1, 0, 128] S1x1x128.size inb_S2x1x512_S1x1x128_1_0_128
abbrev r0_30 : Rect S512x512 := Rect.unit (s := S512x512) ![0, 256] S512x128.size inb_S512x512_S512x128_0_256
abbrev r0_31 : Rect S1x512x512 := Rect.unit (s := S1x512x512) ![0, 256, 0] S1x128x512.size inb_S1x512x512_S1x128x512_0_256_0
abbrev r0_32 : Rect S2x1x512 := Rect.unit (s := S2x1x512) ![0, 0, 256] S1x1x128.size inb_S2x1x512_S1x1x128_0_0_256
abbrev r0_33 : Rect S2x1x512 := Rect.unit (s := S2x1x512) ![1, 0, 256] S1x1x128.size inb_S2x1x512_S1x1x128_1_0_256
abbrev r0_34 : Rect S512x512 := Rect.unit (s := S512x512) ![0, 384] S512x128.size inb_S512x512_S512x128_0_384
abbrev r0_35 : Rect S1x512x512 := Rect.unit (s := S1x512x512) ![0, 384, 0] S1x128x512.size inb_S1x512x512_S1x128x512_0_384_0
abbrev r0_36 : Rect S2x1x512 := Rect.unit (s := S2x1x512) ![0, 0, 384] S1x1x128.size inb_S2x1x512_S1x1x128_0_0_384
abbrev r0_37 : Rect S2x1x512 := Rect.unit (s := S2x1x512) ![1, 0, 384] S1x1x128.size inb_S2x1x512_S1x1x128_1_0_384
abbrev r0_38 : Rect S1024x4736 := Rect.unit (s := S1024x4736) ![0, 2176] S1024x512.size inb_S1024x4736_S1024x512_0_2176
abbrev r0_39 : Rect S1024x4736 := Rect.unit (s := S1024x4736) ![0, 2688] S1024x1024.size inb_S1024x4736_S1024x1024_0_2688
abbrev r0_40 : Rect S1024x4736 := Rect.unit (s := S1024x4736) ![0, 3712] S1024x1024.size inb_S1024x4736_S1024x1024_0_3712

/-! ## What the body leaves in each output window's buffer -/

/-! ### Values of the body that several stores share

    Each is a vector the body binds, stated over the input windows' blocks and numbered on from the skeleton's
    payload functions; the comment after each is the name the printed body has for it. -/

def k0_pay73 (x0 : Vec F S512x1024 .f32) (x1 : Vec F S1x1024 .f32) (x2 : Vec F S1024x4736 .bf16) (x3 : Vec F S1x768 .f32) (x4 : Vec F S768x1024 .bf16) (x5 : Vec F S1x256 .f32) (x6 : Vec F S256x1024 .bf16) (x7 : Vec F S256x512 .bf16) (x8 : Vec F S512x128 .f32) (x9 : Vec F S512x128 .f32) (x10 : Vec F S512x128 .f32) (x11 : Vec F S512x128 .f32) (x12 : Vec F S512x128 .f32) (x13 : Vec F S512x128 .f32) : FVec F S512x1024 .bf16 :=
  k0_pay5 (View.ld x0 r0_0) (View.ld x1 r0_1) -- `v16`
def k0_pay74 (x0 : Vec F S512x1024 .f32) (x1 : Vec F S1x1024 .f32) (x2 : Vec F S1024x4736 .bf16) (x3 : Vec F S1x768 .f32) (x4 : Vec F S768x1024 .bf16) (x5 : Vec F S1x256 .f32) (x6 : Vec F S256x1024 .bf16) (x7 : Vec F S256x512 .bf16) (x8 : Vec F S512x128 .f32) (x9 : Vec F S512x128 .f32) (x10 : Vec F S512x128 .f32) (x11 : Vec F S512x128 .f32) (x12 : Vec F S512x128 .f32) (x13 : Vec F S512x128 .f32) : FVec F S512x128 .f32 :=
  k0_pay6 (View.ld x8 r0_2) -- `v18`
def k0_pay75 (x0 : Vec F S512x1024 .f32) (x1 : Vec F S1x1024 .f32) (x2 : Vec F S1024x4736 .bf16) (x3 : Vec F S1x768 .f32) (x4 : Vec F S768x1024 .bf16) (x5 : Vec F S1x256 .f32) (x6 : Vec F S256x1024 .bf16) (x7 : Vec F S256x512 .bf16) (x8 : Vec F S512x128 .f32) (x9 : Vec F S512x128 .f32) (x10 : Vec F S512x128 .f32) (x11 : Vec F S512x128 .f32) (x12 : Vec F S512x128 .f32) (x13 : Vec F S512x128 .f32) : FVec F S512x128 .f32 :=
  k0_pay7 (View.ld x9 r0_2) -- `v20`
def k0_pay76 (x0 : Vec F S512x1024 .f32) (x1 : Vec F S1x1024 .f32) (x2 : Vec F S1024x4736 .bf16) (x3 : Vec F S1x768 .f32) (x4 : Vec F S768x1024 .bf16) (x5 : Vec F S1x256 .f32) (x6 : Vec F S256x1024 .bf16) (x7 : Vec F S256x512 .bf16) (x8 : Vec F S512x128 .f32) (x9 : Vec F S512x128 .f32) (x10 : Vec F S512x128 .f32) (x11 : Vec F S512x128 .f32) (x12 : Vec F S512x128 .f32) (x13 : Vec F S512x128 .f32) : FVec F S512x128 .f32 :=
  k0_pay8 (View.ld x10 r0_2) -- `v22`
def k0_pay77 (x0 : Vec F S512x1024 .f32) (x1 : Vec F S1x1024 .f32) (x2 : Vec F S1024x4736 .bf16) (x3 : Vec F S1x768 .f32) (x4 : Vec F S768x1024 .bf16) (x5 : Vec F S1x256 .f32) (x6 : Vec F S256x1024 .bf16) (x7 : Vec F S256x512 .bf16) (x8 : Vec F S512x128 .f32) (x9 : Vec F S512x128 .f32) (x10 : Vec F S512x128 .f32) (x11 : Vec F S512x128 .f32) (x12 : Vec F S512x128 .f32) (x13 : Vec F S512x128 .f32) : FVec F S512x128 .f32 :=
  k0_pay9 (View.ld x11 r0_2) -- `v24`
def k0_pay78 (x0 : Vec F S512x1024 .f32) (x1 : Vec F S1x1024 .f32) (x2 : Vec F S1024x4736 .bf16) (x3 : Vec F S1x768 .f32) (x4 : Vec F S768x1024 .bf16) (x5 : Vec F S1x256 .f32) (x6 : Vec F S256x1024 .bf16) (x7 : Vec F S256x512 .bf16) (x8 : Vec F S512x128 .f32) (x9 : Vec F S512x128 .f32) (x10 : Vec F S512x128 .f32) (x11 : Vec F S512x128 .f32) (x12 : Vec F S512x128 .f32) (x13 : Vec F S512x128 .f32) : FVec F S512x128 .f32 :=
  k0_pay10 (View.ld x12 r0_2) -- `v26`
def k0_pay79 (x0 : Vec F S512x1024 .f32) (x1 : Vec F S1x1024 .f32) (x2 : Vec F S1024x4736 .bf16) (x3 : Vec F S1x768 .f32) (x4 : Vec F S768x1024 .bf16) (x5 : Vec F S1x256 .f32) (x6 : Vec F S256x1024 .bf16) (x7 : Vec F S256x512 .bf16) (x8 : Vec F S512x128 .f32) (x9 : Vec F S512x128 .f32) (x10 : Vec F S512x128 .f32) (x11 : Vec F S512x128 .f32) (x12 : Vec F S512x128 .f32) (x13 : Vec F S512x128 .f32) : FVec F S512x128 .f32 :=
  k0_pay11 (View.ld x13 r0_2) -- `v28`
def k0_pay80 (x0 : Vec F S512x1024 .f32) (x1 : Vec F S1x1024 .f32) (x2 : Vec F S1024x4736 .bf16) (x3 : Vec F S1x768 .f32) (x4 : Vec F S768x1024 .bf16) (x5 : Vec F S1x256 .f32) (x6 : Vec F S256x1024 .bf16) (x7 : Vec F S256x512 .bf16) (x8 : Vec F S512x128 .f32) (x9 : Vec F S512x128 .f32) (x10 : Vec F S512x128 .f32) (x11 : Vec F S512x128 .f32) (x12 : Vec F S512x128 .f32) (x13 : Vec F S512x128 .f32) : FVec F S512x768 .f32 :=
  k0_pay12 (View.ld x0 r0_0) (View.ld x1 r0_1) (View.ld x2 r0_3) -- `v31`
def k0_pay81 (x0 : Vec F S512x1024 .f32) (x1 : Vec F S1x1024 .f32) (x2 : Vec F S1024x4736 .bf16) (x3 : Vec F S1x768 .f32) (x4 : Vec F S768x1024 .bf16) (x5 : Vec F S1x256 .f32) (x6 : Vec F S256x1024 .bf16) (x7 : Vec F S256x512 .bf16) (x8 : Vec F S512x128 .f32) (x9 : Vec F S512x128 .f32) (x10 : Vec F S512x128 .f32) (x11 : Vec F S512x128 .f32) (x12 : Vec F S512x128 .f32) (x13 : Vec F S512x128 .f32) : FVec F S1x768 .f32 :=
  k0_pay13 (View.ld x3 r0_4) -- `v33`
def k0_pay82 (x0 : Vec F S512x1024 .f32) (x1 : Vec F S1x1024 .f32) (x2 : Vec F S1024x4736 .bf16) (x3 : Vec F S1x768 .f32) (x4 : Vec F S768x1024 .bf16) (x5 : Vec F S1x256 .f32) (x6 : Vec F S256x1024 .bf16) (x7 : Vec F S256x512 .bf16) (x8 : Vec F S512x128 .f32) (x9 : Vec F S512x128 .f32) (x10 : Vec F S512x128 .f32) (x11 : Vec F S512x128 .f32) (x12 : Vec F S512x128 .f32) (x13 : Vec F S512x128 .f32) : FVec F S512x768 .f32 :=
  k0_pay14 (View.ld x0 r0_0) (View.ld x1 r0_1) (View.ld x2 r0_3) -- `v34`
def k0_pay83 (x0 : Vec F S512x1024 .f32) (x1 : Vec F S1x1024 .f32) (x2 : Vec F S1024x4736 .bf16) (x3 : Vec F S1x768 .f32) (x4 : Vec F S768x1024 .bf16) (x5 : Vec F S1x256 .f32) (x6 : Vec F S256x1024 .bf16) (x7 : Vec F S256x512 .bf16) (x8 : Vec F S512x128 .f32) (x9 : Vec F S512x128 .f32) (x10 : Vec F S512x128 .f32) (x11 : Vec F S512x128 .f32) (x12 : Vec F S512x128 .f32) (x13 : Vec F S512x128 .f32) : FVec F S512x1024 .f32 :=
  k0_pay15 (k0_pay80 x0 x1 x2 x3 x4 x5 x6 x7 x8 x9 x10 x11 x12 x13) (k0_pay81 x0 x1 x2 x3 x4 x5 x6 x7 x8 x9 x10 x11 x12 x13) (k0_pay82 x0 x1 x2 x3 x4 x5 x6 x7 x8 x9 x10 x11 x12 x13) (View.ld x4 r0_5) -- `v49`
def k0_pay84 (x0 : Vec F S512x1024 .f32) (x1 : Vec F S1x1024 .f32) (x2 : Vec F S1024x4736 .bf16) (x3 : Vec F S1x768 .f32) (x4 : Vec F S768x1024 .bf16) (x5 : Vec F S1x256 .f32) (x6 : Vec F S256x1024 .bf16) (x7 : Vec F S256x512 .bf16) (x8 : Vec F S512x128 .f32) (x9 : Vec F S512x128 .f32) (x10 : Vec F S512x128 .f32) (x11 : Vec F S512x128 .f32) (x12 : Vec F S512x128 .f32) (x13 : Vec F S512x128 .f32) : FVec F S512x256 .f32 :=
  k0_pay29 (k0_pay73 x0 x1 x2 x3 x4 x5 x6 x7 x8 x9 x10 x11 x12 x13) (View.ld x2 r0_14) -- `v148`
def k0_pay85 (x0 : Vec F S512x1024 .f32) (x1 : Vec F S1x1024 .f32) (x2 : Vec F S1024x4736 .bf16) (x3 : Vec F S1x768 .f32) (x4 : Vec F S768x1024 .bf16) (x5 : Vec F S1x256 .f32) (x6 : Vec F S256x1024 .bf16) (x7 : Vec F S256x512 .bf16) (x8 : Vec F S512x128 .f32) (x9 : Vec F S512x128 .f32) (x10 : Vec F S512x128 .f32) (x11 : Vec F S512x128 .f32) (x12 : Vec F S512x128 .f32) (x13 : Vec F S512x128 .f32) : FVec F S1x256 .f32 :=
  k0_pay30 (View.ld x5 r0_15) -- `v150`
def k0_pay86 (x0 : Vec F S512x1024 .f32) (x1 : Vec F S1x1024 .f32) (x2 : Vec F S1024x4736 .bf16) (x3 : Vec F S1x768 .f32) (x4 : Vec F S768x1024 .bf16) (x5 : Vec F S1x256 .f32) (x6 : Vec F S256x1024 .bf16) (x7 : Vec F S256x512 .bf16) (x8 : Vec F S512x128 .f32) (x9 : Vec F S512x128 .f32) (x10 : Vec F S512x128 .f32) (x11 : Vec F S512x128 .f32) (x12 : Vec F S512x128 .f32) (x13 : Vec F S512x128 .f32) : FVec F S512x1 .f32 :=
  k0_pay31 (k0_pay73 x0 x1 x2 x3 x4 x5 x6 x7 x8 x9 x10 x11 x12 x13) (View.ld x2 r0_14) -- `v153`
def k0_pay87 (x0 : Vec F S512x1024 .f32) (x1 : Vec F S1x1024 .f32) (x2 : Vec F S1024x4736 .bf16) (x3 : Vec F S1x768 .f32) (x4 : Vec F S768x1024 .bf16) (x5 : Vec F S1x256 .f32) (x6 : Vec F S256x1024 .bf16) (x7 : Vec F S256x512 .bf16) (x8 : Vec F S512x128 .f32) (x9 : Vec F S512x128 .f32) (x10 : Vec F S512x128 .f32) (x11 : Vec F S512x128 .f32) (x12 : Vec F S512x128 .f32) (x13 : Vec F S512x128 .f32) : FVec F S512x1024 .f32 :=
  k0_pay33 (k0_pay84 x0 x1 x2 x3 x4 x5 x6 x7 x8 x9 x10 x11 x12 x13) (k0_pay85 x0 x1 x2 x3 x4 x5 x6 x7 x8 x9 x10 x11 x12 x13) (k0_pay86 x0 x1 x2 x3 x4 x5 x6 x7 x8 x9 x10 x11 x12 x13) (Scalar.ofBits .f32 0x43800000#32) (View.ld x6 r0_16) -- `v166`
def k0_pay88 (x0 : Vec F S512x1024 .f32) (x1 : Vec F S1x1024 .f32) (x2 : Vec F S1024x4736 .bf16) (x3 : Vec F S1x768 .f32) (x4 : Vec F S768x1024 .bf16) (x5 : Vec F S1x256 .f32) (x6 : Vec F S256x1024 .bf16) (x7 : Vec F S256x512 .bf16) (x8 : Vec F S512x128 .f32) (x9 : Vec F S512x128 .f32) (x10 : Vec F S512x128 .f32) (x11 : Vec F S512x128 .f32) (x12 : Vec F S512x128 .f32) (x13 : Vec F S512x128 .f32) : FVec F S512x128 .f32 :=
  k0_pay34 (k0_pay73 x0 x1 x2 x3 x4 x5 x6 x7 x8 x9 x10 x11 x12 x13) (k0_pay74 x0 x1 x2 x3 x4 x5 x6 x7 x8 x9 x10 x11 x12 x13) (k0_pay75 x0 x1 x2 x3 x4 x5 x6 x7 x8 x9 x10 x11 x12 x13) (k0_pay76 x0 x1 x2 x3 x4 x5 x6 x7 x8 x9 x10 x11 x12 x13) (View.ld x2 r0_17) -- `v176`
def k0_pay89 (x0 : Vec F S512x1024 .f32) (x1 : Vec F S1x1024 .f32) (x2 : Vec F S1024x4736 .bf16) (x3 : Vec F S1x768 .f32) (x4 : Vec F S768x1024 .bf16) (x5 : Vec F S1x256 .f32) (x6 : Vec F S256x1024 .bf16) (x7 : Vec F S256x512 .bf16) (x8 : Vec F S512x128 .f32) (x9 : Vec F S512x128 .f32) (x10 : Vec F S512x128 .f32) (x11 : Vec F S512x128 .f32) (x12 : Vec F S512x128 .f32) (x13 : Vec F S512x128 .f32) : FVec F S512x512 .f32 :=
  k0_pay44 (k0_pay73 x0 x1 x2 x3 x4 x5 x6 x7 x8 x9 x10 x11 x12 x13) (View.ld x2 r0_20) -- `v216`
def k0_pay90 (x0 : Vec F S512x1024 .f32) (x1 : Vec F S1x1024 .f32) (x2 : Vec F S1024x4736 .bf16) (x3 : Vec F S1x768 .f32) (x4 : Vec F S768x1024 .bf16) (x5 : Vec F S1x256 .f32) (x6 : Vec F S256x1024 .bf16) (x7 : Vec F S256x512 .bf16) (x8 : Vec F S512x128 .f32) (x9 : Vec F S512x128 .f32) (x10 : Vec F S512x128 .f32) (x11 : Vec F S512x128 .f32) (x12 : Vec F S512x128 .f32) (x13 : Vec F S512x128 .f32) : FVec F S512x512 .f32 :=
  k0_pay45 (k0_pay73 x0 x1 x2 x3 x4 x5 x6 x7 x8 x9 x10 x11 x12 x13) (View.ld x2 r0_21) -- `v219`

/-- Window 14's staging buffer after the body, from the input windows' blocks: its 8 stores as pieces, LAST
    FIRST (Lib/Pipeline/FrameBody.lean `View.canon`; the payloads are the skeleton's and the values stated above). -/
def out0_14 (x0 : Vec F S512x1024 .f32) (x1 : Vec F S1x1024 .f32) (x2 : Vec F S1024x4736 .bf16) (x3 : Vec F S1x768 .f32) (x4 : Vec F S768x1024 .bf16) (x5 : Vec F S1x256 .f32) (x6 : Vec F S256x1024 .bf16) (x7 : Vec F S256x512 .bf16) (x8 : Vec F S512x128 .f32) (x9 : Vec F S512x128 .f32) (x10 : Vec F S512x128 .f32) (x11 : Vec F S512x128 .f32) (x12 : Vec F S512x128 .f32) (x13 : Vec F S512x128 .f32) : Vec F S512x1024 .bf16 :=
  View.canon [⟨r0_13, k0_pay28 (k0_pay74 x0 x1 x2 x3 x4 x5 x6 x7 x8 x9 x10 x11 x12 x13) (k0_pay75 x0 x1 x2 x3 x4 x5 x6 x7 x8 x9 x10 x11 x12 x13) (k0_pay76 x0 x1 x2 x3 x4 x5 x6 x7 x8 x9 x10 x11 x12 x13) (k0_pay83 x0 x1 x2 x3 x4 x5 x6 x7 x8 x9 x10 x11 x12 x13)⟩,
    ⟨r0_12, k0_pay27 (k0_pay74 x0 x1 x2 x3 x4 x5 x6 x7 x8 x9 x10 x11 x12 x13) (k0_pay75 x0 x1 x2 x3 x4 x5 x6 x7 x8 x9 x10 x11 x12 x13) (k0_pay76 x0 x1 x2 x3 x4 x5 x6 x7 x8 x9 x10 x11 x12 x13) (k0_pay83 x0 x1 x2 x3 x4 x5 x6 x7 x8 x9 x10 x11 x12 x13)⟩,
    ⟨r0_11, k0_pay26 (k0_pay24 (k0_pay74 x0 x1 x2 x3 x4 x5 x6 x7 x8 x9 x10 x11 x12 x13) (k0_pay75 x0 x1 x2 x3 x4 x5 x6 x7 x8 x9 x10 x11 x12 x13) (k0_pay83 x0 x1 x2 x3 x4 x5 x6 x7 x8 x9 x10 x11 x12 x13)) (k0_pay25 (k0_pay76 x0 x1 x2 x3 x4 x5 x6 x7 x8 x9 x10 x11 x12 x13) (k0_pay83 x0 x1 x2 x3 x4 x5 x6 x7 x8 x9 x10 x11 x12 x13))⟩,
    ⟨r0_10, k0_pay22 (k0_pay74 x0 x1 x2 x3 x4 x5 x6 x7 x8 x9 x10 x11 x12 x13) (k0_pay75 x0 x1 x2 x3 x4 x5 x6 x7 x8 x9 x10 x11 x12 x13) (k0_pay76 x0 x1 x2 x3 x4 x5 x6 x7 x8 x9 x10 x11 x12 x13) (k0_pay83 x0 x1 x2 x3 x4 x5 x6 x7 x8 x9 x10 x11 x12 x13)⟩,
    ⟨r0_9, k0_pay21 (k0_pay74 x0 x1 x2 x3 x4 x5 x6 x7 x8 x9 x10 x11 x12 x13) (k0_pay75 x0 x1 x2 x3 x4 x5 x6 x7 x8 x9 x10 x11 x12 x13) (k0_pay76 x0 x1 x2 x3 x4 x5 x6 x7 x8 x9 x10 x11 x12 x13) (k0_pay83 x0 x1 x2 x3 x4 x5 x6 x7 x8 x9 x10 x11 x12 x13)⟩,
    ⟨r0_8, k0_pay20 (k0_pay75 x0 x1 x2 x3 x4 x5 x6 x7 x8 x9 x10 x11 x12 x13) (k0_pay76 x0 x1 x2 x3 x4 x5 x6 x7 x8 x9 x10 x11 x12 x13) (k0_pay18 (k0_pay80 x0 x1 x2 x3 x4 x5 x6 x7 x8 x9 x10 x11 x12 x13) (k0_pay81 x0 x1 x2 x3 x4 x5 x6 x7 x8 x9 x10 x11 x12 x13) (k0_pay82 x0 x1 x2 x3 x4 x5 x6 x7 x8 x9 x10 x11 x12 x13) (View.ld x4 r0_5)) (k0_pay19 (k0_pay74 x0 x1 x2 x3 x4 x5 x6 x7 x8 x9 x10 x11 x12 x13) (k0_pay80 x0 x1 x2 x3 x4 x5 x6 x7 x8 x9 x10 x11 x12 x13) (k0_pay81 x0 x1 x2 x3 x4 x5 x6 x7 x8 x9 x10 x11 x12 x13) (k0_pay82 x0 x1 x2 x3 x4 x5 x6 x7 x8 x9 x10 x11 x12 x13) (View.ld x4 r0_5)) 112#32⟩,
    ⟨r0_7, k0_pay17 (k0_pay74 x0 x1 x2 x3 x4 x5 x6 x7 x8 x9 x10 x11 x12 x13) (k0_pay75 x0 x1 x2 x3 x4 x5 x6 x7 x8 x9 x10 x11 x12 x13) (k0_pay76 x0 x1 x2 x3 x4 x5 x6 x7 x8 x9 x10 x11 x12 x13) (k0_pay80 x0 x1 x2 x3 x4 x5 x6 x7 x8 x9 x10 x11 x12 x13) (k0_pay81 x0 x1 x2 x3 x4 x5 x6 x7 x8 x9 x10 x11 x12 x13) (k0_pay82 x0 x1 x2 x3 x4 x5 x6 x7 x8 x9 x10 x11 x12 x13) (View.ld x4 r0_5)⟩,
    ⟨r0_6, k0_pay16 (k0_pay74 x0 x1 x2 x3 x4 x5 x6 x7 x8 x9 x10 x11 x12 x13) (k0_pay75 x0 x1 x2 x3 x4 x5 x6 x7 x8 x9 x10 x11 x12 x13) (k0_pay76 x0 x1 x2 x3 x4 x5 x6 x7 x8 x9 x10 x11 x12 x13) (k0_pay80 x0 x1 x2 x3 x4 x5 x6 x7 x8 x9 x10 x11 x12 x13) (k0_pay81 x0 x1 x2 x3 x4 x5 x6 x7 x8 x9 x10 x11 x12 x13) (k0_pay82 x0 x1 x2 x3 x4 x5 x6 x7 x8 x9 x10 x11 x12 x13) (View.ld x4 r0_5)⟩]

/-- Its stores tile the buffer (checked by evaluation), so they cover it. -/
theorem cover0_14 (p0 : Vec F S512x128 .bf16) (p1 : Vec F S512x128 .bf16) (p2 : Vec F S512x128 .bf16) (p3 : Vec F S512x128 .bf16) (p4 : Vec F S512x128 .bf16) (p5 : Vec F S512x128 .bf16) (p6 : Vec F S512x128 .bf16) (p7 : Vec F S512x128 .bf16) (y : S512x1024.Idx) :
    ∃ pc ∈ ([⟨r0_13, p0⟩, ⟨r0_12, p1⟩, ⟨r0_11, p2⟩, ⟨r0_10, p3⟩, ⟨r0_9, p4⟩, ⟨r0_8, p5⟩, ⟨r0_7, p6⟩, ⟨r0_6, p7⟩] : List (View.Piece (Elt F) S512x1024 .bf16)), y ∈ pc.1.set :=
  View.cover_of_tiled [⟨r0_13, p0⟩, ⟨r0_12, p1⟩, ⟨r0_11, p2⟩, ⟨r0_10, p3⟩, ⟨r0_9, p4⟩, ⟨r0_8, p5⟩, ⟨r0_7, p6⟩, ⟨r0_6, p7⟩] S512x128.size (by rfl) y

/-- Window 15's staging buffer after the body, from the input windows' blocks: its 8 stores as pieces, LAST
    FIRST (Lib/Pipeline/FrameBody.lean `View.canon`; the payloads are the skeleton's and the values stated above). -/
def out0_15 (x0 : Vec F S512x1024 .f32) (x1 : Vec F S1x1024 .f32) (x2 : Vec F S1024x4736 .bf16) (x3 : Vec F S1x768 .f32) (x4 : Vec F S768x1024 .bf16) (x5 : Vec F S1x256 .f32) (x6 : Vec F S256x1024 .bf16) (x7 : Vec F S256x512 .bf16) (x8 : Vec F S512x128 .f32) (x9 : Vec F S512x128 .f32) (x10 : Vec F S512x128 .f32) (x11 : Vec F S512x128 .f32) (x12 : Vec F S512x128 .f32) (x13 : Vec F S512x128 .f32) : Vec F S512x1024 .bf16 :=
  View.canon [⟨r0_13, k0_pay42 (k0_pay87 x0 x1 x2 x3 x4 x5 x6 x7 x8 x9 x10 x11 x12 x13) (k0_pay88 x0 x1 x2 x3 x4 x5 x6 x7 x8 x9 x10 x11 x12 x13)⟩,
    ⟨r0_12, k0_pay41 (k0_pay87 x0 x1 x2 x3 x4 x5 x6 x7 x8 x9 x10 x11 x12 x13) (k0_pay88 x0 x1 x2 x3 x4 x5 x6 x7 x8 x9 x10 x11 x12 x13)⟩,
    ⟨r0_11, k0_pay40 (k0_pay87 x0 x1 x2 x3 x4 x5 x6 x7 x8 x9 x10 x11 x12 x13) (k0_pay88 x0 x1 x2 x3 x4 x5 x6 x7 x8 x9 x10 x11 x12 x13)⟩,
    ⟨r0_10, k0_pay39 (k0_pay87 x0 x1 x2 x3 x4 x5 x6 x7 x8 x9 x10 x11 x12 x13) (k0_pay88 x0 x1 x2 x3 x4 x5 x6 x7 x8 x9 x10 x11 x12 x13)⟩,
    ⟨r0_9, k0_pay38 (k0_pay73 x0 x1 x2 x3 x4 x5 x6 x7 x8 x9 x10 x11 x12 x13) (k0_pay74 x0 x1 x2 x3 x4 x5 x6 x7 x8 x9 x10 x11 x12 x13) (k0_pay75 x0 x1 x2 x3 x4 x5 x6 x7 x8 x9 x10 x11 x12 x13) (k0_pay76 x0 x1 x2 x3 x4 x5 x6 x7 x8 x9 x10 x11 x12 x13) (k0_pay84 x0 x1 x2 x3 x4 x5 x6 x7 x8 x9 x10 x11 x12 x13) (k0_pay85 x0 x1 x2 x3 x4 x5 x6 x7 x8 x9 x10 x11 x12 x13) (k0_pay86 x0 x1 x2 x3 x4 x5 x6 x7 x8 x9 x10 x11 x12 x13) (Scalar.ofBits .f32 0x43800000#32) (View.ld x6 r0_16) (View.ld x2 r0_17)⟩,
    ⟨r0_8, k0_pay37 (k0_pay73 x0 x1 x2 x3 x4 x5 x6 x7 x8 x9 x10 x11 x12 x13) (k0_pay74 x0 x1 x2 x3 x4 x5 x6 x7 x8 x9 x10 x11 x12 x13) (k0_pay75 x0 x1 x2 x3 x4 x5 x6 x7 x8 x9 x10 x11 x12 x13) (k0_pay76 x0 x1 x2 x3 x4 x5 x6 x7 x8 x9 x10 x11 x12 x13) (k0_pay84 x0 x1 x2 x3 x4 x5 x6 x7 x8 x9 x10 x11 x12 x13) (k0_pay85 x0 x1 x2 x3 x4 x5 x6 x7 x8 x9 x10 x11 x12 x13) (k0_pay86 x0 x1 x2 x3 x4 x5 x6 x7 x8 x9 x10 x11 x12 x13) (Scalar.ofBits .f32 0x43800000#32) (View.ld x6 r0_16) (View.ld x2 r0_17)⟩,
    ⟨r0_7, k0_pay36 (k0_pay73 x0 x1 x2 x3 x4 x5 x6 x7 x8 x9 x10 x11 x12 x13) (k0_pay74 x0 x1 x2 x3 x4 x5 x6 x7 x8 x9 x10 x11 x12 x13) (k0_pay75 x0 x1 x2 x3 x4 x5 x6 x7 x8 x9 x10 x11 x12 x13) (k0_pay76 x0 x1 x2 x3 x4 x5 x6 x7 x8 x9 x10 x11 x12 x13) (k0_pay84 x0 x1 x2 x3 x4 x5 x6 x7 x8 x9 x10 x11 x12 x13) (k0_pay85 x0 x1 x2 x3 x4 x5 x6 x7 x8 x9 x10 x11 x12 x13) (k0_pay86 x0 x1 x2 x3 x4 x5 x6 x7 x8 x9 x10 x11 x12 x13) (Scalar.ofBits .f32 0x43800000#32) (View.ld x6 r0_16) (View.ld x2 r0_17)⟩,
    ⟨r0_6, k0_pay35 (k0_pay73 x0 x1 x2 x3 x4 x5 x6 x7 x8 x9 x10 x11 x12 x13) (k0_pay74 x0 x1 x2 x3 x4 x5 x6 x7 x8 x9 x10 x11 x12 x13) (k0_pay75 x0 x1 x2 x3 x4 x5 x6 x7 x8 x9 x10 x11 x12 x13) (k0_pay76 x0 x1 x2 x3 x4 x5 x6 x7 x8 x9 x10 x11 x12 x13) (k0_pay84 x0 x1 x2 x3 x4 x5 x6 x7 x8 x9 x10 x11 x12 x13) (k0_pay85 x0 x1 x2 x3 x4 x5 x6 x7 x8 x9 x10 x11 x12 x13) (k0_pay86 x0 x1 x2 x3 x4 x5 x6 x7 x8 x9 x10 x11 x12 x13) (Scalar.ofBits .f32 0x43800000#32) (View.ld x6 r0_16) (View.ld x2 r0_17)⟩]

/-- Its stores tile the buffer (checked by evaluation), so they cover it. -/
theorem cover0_15 (p0 : Vec F S512x128 .bf16) (p1 : Vec F S512x128 .bf16) (p2 : Vec F S512x128 .bf16) (p3 : Vec F S512x128 .bf16) (p4 : Vec F S512x128 .bf16) (p5 : Vec F S512x128 .bf16) (p6 : Vec F S512x128 .bf16) (p7 : Vec F S512x128 .bf16) (y : S512x1024.Idx) :
    ∃ pc ∈ ([⟨r0_13, p0⟩, ⟨r0_12, p1⟩, ⟨r0_11, p2⟩, ⟨r0_10, p3⟩, ⟨r0_9, p4⟩, ⟨r0_8, p5⟩, ⟨r0_7, p6⟩, ⟨r0_6, p7⟩] : List (View.Piece (Elt F) S512x1024 .bf16)), y ∈ pc.1.set :=
  View.cover_of_tiled [⟨r0_13, p0⟩, ⟨r0_12, p1⟩, ⟨r0_11, p2⟩, ⟨r0_10, p3⟩, ⟨r0_9, p4⟩, ⟨r0_8, p5⟩, ⟨r0_7, p6⟩, ⟨r0_6, p7⟩] S512x128.size (by rfl) y

/-- Window 16's staging buffer after the body, from the input windows' blocks: its 1 store as pieces, LAST
    FIRST (Lib/Pipeline/FrameBody.lean `View.canon`; the payloads are the skeleton's and the values stated above). -/
def out0_16 (x0 : Vec F S512x1024 .f32) (x1 : Vec F S1x1024 .f32) (x2 : Vec F S1024x4736 .bf16) (x3 : Vec F S1x768 .f32) (x4 : Vec F S768x1024 .bf16) (x5 : Vec F S1x256 .f32) (x6 : Vec F S256x1024 .bf16) (x7 : Vec F S256x512 .bf16) (x8 : Vec F S512x128 .f32) (x9 : Vec F S512x128 .f32) (x10 : Vec F S512x128 .f32) (x11 : Vec F S512x128 .f32) (x12 : Vec F S512x128 .f32) (x13 : Vec F S512x128 .f32) : Vec F S512x512 .bf16 :=
  View.canon [⟨r0_19, k0_pay43 (k0_pay32 (k0_pay84 x0 x1 x2 x3 x4 x5 x6 x7 x8 x9 x10 x11 x12 x13) (k0_pay85 x0 x1 x2 x3 x4 x5 x6 x7 x8 x9 x10 x11 x12 x13) (k0_pay86 x0 x1 x2 x3 x4 x5 x6 x7 x8 x9 x10 x11 x12 x13) (Scalar.ofBits .f32 0x43800000#32)) (View.ld x7 r0_18)⟩]

/-- Its stores tile the buffer (checked by evaluation), so they cover it. -/
theorem cover0_16 (p0 : Vec F S512x512 .bf16) (y : S512x512.Idx) :
    ∃ pc ∈ ([⟨r0_19, p0⟩] : List (View.Piece (Elt F) S512x512 .bf16)), y ∈ pc.1.set :=
  View.cover_of_tiled [⟨r0_19, p0⟩] S512x512.size (by rfl) y

/-- Window 17's staging buffer after the body, from the input windows' blocks: its 4 stores as pieces, LAST
    FIRST (Lib/Pipeline/FrameBody.lean `View.canon`; the payloads are the skeleton's and the values stated above). -/
def out0_17 (x0 : Vec F S512x1024 .f32) (x1 : Vec F S1x1024 .f32) (x2 : Vec F S1024x4736 .bf16) (x3 : Vec F S1x768 .f32) (x4 : Vec F S768x1024 .bf16) (x5 : Vec F S1x256 .f32) (x6 : Vec F S256x1024 .bf16) (x7 : Vec F S256x512 .bf16) (x8 : Vec F S512x128 .f32) (x9 : Vec F S512x128 .f32) (x10 : Vec F S512x128 .f32) (x11 : Vec F S512x128 .f32) (x12 : Vec F S512x128 .f32) (x13 : Vec F S512x128 .f32) : Vec F S512x512 .bf16 :=
  View.canon [⟨r0_34, k0_pay68 (k0_pay77 x0 x1 x2 x3 x4 x5 x6 x7 x8 x9 x10 x11 x12 x13) (k0_pay78 x0 x1 x2 x3 x4 x5 x6 x7 x8 x9 x10 x11 x12 x13) (k0_pay79 x0 x1 x2 x3 x4 x5 x6 x7 x8 x9 x10 x11 x12 x13) (k0_pay89 x0 x1 x2 x3 x4 x5 x6 x7 x8 x9 x10 x11 x12 x13)⟩,
    ⟨r0_30, k0_pay62 (k0_pay77 x0 x1 x2 x3 x4 x5 x6 x7 x8 x9 x10 x11 x12 x13) (k0_pay78 x0 x1 x2 x3 x4 x5 x6 x7 x8 x9 x10 x11 x12 x13) (k0_pay79 x0 x1 x2 x3 x4 x5 x6 x7 x8 x9 x10 x11 x12 x13) (k0_pay89 x0 x1 x2 x3 x4 x5 x6 x7 x8 x9 x10 x11 x12 x13)⟩,
    ⟨r0_26, k0_pay57 (k0_pay78 x0 x1 x2 x3 x4 x5 x6 x7 x8 x9 x10 x11 x12 x13) (k0_pay79 x0 x1 x2 x3 x4 x5 x6 x7 x8 x9 x10 x11 x12 x13) (k0_pay54 (k0_pay89 x0 x1 x2 x3 x4 x5 x6 x7 x8 x9 x10 x11 x12 x13)) (k0_pay55 (k0_pay77 x0 x1 x2 x3 x4 x5 x6 x7 x8 x9 x10 x11 x12 x13) (k0_pay89 x0 x1 x2 x3 x4 x5 x6 x7 x8 x9 x10 x11 x12 x13)) (k0_pay56 (k0_pay89 x0 x1 x2 x3 x4 x5 x6 x7 x8 x9 x10 x11 x12 x13))⟩,
    ⟨r0_22, k0_pay49 (k0_pay47 (k0_pay73 x0 x1 x2 x3 x4 x5 x6 x7 x8 x9 x10 x11 x12 x13) (k0_pay77 x0 x1 x2 x3 x4 x5 x6 x7 x8 x9 x10 x11 x12 x13) (k0_pay78 x0 x1 x2 x3 x4 x5 x6 x7 x8 x9 x10 x11 x12 x13) (View.ld x2 r0_20)) (k0_pay48 (k0_pay73 x0 x1 x2 x3 x4 x5 x6 x7 x8 x9 x10 x11 x12 x13) (k0_pay79 x0 x1 x2 x3 x4 x5 x6 x7 x8 x9 x10 x11 x12 x13) (View.ld x2 r0_20))⟩]

/-- Its stores tile the buffer (checked by evaluation), so they cover it. -/
theorem cover0_17 (p0 : Vec F S512x128 .bf16) (p1 : Vec F S512x128 .bf16) (p2 : Vec F S512x128 .bf16) (p3 : Vec F S512x128 .bf16) (y : S512x512.Idx) :
    ∃ pc ∈ ([⟨r0_34, p0⟩, ⟨r0_30, p1⟩, ⟨r0_26, p2⟩, ⟨r0_22, p3⟩] : List (View.Piece (Elt F) S512x512 .bf16)), y ∈ pc.1.set :=
  View.cover_of_tiled [⟨r0_34, p0⟩, ⟨r0_30, p1⟩, ⟨r0_26, p2⟩, ⟨r0_22, p3⟩] S512x128.size (by rfl) y

/-- Window 18's staging buffer after the body, from the input windows' blocks: its 4 stores as pieces, LAST
    FIRST (Lib/Pipeline/FrameBody.lean `View.canon`; the payloads are the skeleton's and the values stated above). -/
def out0_18 (x0 : Vec F S512x1024 .f32) (x1 : Vec F S1x1024 .f32) (x2 : Vec F S1024x4736 .bf16) (x3 : Vec F S1x768 .f32) (x4 : Vec F S768x1024 .bf16) (x5 : Vec F S1x256 .f32) (x6 : Vec F S256x1024 .bf16) (x7 : Vec F S256x512 .bf16) (x8 : Vec F S512x128 .f32) (x9 : Vec F S512x128 .f32) (x10 : Vec F S512x128 .f32) (x11 : Vec F S512x128 .f32) (x12 : Vec F S512x128 .f32) (x13 : Vec F S512x128 .f32) : Vec F S1x512x512 .bf16 :=
  View.canon [⟨r0_35, k0_pay70 (k0_pay77 x0 x1 x2 x3 x4 x5 x6 x7 x8 x9 x10 x11 x12 x13) (k0_pay78 x0 x1 x2 x3 x4 x5 x6 x7 x8 x9 x10 x11 x12 x13) (k0_pay79 x0 x1 x2 x3 x4 x5 x6 x7 x8 x9 x10 x11 x12 x13) (k0_pay90 x0 x1 x2 x3 x4 x5 x6 x7 x8 x9 x10 x11 x12 x13)⟩,
    ⟨r0_31, k0_pay64 (k0_pay77 x0 x1 x2 x3 x4 x5 x6 x7 x8 x9 x10 x11 x12 x13) (k0_pay78 x0 x1 x2 x3 x4 x5 x6 x7 x8 x9 x10 x11 x12 x13) (k0_pay79 x0 x1 x2 x3 x4 x5 x6 x7 x8 x9 x10 x11 x12 x13) (k0_pay90 x0 x1 x2 x3 x4 x5 x6 x7 x8 x9 x10 x11 x12 x13)⟩,
    ⟨r0_27, k0_pay59 (k0_pay77 x0 x1 x2 x3 x4 x5 x6 x7 x8 x9 x10 x11 x12 x13) (k0_pay78 x0 x1 x2 x3 x4 x5 x6 x7 x8 x9 x10 x11 x12 x13) (k0_pay79 x0 x1 x2 x3 x4 x5 x6 x7 x8 x9 x10 x11 x12 x13) (k0_pay90 x0 x1 x2 x3 x4 x5 x6 x7 x8 x9 x10 x11 x12 x13)⟩,
    ⟨r0_23, k0_pay51 (k0_pay77 x0 x1 x2 x3 x4 x5 x6 x7 x8 x9 x10 x11 x12 x13) (k0_pay78 x0 x1 x2 x3 x4 x5 x6 x7 x8 x9 x10 x11 x12 x13) (k0_pay79 x0 x1 x2 x3 x4 x5 x6 x7 x8 x9 x10 x11 x12 x13) (k0_pay90 x0 x1 x2 x3 x4 x5 x6 x7 x8 x9 x10 x11 x12 x13)⟩]

/-- Its stores tile the buffer (checked by evaluation), so they cover it. -/
theorem cover0_18 (p0 : Vec F S1x128x512 .bf16) (p1 : Vec F S1x128x512 .bf16) (p2 : Vec F S1x128x512 .bf16) (p3 : Vec F S1x128x512 .bf16) (y : S1x512x512.Idx) :
    ∃ pc ∈ ([⟨r0_35, p0⟩, ⟨r0_31, p1⟩, ⟨r0_27, p2⟩, ⟨r0_23, p3⟩] : List (View.Piece (Elt F) S1x512x512 .bf16)), y ∈ pc.1.set :=
  View.cover_of_tiled [⟨r0_35, p0⟩, ⟨r0_31, p1⟩, ⟨r0_27, p2⟩, ⟨r0_23, p3⟩] S1x128x512.size (by rfl) y

/-- Window 19's staging buffer after the body, from the input windows' blocks: its 1 store as pieces, LAST
    FIRST (Lib/Pipeline/FrameBody.lean `View.canon`; the payloads are the skeleton's and the values stated above). -/
def out0_19 (x0 : Vec F S512x1024 .f32) (x1 : Vec F S1x1024 .f32) (x2 : Vec F S1024x4736 .bf16) (x3 : Vec F S1x768 .f32) (x4 : Vec F S768x1024 .bf16) (x5 : Vec F S1x256 .f32) (x6 : Vec F S256x1024 .bf16) (x7 : Vec F S256x512 .bf16) (x8 : Vec F S512x128 .f32) (x9 : Vec F S512x128 .f32) (x10 : Vec F S512x128 .f32) (x11 : Vec F S512x128 .f32) (x12 : Vec F S512x128 .f32) (x13 : Vec F S512x128 .f32) : Vec F S512x512 .bf16 :=
  View.canon [⟨r0_19, k0_pay2 (k0_pay73 x0 x1 x2 x3 x4 x5 x6 x7 x8 x9 x10 x11 x12 x13) (View.ld x2 r0_38)⟩]

/-- Its stores tile the buffer (checked by evaluation), so they cover it. -/
theorem cover0_19 (p0 : Vec F S512x512 .bf16) (y : S512x512.Idx) :
    ∃ pc ∈ ([⟨r0_19, p0⟩] : List (View.Piece (Elt F) S512x512 .bf16)), y ∈ pc.1.set :=
  View.cover_of_tiled [⟨r0_19, p0⟩] S512x512.size (by rfl) y

/-- Window 20's staging buffer after the body, from the input windows' blocks: its 8 stores as pieces, LAST
    FIRST (Lib/Pipeline/FrameBody.lean `View.canon`; the payloads are the skeleton's and the values stated above). -/
def out0_20 (x0 : Vec F S512x1024 .f32) (x1 : Vec F S1x1024 .f32) (x2 : Vec F S1024x4736 .bf16) (x3 : Vec F S1x768 .f32) (x4 : Vec F S768x1024 .bf16) (x5 : Vec F S1x256 .f32) (x6 : Vec F S256x1024 .bf16) (x7 : Vec F S256x512 .bf16) (x8 : Vec F S512x128 .f32) (x9 : Vec F S512x128 .f32) (x10 : Vec F S512x128 .f32) (x11 : Vec F S512x128 .f32) (x12 : Vec F S512x128 .f32) (x13 : Vec F S512x128 .f32) : Vec F S2x1x512 .f32 :=
  View.canon [⟨r0_37, k0_pay1 (k0_pay72 (k0_pay77 x0 x1 x2 x3 x4 x5 x6 x7 x8 x9 x10 x11 x12 x13) (k0_pay78 x0 x1 x2 x3 x4 x5 x6 x7 x8 x9 x10 x11 x12 x13) (k0_pay79 x0 x1 x2 x3 x4 x5 x6 x7 x8 x9 x10 x11 x12 x13) (k0_pay90 x0 x1 x2 x3 x4 x5 x6 x7 x8 x9 x10 x11 x12 x13))⟩,
    ⟨r0_36, k0_pay71 (k0_pay77 x0 x1 x2 x3 x4 x5 x6 x7 x8 x9 x10 x11 x12 x13) (k0_pay78 x0 x1 x2 x3 x4 x5 x6 x7 x8 x9 x10 x11 x12 x13) (k0_pay79 x0 x1 x2 x3 x4 x5 x6 x7 x8 x9 x10 x11 x12 x13) (k0_pay90 x0 x1 x2 x3 x4 x5 x6 x7 x8 x9 x10 x11 x12 x13)⟩,
    ⟨r0_33, k0_pay67 (k0_pay66 (k0_pay77 x0 x1 x2 x3 x4 x5 x6 x7 x8 x9 x10 x11 x12 x13) (k0_pay78 x0 x1 x2 x3 x4 x5 x6 x7 x8 x9 x10 x11 x12 x13) (k0_pay79 x0 x1 x2 x3 x4 x5 x6 x7 x8 x9 x10 x11 x12 x13) (k0_pay90 x0 x1 x2 x3 x4 x5 x6 x7 x8 x9 x10 x11 x12 x13))⟩,
    ⟨r0_32, k0_pay65 (k0_pay77 x0 x1 x2 x3 x4 x5 x6 x7 x8 x9 x10 x11 x12 x13) (k0_pay78 x0 x1 x2 x3 x4 x5 x6 x7 x8 x9 x10 x11 x12 x13) (k0_pay79 x0 x1 x2 x3 x4 x5 x6 x7 x8 x9 x10 x11 x12 x13) (k0_pay90 x0 x1 x2 x3 x4 x5 x6 x7 x8 x9 x10 x11 x12 x13)⟩,
    ⟨r0_29, k0_pay61 (k0_pay77 x0 x1 x2 x3 x4 x5 x6 x7 x8 x9 x10 x11 x12 x13) (k0_pay78 x0 x1 x2 x3 x4 x5 x6 x7 x8 x9 x10 x11 x12 x13) (k0_pay79 x0 x1 x2 x3 x4 x5 x6 x7 x8 x9 x10 x11 x12 x13) (k0_pay90 x0 x1 x2 x3 x4 x5 x6 x7 x8 x9 x10 x11 x12 x13)⟩,
    ⟨r0_28, k0_pay60 (k0_pay77 x0 x1 x2 x3 x4 x5 x6 x7 x8 x9 x10 x11 x12 x13) (k0_pay78 x0 x1 x2 x3 x4 x5 x6 x7 x8 x9 x10 x11 x12 x13) (k0_pay79 x0 x1 x2 x3 x4 x5 x6 x7 x8 x9 x10 x11 x12 x13) (k0_pay90 x0 x1 x2 x3 x4 x5 x6 x7 x8 x9 x10 x11 x12 x13)⟩,
    ⟨r0_25, k0_pay53 (k0_pay77 x0 x1 x2 x3 x4 x5 x6 x7 x8 x9 x10 x11 x12 x13) (k0_pay78 x0 x1 x2 x3 x4 x5 x6 x7 x8 x9 x10 x11 x12 x13) (k0_pay79 x0 x1 x2 x3 x4 x5 x6 x7 x8 x9 x10 x11 x12 x13) (k0_pay90 x0 x1 x2 x3 x4 x5 x6 x7 x8 x9 x10 x11 x12 x13)⟩,
    ⟨r0_24, k0_pay52 (k0_pay77 x0 x1 x2 x3 x4 x5 x6 x7 x8 x9 x10 x11 x12 x13) (k0_pay78 x0 x1 x2 x3 x4 x5 x6 x7 x8 x9 x10 x11 x12 x13) (k0_pay79 x0 x1 x2 x3 x4 x5 x6 x7 x8 x9 x10 x11 x12 x13) (k0_pay90 x0 x1 x2 x3 x4 x5 x6 x7 x8 x9 x10 x11 x12 x13)⟩]

/-- Its stores tile the buffer (checked by evaluation), so they cover it. -/
theorem cover0_20 (p0 : Vec F S1x1x128 .f32) (p1 : Vec F S1x1x128 .f32) (p2 : Vec F S1x1x128 .f32) (p3 : Vec F S1x1x128 .f32) (p4 : Vec F S1x1x128 .f32) (p5 : Vec F S1x1x128 .f32) (p6 : Vec F S1x1x128 .f32) (p7 : Vec F S1x1x128 .f32) (y : S2x1x512.Idx) :
    ∃ pc ∈ ([⟨r0_37, p0⟩, ⟨r0_36, p1⟩, ⟨r0_33, p2⟩, ⟨r0_32, p3⟩, ⟨r0_29, p4⟩, ⟨r0_28, p5⟩, ⟨r0_25, p6⟩, ⟨r0_24, p7⟩] : List (View.Piece (Elt F) S2x1x512 .f32)), y ∈ pc.1.set :=
  View.cover_of_tiled [⟨r0_37, p0⟩, ⟨r0_36, p1⟩, ⟨r0_33, p2⟩, ⟨r0_32, p3⟩, ⟨r0_29, p4⟩, ⟨r0_28, p5⟩, ⟨r0_25, p6⟩, ⟨r0_24, p7⟩] S1x1x128.size (by rfl) y

/-- Window 21's staging buffer after the body, from the input windows' blocks: its 1 store as pieces, LAST
    FIRST (Lib/Pipeline/FrameBody.lean `View.canon`; the payloads are the skeleton's and the values stated above). -/
def out0_21 (x0 : Vec F S512x1024 .f32) (x1 : Vec F S1x1024 .f32) (x2 : Vec F S1024x4736 .bf16) (x3 : Vec F S1x768 .f32) (x4 : Vec F S768x1024 .bf16) (x5 : Vec F S1x256 .f32) (x6 : Vec F S256x1024 .bf16) (x7 : Vec F S256x512 .bf16) (x8 : Vec F S512x128 .f32) (x9 : Vec F S512x128 .f32) (x10 : Vec F S512x128 .f32) (x11 : Vec F S512x128 .f32) (x12 : Vec F S512x128 .f32) (x13 : Vec F S512x128 .f32) : Vec F S512x1024 .bf16 :=
  View.canon [⟨r0_0, k0_pay3 (k0_pay73 x0 x1 x2 x3 x4 x5 x6 x7 x8 x9 x10 x11 x12 x13) (View.ld x2 r0_39)⟩]

/-- Its stores tile the buffer (checked by evaluation), so they cover it. -/
theorem cover0_21 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-- Window 22's staging buffer after the body, from the input windows' blocks: its 1 store as pieces, LAST
    FIRST (Lib/Pipeline/FrameBody.lean `View.canon`; the payloads are the skeleton's and the values stated above). -/
def out0_22 (x0 : Vec F S512x1024 .f32) (x1 : Vec F S1x1024 .f32) (x2 : Vec F S1024x4736 .bf16) (x3 : Vec F S1x768 .f32) (x4 : Vec F S768x1024 .bf16) (x5 : Vec F S1x256 .f32) (x6 : Vec F S256x1024 .bf16) (x7 : Vec F S256x512 .bf16) (x8 : Vec F S512x128 .f32) (x9 : Vec F S512x128 .f32) (x10 : Vec F S512x128 .f32) (x11 : Vec F S512x128 .f32) (x12 : Vec F S512x128 .f32) (x13 : Vec F S512x128 .f32) : Vec F S512x1024 .bf16 :=
  View.canon [⟨r0_0, k0_pay4 (k0_pay73 x0 x1 x2 x3 x4 x5 x6 x7 x8 x9 x10 x11 x12 x13) (View.ld x2 r0_40)⟩]

/-- Its stores tile the buffer (checked by evaluation), so they cover it. -/
theorem cover0_22 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S512x1024 .f32) (harg1 : arg1.IsWhole) (arg2 : Memref sig .tc .vmem S1x1024 .f32) (harg2 : arg2.IsWhole) (arg3 : Memref sig .tc .vmem S1024x4736 .bf16) (harg3 : arg3.IsWhole) (arg4 : Memref sig .tc .vmem S1x768 .f32) (harg4 : arg4.IsWhole) (arg5 : Memref sig .tc .vmem S768x1024 .bf16) (harg5 : arg5.IsWhole) (arg6 : Memref sig .tc .vmem S1x256 .f32) (harg6 : arg6.IsWhole) (arg7 : Memref sig .tc .vmem S256x1024 .bf16) (harg7 : arg7.IsWhole) (arg8 : Memref sig .tc .vmem S256x512 .bf16) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S512x512 .bf16) (harg17 : arg17.IsWhole) (arg18 : Memref sig .tc .vmem S512x512 .bf16) (harg18 : arg18.IsWhole) (arg19 : Memref sig .tc .vmem S1x512x512 .bf16) (harg19 : arg19.IsWhole) (arg20 : Memref sig .tc .vmem S512x512 .bf16) (harg20 : arg20.IsWhole) (arg21 : Memref sig .tc .vmem S2x1x512 .f32) (harg21 : arg21.IsWhole) (arg22 : Memref sig .tc .vmem S512x1024 .bf16) (harg22 : arg22.IsWhole) (arg23 : Memref sig .tc .vmem S512x1024 .bf16) (harg23 : arg23.IsWhole)
    (x0 : Vec F S512x1024 .f32) (x1 : Vec F S1x1024 .f32) (x2 : Vec F S1024x4736 .bf16) (x3 : Vec F S1x768 .f32) (x4 : Vec F S768x1024 .bf16) (x5 : Vec F S1x256 .f32) (x6 : Vec F S256x1024 .bf16) (x7 : Vec F S256x512 .bf16) (x8 : Vec F S512x128 .f32) (x9 : Vec F S512x128 .f32) (x10 : Vec F S512x128 .f32) (x11 : Vec F S512x128 .f32) (x12 : Vec F S512x128 .f32) (x13 : Vec F S512x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (out0_14 x0 x1 x2 x3 x4 x5 x6 x7 x8 x9 x10 x11 x12 x13) ∗ owns (c : Thread nD τ) arg16 fullShare (out0_15 x0 x1 x2 x3 x4 x5 x6 x7 x8 x9 x10 x11 x12 x13) ∗ owns (c : Thread nD τ) arg17 fullShare (out0_16 x0 x1 x2 x3 x4 x5 x6 x7 x8 x9 x10 x11 x12 x13) ∗ owns (c : Thread nD τ) arg18 fullShare (out0_17 x0 x1 x2 x3 x4 x5 x6 x7 x8 x9 x10 x11 x12 x13) ∗ owns (c : Thread nD τ) arg19 fullShare (out0_18 x0 x1 x2 x3 x4 x5 x6 x7 x8 x9 x10 x11 x12 x13) ∗ owns (c : Thread nD τ) arg20 fullShare (out0_19 x0 x1 x2 x3 x4 x5 x6 x7 x8 x9 x10 x11 x12 x13) ∗ owns (c : Thread nD τ) arg21 fullShare (out0_20 x0 x1 x2 x3 x4 x5 x6 x7 x8 x9 x10 x11 x12 x13) ∗ owns (c : Thread nD τ) arg22 fullShare (out0_21 x0 x1 x2 x3 x4 x5 x6 x7 x8 x9 x10 x11 x12 x13) ∗ owns (c : Thread nD τ) arg23 fullShare (out0_22 x0 x1 x2 x3 x4 x5 x6 x7 x8 x9 x10 x11 x12 x13)) -∗ K ⟨⟩))
      ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_proj_eq_skeleton]; unfold cc0_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (View.read_writes_eq_canon _ _ _ (cover0_14 _ _ _ _ _ _ _ _)).trans ?_
    rfl
  isplitl [H15]
  · iexists _; isplitr
    swap; · iexact H15
    ipureintro
    refine (View.read_writes_eq_canon _ _ _ (cover0_15 _ _ _ _ _ _ _ _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _ _ _ _)).trans ?_
    rfl
  isplitl [H18]
  · iexists _; isplitr
    swap; · iexact H18
    ipureintro
    refine (View.read_writes_eq_canon _ _ _ (cover0_18 _ _ _ _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _ _ _ _ _ _ _ _)).trans ?_
    rfl
  isplitl [H21]
  · iexists _; isplitr
    swap; · iexact H21
    ipureintro
    refine (View.read_writes_eq_canon _ _ _ (cover0_21 _)).trans ?_
    rfl
  iexists _; isplitr
  swap; · iexact H22
  ipureintro
  refine (View.read_writes_eq_canon _ _ _ (cover0_22 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨_ + 23, h⟩ => absurd h (Nat.not_lt.2 (Nat.le_add_left _ _))
  Φ _ := Pipeline.ΦA spec0 c
  q _ := fullShare
  owed _ := 0

/-- The proof data's arrays are the region-entry contents: the proof data's definition, projected. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iintro ⟨H0, H1, H2, H3, H4, H5, H6, H7, H8, H9, H10, H11, H12, H13, H14, H15, H16, H17, H18, H19, H20, H21, H22⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The body obligation at every grid point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- THE LAUNCH: `run_main`'s statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame: every argument ends unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v71_0) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v71_1) = (dats m 0 c).arrAt 15 cfg0.N :=
  (h c).1 15

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v71_2) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v71_3) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v71_4) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v71_5) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v71_6) = (dats m 0 c).arrAt 20 cfg0.N :=
  (h c).1 20

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v71_7) = (dats m 0 c).arrAt 21 cfg0.N :=
  (h c).1 21

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v71_8) = (dats m 0 c).arrAt 22 cfg0.N :=
  (h c).1 22

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

set_option maxHeartbeats 800000 in
/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v71_0) = (dats m 0 c).arrAt 14 cfg0.N
      ∧ r.2.mem ((c : Thread nD τ).loc main_v71_1) = (dats m 0 c).arrAt 15 cfg0.N
      ∧ r.2.mem ((c : Thread nD τ).loc main_v71_2) = (dats m 0 c).arrAt 16 cfg0.N
      ∧ r.2.mem ((c : Thread nD τ).loc main_v71_3) = (dats m 0 c).arrAt 17 cfg0.N
      ∧ r.2.mem ((c : Thread nD τ).loc main_v71_4) = (dats m 0 c).arrAt 18 cfg0.N
      ∧ r.2.mem ((c : Thread nD τ).loc main_v71_5) = (dats m 0 c).arrAt 19 cfg0.N
      ∧ r.2.mem ((c : Thread nD τ).loc main_v71_6) = (dats m 0 c).arrAt 20 cfg0.N
      ∧ r.2.mem ((c : Thread nD τ).loc main_v71_7) = (dats m 0 c).arrAt 21 cfg0.N
      ∧ r.2.mem ((c : Thread nD τ).loc main_v71_8) = (dats m 0 c).arrAt 22 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post14 m r h c,
      post15 m r h c,
      post16 m r h c,
      post17 m r h c,
      post18 m r h c,
      post19 m r h c,
      post20 m r h c,
      post21 m r h c,
      post22 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.Kernel2Ideal.Run

end
-- ==== Proof.Proj.lean ====
/- The layer's projections, one entry at a time: the normed row, its products with the weights, the rotations. -/
module

public import Idealize.ShloMosaic.Lib.Pointwise

@[expose] public section

set_option maxRecDepth 16384

noncomputable section

namespace Cert.Proj

open Idealize.ShloMosaic

/-- The number `1e-6`, added to the mean of the squares. -/
def eps : EReal := Ideal.ofBits FTy.f32 0x358637BD#32

/-- A row divided by the root of its mean square (`N` is its length), times the gains `g`. -/
def rms {n : ℕ} (N : BitVec 32) (x g : Fin n → EReal) (k : Fin n) : EReal :=
  x k * Ideal.rsqrt (Ideal.div (∑ j, x j * x j) (Ideal.ofBits FTy.f32 N) + eps) * g k

/-- Column `n` of the normed row's product with the weights `W`. -/
def dots {k : ℕ} (h : Fin k → EReal) (W : Fin k → ℕ → EReal) (n : ℕ) : EReal := ∑ j, h j * W j n

/-- The first product: the normed token times the joint weights. -/
def seg (x g : Fin 1024 → EReal) (W : Fin 1024 → ℕ → EReal) (n : ℕ) : EReal := dots (rms 0x44800000#32 x g) W n

/-- The queries of the latent attention: the token's first 768 columns, normed, times their weights. -/
def query (x g : Fin 1024 → EReal) (W : Fin 1024 → ℕ → EReal) (gq : Fin 768 → EReal) (Wq : Fin 768 → ℕ → EReal) (n : ℕ) : EReal :=
  dots (rms 0x44400000#32 (fun j => seg x g W j.val) gq) Wq n

/-- Its keys and values: the next 256 columns, normed, times theirs. -/
def latent (x g : Fin 1024 → EReal) (W : Fin 1024 → ℕ → EReal) (gk : Fin 256 → EReal) (Wk : Fin 256 → ℕ → EReal) (n : ℕ) : EReal :=
  dots (rms 0x43800000#32 (fun j => seg x g W (768 + j.val)) gk) Wk n

/-- A head of 64 plain lanes and 32 rotated ones, padded with zeros to 128. -/
def wide (f c s : ℕ → EReal) (l : ℕ) : EReal :=
  if l < 64 then f l
  else if l < 80 then f l * c (l - 64) - f (l + 16) * s (l - 64)
  else if l < 96 then f l * c (l - 80) + f (l - 16) * s (l - 80)
  else 0

/-- A head of 64 lanes, the first 16 rotated. -/
def narrow (f c s : ℕ → EReal) (l : ℕ) : EReal :=
  if l < 8 then f l * c l - f (l + 8) * s l
  else if l < 16 then f l * c (l - 8) + f (l - 8) * s (l - 8)
  else f l

/-- One lane of a tile times its three tables: itself, the lane `a` after it and the lane `b` after it, round the 128. -/
def turn (f c s₁ s₂ : ℕ → EReal) (a b l : ℕ) : EReal :=
  f l * c l + f ((l + a) % 128) * s₁ l + f ((l + b) % 128) * s₂ l

/-- A tile of one wide head with the tables of its lanes is the rotated head. -/
theorem turn_wide (f g c s t₀ t₁ t₂ : ℕ → EReal) (l : ℕ) (hl : l < 128) (hf : ∀ n < 96, f n = g n) (hf0 : ∀ n, 96 ≤ n → n < 128 → f n = 0)
    (h₀ : ∀ n < 128, t₀ n = if n < 64 then 1 else if n < 80 then c (n - 64) else if n < 96 then c (n - 80) else 1)
    (h₁ : ∀ n < 128, t₁ n = if n < 64 then 0 else if n < 80 then -s (n - 64) else 0)
    (h₂ : ∀ n < 128, t₂ n = if n < 80 then 0 else if n < 96 then s (n - 80) else 0) :
    turn f t₀ t₁ t₂ 16 112 l = wide g c s l := by
  rw [turn, wide, h₀ l hl, h₁ l hl, h₂ l hl]
  rcases lt_or_ge l 64 with h | h
  · simp only [if_pos h, if_pos (show l < 80 by omega), hf l (by omega)]; simp
  have a := not_lt.mpr h
  rcases lt_or_ge l 80 with h' | h'
  · simp only [if_neg a, if_pos h', hf l (by omega), show (l + 16) % 128 = l + 16 by omega, hf (l + 16) (by omega)]
    simp [sub_eq_add_neg]
  have a' := not_lt.mpr h'
  rcases lt_or_ge l 96 with h'' | h''
  · simp only [if_neg a, if_neg a', if_pos h'', hf l h'', show (l + 112) % 128 = l - 16 by omega, hf (l - 16) (by omega)]
    simp
  · simp only [if_neg a, if_neg a', if_neg (not_lt.mpr h''), hf0 l h'' hl]; simp

/-- A tile of two narrow heads with the tables of its lanes is the two rotated heads. -/
theorem turn_narrow (f c s t₀ t₁ t₂ : ℕ → EReal) (o l : ℕ) (ho : o = 0 ∨ o = 64) (hl : l < 64)
    (h₀ : t₀ (o + l) = if l < 8 then c l else if l < 16 then c (l - 8) else 1)
    (h₁ : t₁ (o + l) = if l < 8 then -s l else 0)
    (h₂ : t₂ (o + l) = if l < 8 then 0 else if l < 16 then s (l - 8) else 0) :
    turn f t₀ t₁ t₂ 8 120 (o + l) = narrow (fun n => f (o + n)) c s l := by
  rw [turn, narrow, h₀, h₁, h₂]
  rcases lt_or_ge l 8 with h | h
  · simp only [if_pos h, show (o + l + 8) % 128 = o + (l + 8) by omega]
    simp [sub_eq_add_neg]
  have a := not_lt.mpr h
  rcases lt_or_ge l 16 with h' | h'
  · simp only [if_neg a, if_pos h', show (o + l + 120) % 128 = o + (l - 8) by omega]
    simp
  · simp only [if_neg a, if_neg (not_lt.mpr h')]; simp

/-- The shared rotated lanes added to a head's own, which are zero there. -/
theorem wide_add (f g c s : ℕ → EReal) (l : ℕ) :
    (if l < 64 then f l else 0) + wide (fun n => if n < 64 then 0 else g n) c s l = wide (fun n => if n < 64 then f n else g n) c s l := by
  rw [wide, wide]
  rcases lt_or_ge l 64 with h | h
  · simp only [if_pos h, add_zero]
  · have a := not_lt.mpr h
    simp only [if_neg a, zero_add, if_neg (show ¬ l + 16 < 64 by omega)]
    rcases lt_or_ge l 80 with h' | h'
    · simp only [if_pos h']
    · simp only [if_neg (not_lt.mpr h'), if_neg (show ¬ l - 16 < 64 by omega)]

/-- A head of 64 lanes depends on its lanes alone. -/
theorem narrow_congr (f f' c s : ℕ → EReal) (l : ℕ) (hl : l < 64) (h : ∀ n < 64, f n = f' n) : narrow f c s l = narrow f' c s l := by
  rw [narrow, narrow]
  rcases lt_or_ge l 8 with a | a
  · simp only [if_pos a, h l hl, h (l + 8) (by omega)]
  · simp only [if_neg (not_lt.mpr a), h l hl, h (l - 8) (by omega)]

/-- An entry of a finite row by its number, zero beyond its end. -/
def num {n : ℕ} (q : Fin n → EReal) (m : ℕ) : EReal := if h : m < n then q ⟨m, h⟩ else 0

theorem num_of {n : ℕ} (q : Fin n → EReal) (m : ℕ) (y : Fin n) (h : y.val = m) : num q m = q y := by
  subst h; exact dif_pos y.isLt

theorem turn_at {n : ℕ} (q : Fin n → EReal) (c s₁ s₂ : Fin 128 → EReal) (o a b : ℕ) (l : Fin 128) (y y₁ y₂ : Fin n)
    (h : y.val = o + l.val) (h₁ : y₁.val = o + (l.val + a) % 128) (h₂ : y₂.val = o + (l.val + b) % 128) :
    q y * c l + q y₁ * s₁ l + q y₂ * s₂ l = turn (fun m => num q (o + m)) (num c) (num s₁) (num s₂) a b l.val := by
  rw [turn, num_of q _ y h, num_of q _ y₁ h₁, num_of q _ y₂ h₂, num_of c _ l rfl, num_of s₁ _ l rfl, num_of s₂ _ l rfl]

end Cert.Proj

end
-- ==== Proof.ProjPack.lean ====
/- The arrays the host prepares for the projections' call: the packed weights and the tables of cosines and sines. -/
module

public import proofs.«01_k».proof.Proof.Gen.Kernel2Ideal
public import proofs.«01_k».proof.Proof.Proj
public import Idealize.ShloMosaic.Lib.Pointwise

@[expose] public section

set_option maxRecDepth 16384

noncomputable section

namespace Cert.Proj.Pack

open Idealize.ShloMosaic Idealize.ShloMosaic.TcCoe Idealize.SL.Sem
open Cert.Kernel2Ideal Cert.Kernel2Ideal.Gen Cert.Proj

/-! ## The packed weights -/

/-- The padding value. -/
def zero : FVec Ideal S_ .f32 := sitofp .f32 (constantI S_ 32 0#32)

theorem padWord : (FloatOps.sitofp FTy.f32 0#32 : Ideal .f32) = 0 := by
  simp [FloatOps.sitofp]

/-- The joint weights, the rotated lanes of the latent keys moved to lanes 64 to 95 of a tile of their own. -/
def packIn (W : FVec Ideal S1024x4640 .f32) : FVec Ideal S1024x4736 .bf16 :=
  truncf .bf16 (concatenate S1024x4736 1 [⟨S1024x1024, (extractStridedSlice S1024x1024 ![0, 0] W slices_S1024x4640_S1024x1024_0_0 : FVec Ideal S1024x1024 .f32)⟩,
    ⟨S1024x128, (pad S1024x128 ![0, 64] ![0, 32] ![0, 0] (extractStridedSlice S1024x32 ![0, 1024] W slices_S1024x4640_S1024x32_0_1024 : FVec Ideal S1024x32 .f32) zero pads_S1024x32_S1024x128_000_64320 h_S_ : FVec Ideal S1024x128 .f32)⟩,
    ⟨S1024x3584, (extractStridedSlice S1024x3584 ![0, 1056] W slices_S1024x4640_S1024x3584_0_1056 : FVec Ideal S1024x3584 .f32)⟩]
    concatenates_S1024x1024_S1024x128_S1024x3584_S1024x4736_d1 : FVec Ideal S1024x4736 .f32) bitsLt_bf16_f32

/-- The queries' weights, each head's 96 columns padded to 128. -/
def packUq (U : FVec Ideal S768x768 .f32) : FVec Ideal S768x1024 .bf16 :=
  truncf .bf16 (shapeCast S768x1024 (pad S768x8x128 ![0, 0, 0] ![0, 0, 32] ![0, 0, 0]
    (shapeCast S768x8x96 U shapeCasts_S768x768_S768x8x96 : FVec Ideal S768x8x96 .f32) zero pads_S768x8x96_S768x8x128_000_000_0320 h_S_ : FVec Ideal S768x8x128 .f32)
    shapeCasts_S768x8x128_S768x1024 : FVec Ideal S768x1024 .f32) bitsLt_bf16_f32

/-- The keys' weights: of each head's 128 columns the first 64, padded to 128. -/
def packUk (U : FVec Ideal S256x1024 .f32) : FVec Ideal S256x1024 .bf16 :=
  truncf .bf16 (shapeCast S256x1024 (pad S256x8x128 ![0, 0, 0] ![0, 0, 64] ![0, 0, 0]
    (extractStridedSlice S256x8x64 ![0, 0, 0] (shapeCast S256x8x128 U shapeCasts_S256x1024_S256x8x128 : FVec Ideal S256x8x128 .f32) slices_S256x8x128_S256x8x64_0_0_0 : FVec Ideal S256x8x64 .f32)
    zero pads_S256x8x64_S256x8x128_000_000_0640 h_S_ : FVec Ideal S256x8x128 .f32)
    shapeCasts_S256x8x128_S256x1024 : FVec Ideal S256x1024 .f32) bitsLt_bf16_f32

/-- The values' weights: of each head's 128 columns the last 64. -/
def packUv (U : FVec Ideal S256x1024 .f32) : FVec Ideal S256x512 .bf16 :=
  truncf .bf16 (shapeCast S256x512
    (extractStridedSlice S256x8x64 ![0, 0, 64] (shapeCast S256x8x128 U shapeCasts_S256x1024_S256x8x128 : FVec Ideal S256x8x128 .f32) slices_S256x8x128_S256x8x64_0_0_64 : FVec Ideal S256x8x64 .f32)
    shapeCasts_S256x8x64_S256x512 : FVec Ideal S256x512 .f32) bitsLt_bf16_f32

theorem packIn_apply (W : FVec Ideal S1024x4640 .f32) (k : Fin 1024) (y : Fin 4736) :
    packIn W (ix2 k y) = if y.val < 1024 then num (fun n => W (ix2 k n)) y.val
      else if y.val < 1088 then 0 else if y.val < 1120 then num (fun n => W (ix2 k n)) (y.val - 64)
      else if y.val < 1152 then 0 else num (fun n => W (ix2 k n)) (y.val - 96) := by
  pointwise [packIn, zero]
  simp only [num]
  repeat' split
  all_goals first | omega | rfl | exact padWord | exact congrArg (fun y => W (ix2 k y)) (Fin.ext (by simp only; omega)) | exact congrArg (fun y => -W (ix2 k y)) (Fin.ext (by simp only; omega))

theorem packUq_apply (U : FVec Ideal S768x768 .f32) (k : Fin 768) (y : Fin 1024) :
    packUq U (ix2 k y) = if y.val % 128 < 96 then num (fun n => U (ix2 k n)) (y.val / 128 * 96 + y.val % 128) else 0 := by
  pointwise [packUq, zero]
  simp only [num]
  repeat' split
  all_goals first | omega | rfl | exact padWord | exact congrArg (fun y => U (ix2 k y)) (Fin.ext (by simp only; omega)) | exact congrArg (fun y => -U (ix2 k y)) (Fin.ext (by simp only; omega))

theorem packUk_apply (U : FVec Ideal S256x1024 .f32) (k : Fin 256) (y : Fin 1024) :
    packUk U (ix2 k y) = if y.val % 128 < 64 then num (fun n => U (ix2 k n)) (y.val / 128 * 128 + y.val % 128) else 0 := by
  pointwise [packUk, zero]
  simp only [num]
  repeat' split
  all_goals first | omega | rfl | exact padWord | exact congrArg (fun y => U (ix2 k y)) (Fin.ext (by simp only; omega)) | exact congrArg (fun y => -U (ix2 k y)) (Fin.ext (by simp only; omega))

theorem packUv_apply (U : FVec Ideal S256x1024 .f32) (k : Fin 256) (y : Fin 512) :
    packUv U (ix2 k y) = num (fun n => U (ix2 k n)) (y.val / 64 * 128 + 64 + y.val % 64) := by
  pointwise [packUv]
  simp only [num]
  repeat' split
  all_goals first | omega | rfl | exact padWord | exact congrArg (fun y => U (ix2 k y)) (Fin.ext (by simp only; omega)) | exact congrArg (fun y => -U (ix2 k y)) (Fin.ext (by simp only; omega))

/-! ## The tables -/

/-- The angles of the latent attention's lanes. -/
def angleM : FVec Ideal S8192x16 .f32 :=
  mulf (broadcastInDim S8192x16 ![0, 1] bcast_S8192x1_S8192x16_0_1 (broadcastInDim S8192x1 ![0] bcast_S8192_S8192x1_0 (sitofp .f32 (iotaInDim S8192 32 0) : FVec Ideal S8192 .f32) : FVec Ideal S8192x1 .f32))
    (broadcastInDim S8192x16 ![0, 1] bcast_S1x16_S8192x16_0_1 (broadcastInDim S1x16 ![1] bcast_S16_S1x16_1
      (Host.powf (broadcastInDim S16 ![] bcast_S_S16 (constant S_ .f32 0x48F42400#32)) (Host.divf (Host.negf (sitofp .f32 (iotaInDim S16 32 0))) (broadcastInDim S16 ![] bcast_S_S16 (constant S_ .f32 0x41800000#32))) : FVec Ideal S16 .f32) : FVec Ideal S1x16 .f32))

/-- The angles of the block-sparse attention's lanes. -/
def angleB : FVec Ideal S8192x8 .f32 :=
  mulf (broadcastInDim S8192x8 ![0, 1] bcast_S8192x1_S8192x8_0_1 (broadcastInDim S8192x1 ![0] bcast_S8192_S8192x1_0 (sitofp .f32 (iotaInDim S8192 32 0) : FVec Ideal S8192 .f32) : FVec Ideal S8192x1 .f32))
    (broadcastInDim S8192x8 ![0, 1] bcast_S1x8_S8192x8_0_1 (broadcastInDim S1x8 ![1] bcast_S8_S1x8_1
      (Host.powf (broadcastInDim S8 ![] bcast_S_S8 (constant S_ .f32 0x48F42400#32)) (Host.divf (Host.negf (sitofp .f32 (iotaInDim S8 32 0))) (broadcastInDim S8 ![] bcast_S_S8 (constant S_ .f32 0x41000000#32))) : FVec Ideal S8 .f32) : FVec Ideal S1x8 .f32))

/-- Their cosines and sines. -/
def cosM : FVec Ideal S8192x16 .f32 := Host.cos angleM
def sinM : FVec Ideal S8192x16 .f32 := Host.sin angleM
def cosB : FVec Ideal S8192x8 .f32 := Host.cos angleB
def sinB : FVec Ideal S8192x8 .f32 := Host.sin angleB

def tabM0 (c : FVec Ideal S8192x16 .f32) : FVec Ideal S8192x128 .f32 :=
  concatenate S8192x128 1 [⟨S8192x64, (broadcastInDim S8192x64 ![] bcast_S_S8192x64 (constant S_ .f32 0x3F800000#32) : FVec Ideal S8192x64 .f32)⟩,
    ⟨S8192x16, c⟩, ⟨S8192x16, c⟩, ⟨S8192x32, (broadcastInDim S8192x32 ![] bcast_S_S8192x32 (constant S_ .f32 0x3F800000#32) : FVec Ideal S8192x32 .f32)⟩]
    concatenates_S8192x64_S8192x16_S8192x16_S8192x32_S8192x128_d1

def tabM1 (s : FVec Ideal S8192x16 .f32) : FVec Ideal S8192x128 .f32 :=
  concatenate S8192x128 1 [⟨S8192x64, (broadcastInDim S8192x64 ![] bcast_S_S8192x64 (constant S_ .f32 0x00000000#32) : FVec Ideal S8192x64 .f32)⟩,
    ⟨S8192x16, (Host.negf s : FVec Ideal S8192x16 .f32)⟩, ⟨S8192x48, (broadcastInDim S8192x48 ![] bcast_S_S8192x48 (constant S_ .f32 0x00000000#32) : FVec Ideal S8192x48 .f32)⟩]
    concatenates_S8192x64_S8192x16_S8192x48_S8192x128_d1

def tabM2 (s : FVec Ideal S8192x16 .f32) : FVec Ideal S8192x128 .f32 :=
  concatenate S8192x128 1 [⟨S8192x80, (broadcastInDim S8192x80 ![] bcast_S_S8192x80 (constant S_ .f32 0x00000000#32) : FVec Ideal S8192x80 .f32)⟩,
    ⟨S8192x16, s⟩, ⟨S8192x32, (broadcastInDim S8192x32 ![] bcast_S_S8192x32 (constant S_ .f32 0x00000000#32) : FVec Ideal S8192x32 .f32)⟩]
    concatenates_S8192x80_S8192x16_S8192x32_S8192x128_d1

/-- The same table for both heads of a tile. -/
def twice (a : FVec Ideal S8192x64 .f32) : FVec Ideal S8192x128 .f32 :=
  concatenate S8192x128 1 [⟨S8192x64, a⟩, ⟨S8192x64, a⟩] concatenates_S8192x64_S8192x64_S8192x128_d1

def tabB0 (c : FVec Ideal S8192x8 .f32) : FVec Ideal S8192x128 .f32 :=
  twice (concatenate S8192x64 1 [⟨S8192x8, c⟩, ⟨S8192x8, c⟩, ⟨S8192x48, (broadcastInDim S8192x48 ![] bcast_S_S8192x48 (constant S_ .f32 0x3F800000#32) : FVec Ideal S8192x48 .f32)⟩]
    concatenates_S8192x8_S8192x8_S8192x48_S8192x64_d1)

def tabB1 (s : FVec Ideal S8192x8 .f32) : FVec Ideal S8192x128 .f32 :=
  twice (concatenate S8192x64 1 [⟨S8192x8, (Host.negf s : FVec Ideal S8192x8 .f32)⟩, ⟨S8192x56, (broadcastInDim S8192x56 ![] bcast_S_S8192x56 (constant S_ .f32 0x00000000#32) : FVec Ideal S8192x56 .f32)⟩]
    concatenates_S8192x8_S8192x56_S8192x64_d1)

def tabB2 (s : FVec Ideal S8192x8 .f32) : FVec Ideal S8192x128 .f32 :=
  twice (concatenate S8192x64 1 [⟨S8192x8, (broadcastInDim S8192x8 ![] bcast_S_S8192x8 (constant S_ .f32 0x00000000#32) : FVec Ideal S8192x8 .f32)⟩, ⟨S8192x8, s⟩,
    ⟨S8192x48, (broadcastInDim S8192x48 ![] bcast_S_S8192x48 (constant S_ .f32 0x00000000#32) : FVec Ideal S8192x48 .f32)⟩]
    concatenates_S8192x8_S8192x8_S8192x48_S8192x64_d1)

theorem tabM0_apply (c : FVec Ideal S8192x16 .f32) (s : Fin 8192) (l : Fin 128) :
    tabM0 c (ix2 s l) = if l.val < 64 then 1 else if l.val < 80 then num (fun y => c (ix2 s y)) (l.val - 64) else if l.val < 96 then num (fun y => c (ix2 s y)) (l.val - 80) else 1 := by
  pointwise [tabM0]
  simp only [num]
  repeat' split
  all_goals first | omega | rfl | exact padWord | exact congrArg (fun y => c (ix2 s y)) (Fin.ext (by simp only; omega)) | exact congrArg (fun y => -c (ix2 s y)) (Fin.ext (by simp only; omega))

theorem tabM1_apply (c : FVec Ideal S8192x16 .f32) (s : Fin 8192) (l : Fin 128) :
    tabM1 c (ix2 s l) = if l.val < 64 then 0 else if l.val < 80 then -num (fun y => c (ix2 s y)) (l.val - 64) else 0 := by
  pointwise [tabM1]
  simp only [num]
  repeat' split
  all_goals first | omega | rfl | exact padWord | exact congrArg (fun y => c (ix2 s y)) (Fin.ext (by simp only; omega)) | exact congrArg (fun y => -c (ix2 s y)) (Fin.ext (by simp only; omega))

theorem tabM2_apply (c : FVec Ideal S8192x16 .f32) (s : Fin 8192) (l : Fin 128) :
    tabM2 c (ix2 s l) = if l.val < 80 then 0 else if l.val < 96 then num (fun y => c (ix2 s y)) (l.val - 80) else 0 := by
  pointwise [tabM2]
  simp only [num]
  repeat' split
  all_goals first | omega | rfl | exact padWord | exact congrArg (fun y => c (ix2 s y)) (Fin.ext (by simp only; omega)) | exact congrArg (fun y => -c (ix2 s y)) (Fin.ext (by simp only; omega))

theorem tabB0_apply (c : FVec Ideal S8192x8 .f32) (s : Fin 8192) (l : Fin 128) :
    tabB0 c (ix2 s l) = if l.val % 64 < 8 then num (fun y => c (ix2 s y)) (l.val % 64) else if l.val % 64 < 16 then num (fun y => c (ix2 s y)) (l.val % 64 - 8) else 1 := by
  pointwise [tabB0, twice]
  simp only [num]
  repeat' split
  all_goals first | omega | rfl | exact padWord | exact congrArg (fun y => c (ix2 s y)) (Fin.ext (by simp only; omega)) | exact congrArg (fun y => -c (ix2 s y)) (Fin.ext (by simp only; omega))

theorem tabB1_apply (c : FVec Ideal S8192x8 .f32) (s : Fin 8192) (l : Fin 128) :
    tabB1 c (ix2 s l) = if l.val % 64 < 8 then -num (fun y => c (ix2 s y)) (l.val % 64) else 0 := by
  pointwise [tabB1, twice]
  simp only [num]
  repeat' split
  all_goals first | omega | rfl | exact padWord | exact congrArg (fun y => c (ix2 s y)) (Fin.ext (by simp only; omega)) | exact congrArg (fun y => -c (ix2 s y)) (Fin.ext (by simp only; omega))

theorem tabB2_apply (c : FVec Ideal S8192x8 .f32) (s : Fin 8192) (l : Fin 128) :
    tabB2 c (ix2 s l) = if l.val % 64 < 8 then 0 else if l.val % 64 < 16 then num (fun y => c (ix2 s y)) (l.val % 64 - 8) else 0 := by
  pointwise [tabB2, twice]
  simp only [num]
  repeat' split
  all_goals first | omega | rfl | exact padWord | exact congrArg (fun y => c (ix2 s y)) (Fin.ext (by simp only; omega)) | exact congrArg (fun y => -c (ix2 s y)) (Fin.ext (by simp only; omega))

end Cert.Proj.Pack

end
-- ==== Proof.ProjSpec.lean ====
/- The nine arrays of the projections' call, entry by entry, from its arguments. -/
module

public import proofs.«01_k».proof.Proof.Gen.Kernel2Ideal
public import proofs.«01_k».proof.Proof.Proj

@[expose] public section

set_option maxRecDepth 16384

noncomputable section

namespace Cert.Proj

open Idealize.ShloMosaic Idealize.ShloMosaic.TcCoe Idealize.SL.Sem
open Cert.Kernel2Ideal

/-- The call's arguments: the tokens, their gains, the joint weights, and the gains and weights of the two latent rows. -/
structure Args where
  X : FVec Ideal S8x8192x1024 .f32
  G : FVec Ideal S1024 .f32
  W : FVec Ideal S1024x4640 .f32
  Gq : FVec Ideal S768 .f32
  Uq : FVec Ideal S768x768 .f32
  Gk : FVec Ideal S256 .f32
  Uk : FVec Ideal S256x1024 .f32

namespace Args

variable (A : Args)

/-- Token `R` of the 65536. -/
def tok (R : Fin 65536) : Fin 1024 → EReal := fun k => A.X (ix3 (⟨R.val / 8192, by omega⟩ : Fin 8) (⟨R.val % 8192, by omega⟩ : Fin 8192) k)

def g : Fin 1024 → EReal := fun k => A.G (ix1 k)
def gq : Fin 768 → EReal := fun k => A.Gq (ix1 k)
def gk : Fin 256 → EReal := fun k => A.Gk (ix1 k)
def w : Fin 1024 → ℕ → EReal := fun k => num fun y => A.W (ix2 k y)
def uq : Fin 768 → ℕ → EReal := fun k => num fun y => A.Uq (ix2 k y)
def uk : Fin 256 → ℕ → EReal := fun k => num fun y => A.Uk (ix2 k y)

/-- Column `n` of token `R`'s first product. -/
def seg (R : Fin 65536) (n : ℕ) : EReal := Proj.seg (A.tok R) A.g A.w n

/-- Column `n` of its queries. -/
def query (R : Fin 65536) (n : ℕ) : EReal := Proj.query (A.tok R) A.g A.w A.gq A.uq n

/-- Column `n` of its keys and values. -/
def latent (R : Fin 65536) (n : ℕ) : EReal := Proj.latent (A.tok R) A.g A.w A.gk A.uk n

end Args

/-- A table's row for token `R`: its position is `R` modulo 8192. -/
def at16 (c : FVec Ideal S8192x16 .f32) (R : Fin 65536) : ℕ → EReal := num fun y => c (ix2 (⟨R.val % 8192, by omega⟩ : Fin 8192) y)
def at8 (c : FVec Ideal S8192x8 .f32) (R : Fin 65536) : ℕ → EReal := num fun y => c (ix2 (⟨R.val % 8192, by omega⟩ : Fin 8192) y)

variable (A : Args)

/-- The latent attention's queries. -/
def qM (c s : FVec Ideal S8192x16 .f32) (z : EReal) : FVec Ideal S65536x1024 .bf16 := fun j =>
  wide (fun l => A.query (j 0) ((j 1).val / 128 * 96 + l)) (at16 c (j 0)) (at16 s (j 0)) ((j 1).val % 128) * z

/-- Its keys: each head's own 64 lanes, then the 32 rotated lanes all heads share. -/
def kM (c s : FVec Ideal S8192x16 .f32) : FVec Ideal S65536x1024 .bf16 := fun j =>
  wide (fun l => if l < 64 then A.latent (j 0) ((j 1).val / 128 * 128 + l) else A.seg (j 0) (1024 + (l - 64))) (at16 c (j 0)) (at16 s (j 0)) ((j 1).val % 128)

/-- Its values. -/
def vM : FVec Ideal S65536x512 .bf16 := fun j => A.latent (j 0) ((j 1).val / 64 * 128 + 64 + (j 1).val % 64)

/-- The block-sparse attention's queries. -/
def qB (c s : FVec Ideal S8192x8 .f32) (z : EReal) : FVec Ideal S65536x512 .bf16 := fun j =>
  narrow (fun l => A.seg (j 0) (1056 + (j 1).val / 64 * 64 + l)) (at8 c (j 0)) (at8 s (j 0)) ((j 1).val % 64) * z

/-- Lane `y` of token `R`'s keys. -/
def keyB (c s : FVec Ideal S8192x8 .f32) (R : Fin 65536) (y : ℕ) : EReal :=
  narrow (fun l => A.seg R (1568 + y / 64 * 64 + l)) (at8 c R) (at8 s R) (y % 64)

/-- Its keys, turned round in chunks of 1024 tokens. -/
def kB (c s : FVec Ideal S8192x8 .f32) : FVec Ideal S64x512x1024 .bf16 := fun j =>
  keyB A c s ⟨(j 0).val * 1024 + (j 2).val, by have h0 : (j 0).val < 64 := (j 0).isLt; have h2 : (j 2).val < 1024 := (j 2).isLt; omega⟩ (j 1).val

/-- Its values. -/
def vB : FVec Ideal S65536x512 .bf16 := fun j => A.seg (j 0) (2080 + (j 1).val)

/-- The mean key of each block of 256 tokens. -/
def meanB (c s : FVec Ideal S8192x8 .f32) : FVec Ideal S256x1x512 .f32 := fun j =>
  Ideal.div (∑ i : Fin 256, keyB A c s ⟨(j 0).val * 256 + i.val, by have h0 : (j 0).val < 256 := (j 0).isLt; omega⟩ (j 2).val) (Ideal.ofBits FTy.f32 0x43800000#32)

/-- The two gates. -/
def gA : FVec Ideal S65536x1024 .bf16 := fun j => A.seg (j 0) (2592 + (j 1).val)
def gB : FVec Ideal S65536x1024 .bf16 := fun j => A.seg (j 0) (3616 + (j 1).val)

/-! ## The arrays at an index given by its numbers -/

theorem qM_at (c s : FVec Ideal S8192x16 .f32) (z : EReal) (j : S65536x1024.Idx) (R : Fin 65536) (e l : ℕ) (h0 : (j 0).val = R.val) (h1 : (j 1).val = 128 * e + l) (hl : l < 128) :
    wide (fun n => A.query R (e * 96 + n)) (at16 c R) (at16 s R) l * z = qM A c s z j := by
  obtain rfl : (show Fin 65536 from j 0) = R := Fin.ext h0
  unfold qM
  rw [h1, show (128 * e + l) / 128 = e by omega, show (128 * e + l) % 128 = l by omega]

theorem kM_at (c s : FVec Ideal S8192x16 .f32) (j : S65536x1024.Idx) (R : Fin 65536) (e l : ℕ) (h0 : (j 0).val = R.val) (h1 : (j 1).val = 128 * e + l) (hl : l < 128) :
    wide (fun n => if n < 64 then A.latent R (e * 128 + n) else A.seg R (1024 + (n - 64))) (at16 c R) (at16 s R) l = kM A c s j := by
  obtain rfl : (show Fin 65536 from j 0) = R := Fin.ext h0
  unfold kM
  rw [h1, show (128 * e + l) / 128 = e by omega, show (128 * e + l) % 128 = l by omega]

theorem vM_at (j : S65536x512.Idx) (R : Fin 65536) (y : ℕ) (h0 : (j 0).val = R.val) (h1 : (j 1).val = y) :
    A.latent R (y / 64 * 128 + 64 + y % 64) = vM A j := by
  obtain rfl : (show Fin 65536 from j 0) = R := Fin.ext h0
  subst h1
  rfl

theorem qB_at (c s : FVec Ideal S8192x8 .f32) (z : EReal) (j : S65536x512.Idx) (R : Fin 65536) (y : ℕ) (h0 : (j 0).val = R.val) (h1 : (j 1).val = y) :
    narrow (fun n => A.seg R (1056 + y / 64 * 64 + n)) (at8 c R) (at8 s R) (y % 64) * z = qB A c s z j := by
  obtain rfl : (show Fin 65536 from j 0) = R := Fin.ext h0
  subst h1
  rfl

theorem kB_at (c s : FVec Ideal S8192x8 .f32) (j : S64x512x1024.Idx) (R : Fin 65536) (y : ℕ) (h0 : (j 0).val * 1024 + (j 2).val = R.val) (h1 : (j 1).val = y) :
    keyB A c s R y = kB A c s j := by
  subst h1
  unfold kB
  exact congrArg (keyB A c s · _) (Fin.ext h0.symm)

theorem vB_at (j : S65536x512.Idx) (R : Fin 65536) (y : ℕ) (h0 : (j 0).val = R.val) (h1 : (j 1).val = y) : A.seg R (2080 + y) = vB A j := by
  obtain rfl : (show Fin 65536 from j 0) = R := Fin.ext h0
  subst h1
  rfl

theorem meanB_at (c s : FVec Ideal S8192x8 .f32) (j : S256x1x512.Idx) (R : Fin 256 → Fin 65536) (y : ℕ) (h0 : ∀ i : Fin 256, (j 0).val * 256 + i.val = (R i).val) (h1 : (j 2).val = y) :
    Ideal.div (∑ i : Fin 256, keyB A c s (R i) y) (Ideal.ofBits FTy.f32 0x43800000#32) = meanB A c s j := by
  subst h1
  unfold meanB
  exact congrArg (Ideal.div · _) (Finset.sum_congr rfl fun i _ => congrArg (keyB A c s · _) (Fin.ext (h0 i).symm))

theorem gA_at (j : S65536x1024.Idx) (R : Fin 65536) (y : ℕ) (h0 : (j 0).val = R.val) (h1 : (j 1).val = y) : A.seg R (2592 + y) = gA A j := by
  obtain rfl : (show Fin 65536 from j 0) = R := Fin.ext h0
  subst h1
  rfl

theorem gB_at (j : S65536x1024.Idx) (R : Fin 65536) (y : ℕ) (h0 : (j 0).val = R.val) (h1 : (j 1).val = y) : A.seg R (3616 + y) = gB A j := by
  obtain rfl : (show Fin 65536 from j 0) = R := Fin.ext h0
  subst h1
  rfl

end Cert.Proj

end
-- ==== Proof.ProjEntry.lean ====
/- The blocks a grid step of the projections' call reads, in terms of the call's arguments. -/
module

public import proofs.«01_k».proof.Proof.ProjRun
public import proofs.«01_k».proof.Proof.ProjPack
public import proofs.«01_k».proof.Proof.ProjSpec
public import Idealize.ShloMosaic.Lib.Claim
public import Idealize.ShloMosaic.Lib.Pipeline.ValueKit

@[expose] public section

set_option maxRecDepth 16384

noncomputable section

namespace Cert.Proj

open Idealize.ShloMosaic Idealize.ShloMosaic.TcCoe Idealize.SL.Sem
open Idealize.ShloMosaic.Pipeline (Dat)
open Cert.Kernel2Ideal Cert.Kernel2Ideal.Gen Cert.Kernel2Ideal.Run Cert.Proj.Pack

variable (m : (ℓ : Loc nD τ sig) → Buf (Elt Ideal) ℓ)

/-- The call's arguments in memory. -/
def args (c : Dev nD) : Args :=
  ⟨m ((c.tc : Thread nD τ).loc main_arg0), m ((c.tc : Thread nD τ).loc main_arg1), m ((c.tc : Thread nD τ).loc main_arg2), m ((c.tc : Thread nD τ).loc main_arg3),
    m ((c.tc : Thread nD τ).loc main_arg4), m ((c.tc : Thread nD τ).loc main_arg5), m ((c.tc : Thread nD τ).loc main_arg6)⟩

/-! ## The arrays at the call -/

theorem x_entry (c : Dev nD) : V m c main_v18 = shapeCast S65536x1024 (args m c).X shapeCasts_S8x8192x1024_S65536x1024 := by
  simp only [V, List.flatten_cons, List.flatten_nil, List.cons_append, List.nil_append, List.append_nil, StableHlo.TRef.unary, StableHlo.TRef.binary, StableHlo.TRef.toBuf, StableHlo.TRef.ofBuf, cast_eq]
  after_results_simp
  rfl

theorem g_entry (c : Dev nD) : V m c main_v19 = broadcastInDim S1x1024 ![1] bcast_S1024_S1x1024_1 (args m c).G := by
  simp only [V, List.flatten_cons, List.flatten_nil, List.cons_append, List.nil_append, List.append_nil, StableHlo.TRef.unary, StableHlo.TRef.binary, StableHlo.TRef.toBuf, StableHlo.TRef.ofBuf, cast_eq]
  after_results_simp
  rfl

theorem win_entry (c : Dev nD) : V m c main_v5 = packIn (args m c).W := by
  simp only [V, List.flatten_cons, List.flatten_nil, List.cons_append, List.nil_append, List.append_nil, StableHlo.TRef.unary, StableHlo.TRef.binary, StableHlo.TRef.toBuf, StableHlo.TRef.ofBuf, cast_eq]
  after_results_simp
  rfl

theorem gq_entry (c : Dev nD) : V m c main_v20 = broadcastInDim S1x768 ![1] bcast_S768_S1x768_1 (args m c).Gq := by
  simp only [V, List.flatten_cons, List.flatten_nil, List.cons_append, List.nil_append, List.append_nil, StableHlo.TRef.unary, StableHlo.TRef.binary, StableHlo.TRef.toBuf, StableHlo.TRef.ofBuf, cast_eq]
  after_results_simp
  rfl

theorem uq_entry (c : Dev nD) : V m c main_v15 = packUq (args m c).Uq := by
  simp only [V, List.flatten_cons, List.flatten_nil, List.cons_append, List.nil_append, List.append_nil, StableHlo.TRef.unary, StableHlo.TRef.binary, StableHlo.TRef.toBuf, StableHlo.TRef.ofBuf, cast_eq]
  after_results_simp
  rfl

theorem gk_entry (c : Dev nD) : V m c main_v21 = broadcastInDim S1x256 ![1] bcast_S256_S1x256_1 (args m c).Gk := by
  simp only [V, List.flatten_cons, List.flatten_nil, List.cons_append, List.nil_append, List.append_nil, StableHlo.TRef.unary, StableHlo.TRef.binary, StableHlo.TRef.toBuf, StableHlo.TRef.ofBuf, cast_eq]
  after_results_simp
  rfl

theorem uk_entry (c : Dev nD) : V m c main_v16 = packUk (args m c).Uk := by
  simp only [V, List.flatten_cons, List.flatten_nil, List.cons_append, List.nil_append, List.append_nil, StableHlo.TRef.unary, StableHlo.TRef.binary, StableHlo.TRef.toBuf, StableHlo.TRef.ofBuf, cast_eq]
  after_results_simp
  rfl

theorem uv_entry (c : Dev nD) : V m c main_v17 = packUv (args m c).Uk := by
  simp only [V, List.flatten_cons, List.flatten_nil, List.cons_append, List.nil_append, List.append_nil, StableHlo.TRef.unary, StableHlo.TRef.binary, StableHlo.TRef.toBuf, StableHlo.TRef.ofBuf, cast_eq]
  after_results_simp
  rfl

theorem m0_entry (c : Dev nD) : V m c main_v38 = tabM0 cosM := by
  simp only [V, List.flatten_cons, List.flatten_nil, List.cons_append, List.nil_append, List.append_nil, StableHlo.TRef.unary, StableHlo.TRef.binary, StableHlo.TRef.toBuf, StableHlo.TRef.ofBuf, cast_eq]
  after_results_simp
  rfl

theorem m1_entry (c : Dev nD) : V m c main_v42 = tabM1 sinM := by
  simp only [V, List.flatten_cons, List.flatten_nil, List.cons_append, List.nil_append, List.append_nil, StableHlo.TRef.unary, StableHlo.TRef.binary, StableHlo.TRef.toBuf, StableHlo.TRef.ofBuf, cast_eq]
  after_results_simp
  rfl

theorem m2_entry (c : Dev nD) : V m c main_v45 = tabM2 sinM := by
  simp only [V, List.flatten_cons, List.flatten_nil, List.cons_append, List.nil_append, List.append_nil, StableHlo.TRef.unary, StableHlo.TRef.binary, StableHlo.TRef.toBuf, StableHlo.TRef.ofBuf, cast_eq]
  after_results_simp
  rfl

theorem b0_entry (c : Dev nD) : V m c main_v68 = tabB0 cosB := by
  simp only [V, List.flatten_cons, List.flatten_nil, List.cons_append, List.nil_append, List.append_nil, StableHlo.TRef.unary, StableHlo.TRef.binary, StableHlo.TRef.toBuf, StableHlo.TRef.ofBuf, cast_eq]
  after_results_simp
  rfl

theorem b1_entry (c : Dev nD) : V m c main_v69 = tabB1 sinB := by
  simp only [V, List.flatten_cons, List.flatten_nil, List.cons_append, List.nil_append, List.append_nil, StableHlo.TRef.unary, StableHlo.TRef.binary, StableHlo.TRef.toBuf, StableHlo.TRef.ofBuf, cast_eq]
  after_results_simp
  rfl

theorem b2_entry (c : Dev nD) : V m c main_v70 = tabB2 sinB := by
  simp only [V, List.flatten_cons, List.flatten_nil, List.cons_append, List.nil_append, List.append_nil, StableHlo.TRef.unary, StableHlo.TRef.binary, StableHlo.TRef.toBuf, StableHlo.TRef.ofBuf, cast_eq]
  after_results_simp
  rfl

/-! ## The blocks -/

/-- Which blocks grid point `t` works on. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![t.val % 16, 0] ∧ win0_9.index t = ![t.val % 16, 0] ∧ win0_10.index t = ![t.val % 16, 0]
    ∧ win0_11.index t = ![t.val % 16, 0] ∧ win0_12.index t = ![t.val % 16, 0] ∧ win0_13.index t = ![t.val % 16, 0]
    ∧ win0_14.index t = ![t.val, 0] ∧ win0_15.index t = ![t.val, 0] ∧ win0_16.index t = ![t.val, 0] ∧ win0_17.index t = ![t.val, 0]
    ∧ win0_18.index t = ![t.val / 2, 0, t.val % 2] ∧ win0_19.index t = ![t.val, 0] ∧ win0_20.index t = ![t.val, 0, 0]
    ∧ win0_21.index t = ![t.val, 0] ∧ win0_22.index t = ![t.val, 0] :=
  (by decide +kernel : ∀ t : Fin grid0.N, _)

theorem points : cfg0.N = 128 := rfl

/-- Row `r` of grid point `t`'s tile is this token. -/
def at512 (t : Fin cfg0.N) (r : Fin 512) : Fin 65536 := ⟨t.val * 512 + r.val, by have := t.isLt; have := points; omega⟩

theorem x_block (c : Dev nD) (t : Fin cfg0.N) (r : Fin 512) (k : Fin 1024) :
    (show FVec Ideal S512x1024 .f32 from iblk m c 0 t) (ix2 r k) = (args m c).tok (at512 t r) k := by
  have ht := t.isLt
  have hN := points
  show iblk m c 0 t (ix2 r k) = _
  have e : (shapeCast S65536x1024 (args m c).X shapeCasts_S8x8192x1024_S65536x1024 : FVec Ideal S65536x1024 .f32) (ix2 (at512 t r) k) = (args m c).tok (at512 t r) k := by
    pointwise [Args.tok]
  rw [← e, ← x_entry]
  blk_ext [iblk, idx t, at512]

theorem g_block (c : Dev nD) (t : Fin cfg0.N) (k : Fin 1024) :
    (show FVec Ideal S1x1024 .f32 from iblk m c 1 t) (ix2 (0 : Fin 1) k) = (args m c).g k := by
  show iblk m c 1 t (ix2 (0 : Fin 1) k) = _
  have e : (broadcastInDim S1x1024 ![1] bcast_S1024_S1x1024_1 (args m c).G : FVec Ideal S1x1024 .f32) (ix2 (0 : Fin 1) k) = (args m c).g k := by
    pointwise [Args.g]
  rw [← e, ← g_entry]
  blk_ext [iblk, idx t]

theorem gq_block (c : Dev nD) (t : Fin cfg0.N) (k : Fin 768) :
    (show FVec Ideal S1x768 .f32 from iblk m c 3 t) (ix2 (0 : Fin 1) k) = (args m c).gq k := by
  show iblk m c 3 t (ix2 (0 : Fin 1) k) = _
  have e : (broadcastInDim S1x768 ![1] bcast_S768_S1x768_1 (args m c).Gq : FVec Ideal S1x768 .f32) (ix2 (0 : Fin 1) k) = (args m c).gq k := by
    pointwise [Args.gq]
  rw [← e, ← gq_entry]
  blk_ext [iblk, idx t]

theorem gk_block (c : Dev nD) (t : Fin cfg0.N) (k : Fin 256) :
    (show FVec Ideal S1x256 .f32 from iblk m c 5 t) (ix2 (0 : Fin 1) k) = (args m c).gk k := by
  show iblk m c 5 t (ix2 (0 : Fin 1) k) = _
  have e : (broadcastInDim S1x256 ![1] bcast_S256_S1x256_1 (args m c).Gk : FVec Ideal S1x256 .f32) (ix2 (0 : Fin 1) k) = (args m c).gk k := by
    pointwise [Args.gk]
  rw [← e, ← gk_entry]
  blk_ext [iblk, idx t]

theorem win_block (c : Dev nD) (t : Fin cfg0.N) (k : Fin 1024) (y : Fin 4736) :
    (show FVec Ideal S1024x4736 .bf16 from iblk m c 2 t) (ix2 k y) = packIn (args m c).W (ix2 k y) := by
  show iblk m c 2 t (ix2 k y) = _
  rw [← win_entry]
  blk_ext [iblk, idx t]

theorem uq_block (c : Dev nD) (t : Fin cfg0.N) (k : Fin 768) (y : Fin 1024) :
    (show FVec Ideal S768x1024 .bf16 from iblk m c 4 t) (ix2 k y) = packUq (args m c).Uq (ix2 k y) := by
  show iblk m c 4 t (ix2 k y) = _
  rw [← uq_entry]
  blk_ext [iblk, idx t]

theorem uk_block (c : Dev nD) (t : Fin cfg0.N) (k : Fin 256) (y : Fin 1024) :
    (show FVec Ideal S256x1024 .bf16 from iblk m c 6 t) (ix2 k y) = packUk (args m c).Uk (ix2 k y) := by
  show iblk m c 6 t (ix2 k y) = _
  rw [← uk_entry]
  blk_ext [iblk, idx t]

theorem uv_block (c : Dev nD) (t : Fin cfg0.N) (k : Fin 256) (y : Fin 512) :
    (show FVec Ideal S256x512 .bf16 from iblk m c 7 t) (ix2 k y) = packUv (args m c).Uk (ix2 k y) := by
  show iblk m c 7 t (ix2 k y) = _
  rw [← uv_entry]
  blk_ext [iblk, idx t]

theorem m0_block (c : Dev nD) (t : Fin cfg0.N) (r : Fin 512) (l : Fin 128) :
    (show FVec Ideal S512x128 .f32 from iblk m c 8 t) (ix2 r l) = tabM0 cosM (ix2 (⟨(at512 t r).val % 8192, by omega⟩ : Fin 8192) l) := by
  have ht := t.isLt
  have hN := points
  show iblk m c 8 t (ix2 r l) = _
  rw [← m0_entry m c]
  blk_ext [iblk, idx t, at512]

theorem m1_block (c : Dev nD) (t : Fin cfg0.N) (r : Fin 512) (l : Fin 128) :
    (show FVec Ideal S512x128 .f32 from iblk m c 9 t) (ix2 r l) = tabM1 sinM (ix2 (⟨(at512 t r).val % 8192, by omega⟩ : Fin 8192) l) := by
  have ht := t.isLt
  have hN := points
  show iblk m c 9 t (ix2 r l) = _
  rw [← m1_entry m c]
  blk_ext [iblk, idx t, at512]

theorem m2_block (c : Dev nD) (t : Fin cfg0.N) (r : Fin 512) (l : Fin 128) :
    (show FVec Ideal S512x128 .f32 from iblk m c 10 t) (ix2 r l) = tabM2 sinM (ix2 (⟨(at512 t r).val % 8192, by omega⟩ : Fin 8192) l) := by
  have ht := t.isLt
  have hN := points
  show iblk m c 10 t (ix2 r l) = _
  rw [← m2_entry m c]
  blk_ext [iblk, idx t, at512]

theorem b0_block (c : Dev nD) (t : Fin cfg0.N) (r : Fin 512) (l : Fin 128) :
    (show FVec Ideal S512x128 .f32 from iblk m c 11 t) (ix2 r l) = tabB0 cosB (ix2 (⟨(at512 t r).val % 8192, by omega⟩ : Fin 8192) l) := by
  have ht := t.isLt
  have hN := points
  show iblk m c 11 t (ix2 r l) = _
  rw [← b0_entry m c]
  blk_ext [iblk, idx t, at512]

theorem b1_block (c : Dev nD) (t : Fin cfg0.N) (r : Fin 512) (l : Fin 128) :
    (show FVec Ideal S512x128 .f32 from iblk m c 12 t) (ix2 r l) = tabB1 sinB (ix2 (⟨(at512 t r).val % 8192, by omega⟩ : Fin 8192) l) := by
  have ht := t.isLt
  have hN := points
  show iblk m c 12 t (ix2 r l) = _
  rw [← b1_entry m c]
  blk_ext [iblk, idx t, at512]

theorem b2_block (c : Dev nD) (t : Fin cfg0.N) (r : Fin 512) (l : Fin 128) :
    (show FVec Ideal S512x128 .f32 from iblk m c 13 t) (ix2 r l) = tabB2 sinB (ix2 (⟨(at512 t r).val % 8192, by omega⟩ : Fin 8192) l) := by
  have ht := t.isLt
  have hN := points
  show iblk m c 13 t (ix2 r l) = _
  rw [← b2_entry m c]
  blk_ext [iblk, idx t, at512]

end Cert.Proj

end
-- ==== Proof.ProjBody.lean ====
/- The blocks the projections' body computes, entry by entry. -/
module

public import proofs.«01_k».proof.Proof.Gen.Kernel2Ideal.Skeleton
public import proofs.«01_k».proof.Proof.Proj

@[expose] public section

set_option maxRecDepth 16384

noncomputable section

namespace Cert.Proj.Body

open Idealize.ShloMosaic Idealize.ShloMosaic.TcCoe Idealize.SL.Sem
open Cert.Kernel2Ideal Cert.Kernel2Ideal.Gen Cert.Proj

/-! ## The products -/

/-- The normed tokens. -/
theorem normed (x : FVec Ideal S512x1024 .f32) (g : FVec Ideal S1x1024 .f32) (r : Fin 512) (k : Fin 1024) :
    (k0_pay5 x g : FVec Ideal S512x1024 .bf16) (ix2 r k) = rms 0x44800000#32 (fun j => x (ix2 r j)) (fun j => g (ix2 (0 : Fin 1) j)) k := by
  pointwise [k0_pay5, rms, eps]

theorem pay2_apply (h : FVec Ideal S512x1024 .bf16) (w : FVec Ideal S1024x512 .bf16) (r : Fin 512) (y : Fin 512) :
    (k0_pay2 h w : FVec Ideal S512x512 .bf16) (ix2 r y) = ∑ k : Fin 1024, h (ix2 r k) * w (ix2 k y) := by
  pointwise [k0_pay2]

theorem pay3_apply (h : FVec Ideal S512x1024 .bf16) (w : FVec Ideal S1024x1024 .bf16) (r : Fin 512) (y : Fin 1024) :
    (k0_pay3 h w : FVec Ideal S512x1024 .bf16) (ix2 r y) = ∑ k : Fin 1024, h (ix2 r k) * w (ix2 k y) := by
  pointwise [k0_pay3]

theorem pay4_apply (h : FVec Ideal S512x1024 .bf16) (w : FVec Ideal S1024x1024 .bf16) (r : Fin 512) (y : Fin 1024) :
    (k0_pay4 h w : FVec Ideal S512x1024 .bf16) (ix2 r y) = ∑ k : Fin 1024, h (ix2 r k) * w (ix2 k y) := by
  pointwise [k0_pay4]

theorem pay29_apply (h : FVec Ideal S512x1024 .bf16) (w : FVec Ideal S1024x256 .bf16) (r : Fin 512) (y : Fin 256) :
    (k0_pay29 h w : FVec Ideal S512x256 .f32) (ix2 r y) = ∑ k : Fin 1024, h (ix2 r k) * w (ix2 k y) := by
  pointwise [k0_pay29]

theorem pay44_apply (h : FVec Ideal S512x1024 .bf16) (w : FVec Ideal S1024x512 .bf16) (r : Fin 512) (y : Fin 512) :
    (k0_pay44 h w : FVec Ideal S512x512 .f32) (ix2 r y) = ∑ k : Fin 1024, h (ix2 r k) * w (ix2 k y) := by
  pointwise [k0_pay44]

theorem pay45_apply (h : FVec Ideal S512x1024 .bf16) (w : FVec Ideal S1024x512 .bf16) (r : Fin 512) (y : Fin 512) :
    (k0_pay45 h w : FVec Ideal S512x512 .f32) (ix2 r y) = ∑ k : Fin 1024, h (ix2 r k) * w (ix2 k y) := by
  pointwise [k0_pay45]

theorem pay43_apply (h : FVec Ideal S512x256 .bf16) (w : FVec Ideal S256x512 .bf16) (r : Fin 512) (y : Fin 512) :
    (k0_pay43 h w : FVec Ideal S512x512 .bf16) (ix2 r y) = ∑ k : Fin 256, h (ix2 r k) * w (ix2 k y) := by
  pointwise [k0_pay43]

theorem pay12_apply (x : FVec Ideal S512x1024 .f32) (g : FVec Ideal S1x1024 .f32) (w : FVec Ideal S1024x768 .bf16) (r : Fin 512) (y : Fin 768) :
    (k0_pay12 x g w : FVec Ideal S512x768 .f32) (ix2 r y) = ∑ k : Fin 1024, (k0_pay5 x g : FVec Ideal S512x1024 .bf16) (ix2 r k) * w (ix2 k y) := by
  pointwise [k0_pay12]

/-- The latent queries: normed again, times their weights. -/
theorem pay15_apply (a : FVec Ideal S512x768 .f32) (g : FVec Ideal S1x768 .f32) (w : FVec Ideal S768x1024 .bf16) (r : Fin 512) (y : Fin 1024) :
    (k0_pay15 a g (mulf a a) w : FVec Ideal S512x1024 .f32) (ix2 r y)
      = ∑ k : Fin 768, rms 0x44400000#32 (fun j => a (ix2 r j)) (fun j => g (ix2 (0 : Fin 1) j)) k * w (ix2 k y) := by
  pointwise [k0_pay15, rms, eps]

/-- The latent keys and values, normed. -/
theorem pay32_apply (h : FVec Ideal S512x1024 .bf16) (w : FVec Ideal S1024x256 .bf16) (g : FVec Ideal S1x256 .f32) (r : Fin 512) (y : Fin 256) :
    (k0_pay32 (k0_pay29 h w) (k0_pay30 g) (k0_pay31 h w) (Scalar.ofBits .f32 0x43800000#32) : FVec Ideal S512x256 .bf16) (ix2 r y)
      = rms 0x43800000#32 (fun j => (k0_pay29 h w : FVec Ideal S512x256 .f32) (ix2 r j)) (fun j => g (ix2 (0 : Fin 1) j)) y := by
  pointwise [k0_pay32, k0_pay31, k0_pay30, rms, eps]

theorem pay33_apply (a : FVec Ideal S512x256 .f32) (g : FVec Ideal S1x256 .f32) (b : FVec Ideal S512x1 .f32) (z : Ideal .f32)
    (w : FVec Ideal S256x1024 .bf16) (r : Fin 512) (y : Fin 1024) :
    (k0_pay33 a g b z w : FVec Ideal S512x1024 .f32) (ix2 r y)
      = ∑ k : Fin 256, (k0_pay32 a g b z : FVec Ideal S512x256 .bf16) (ix2 r k) * w (ix2 k y) := by
  pointwise [k0_pay33]

/-! ## The rotated tiles -/

/-- The scale of the latent attention's queries. -/
def scaleMla : EReal := (Named.named (φ := FTy.f32) κ "scale_mla" 0x3E16C740#32 : Ideal .f32)

/-- The scale of the block-sparse attention's queries. -/
def scaleMoba : EReal := (Named.named (φ := FTy.f32) κ "scale_moba" 0x3E38AA3B#32 : Ideal .f32)

/-- Row `r` of a tile. -/
abbrev row {n : ℕ} (a : (Fin 512 → Fin n → EReal)) (r : Fin 512) : ℕ → EReal := num (a r)

/-- Lane `l` of the tile of `q`'s columns from `o` on, with the tables `c`, `s₁`, `s₂` of its lanes. -/
def tile {n : ℕ} (q : Fin 512 → Fin n → EReal) (c s₁ s₂ : FVec Ideal S512x128 .f32) (o a b : ℕ) (r : Fin 512) (l : Fin 128) : EReal :=
  turn (fun m => num (q r) (o + m)) (num fun y => c (ix2 r y)) (num fun y => s₁ (ix2 r y)) (num fun y => s₂ (ix2 r y)) a b l.val

theorem q0 (c s₁ s₂ : FVec Ideal S512x128 .f32) (a : FVec Ideal S512x768 .f32) (g : FVec Ideal S1x768 .f32) (b : FVec Ideal S512x768 .f32) (w : FVec Ideal S768x1024 .bf16) (r : Fin 512) (l : Fin 128) :
    (k0_pay16 c s₁ s₂ a g b w : FVec Ideal S512x128 .bf16) (ix2 r l) = tile (fun r y => (k0_pay15 a g b w : FVec Ideal S512x1024 .f32) (ix2 r y)) c s₁ s₂ 0 16 112 r l * scaleMla := by
  pointwise [k0_pay16]
  exact congrArg (· * scaleMla) (turn_at (fun y => (k0_pay15 a g b w : FVec Ideal S512x1024 .f32) (ix2 r y)) (fun y => c (ix2 r y)) (fun y => s₁ (ix2 r y)) (fun y => s₂ (ix2 r y)) 0 16 112 l _ _ _ (by first | rfl | omega | (simp only; omega)) (by first | rfl | omega | (simp only; omega)) (by first | rfl | omega | (simp only; omega)))

theorem q1 (c s₁ s₂ : FVec Ideal S512x128 .f32) (a : FVec Ideal S512x768 .f32) (g : FVec Ideal S1x768 .f32) (b : FVec Ideal S512x768 .f32) (w : FVec Ideal S768x1024 .bf16) (r : Fin 512) (l : Fin 128) :
    (k0_pay17 c s₁ s₂ a g b w : FVec Ideal S512x128 .bf16) (ix2 r l) = tile (fun r y => (k0_pay15 a g b w : FVec Ideal S512x1024 .f32) (ix2 r y)) c s₁ s₂ 128 16 112 r l * scaleMla := by
  pointwise [k0_pay17]
  exact congrArg (· * scaleMla) (turn_at (fun y => (k0_pay15 a g b w : FVec Ideal S512x1024 .f32) (ix2 r y)) (fun y => c (ix2 r y)) (fun y => s₁ (ix2 r y)) (fun y => s₂ (ix2 r y)) 128 16 112 l _ _ _ (by first | rfl | omega | (simp only; omega)) (by first | rfl | omega | (simp only; omega)) (by first | rfl | omega | (simp only; omega)))

theorem q2 (c s₁ s₂ : FVec Ideal S512x128 .f32) (a : FVec Ideal S512x768 .f32) (g : FVec Ideal S1x768 .f32) (b : FVec Ideal S512x768 .f32) (w : FVec Ideal S768x1024 .bf16) (r : Fin 512) (l : Fin 128) :
    (k0_pay20 s₁ s₂ (k0_pay18 a g b w) (k0_pay19 c a g b w) 112#32 : FVec Ideal S512x128 .bf16) (ix2 r l) = tile (fun r y => (k0_pay15 a g b w : FVec Ideal S512x1024 .f32) (ix2 r y)) c s₁ s₂ 256 16 112 r l * scaleMla := by
  pointwise [k0_pay20, k0_pay19, k0_pay18]
  exact congrArg (· * scaleMla) (turn_at (fun y => (k0_pay15 a g b w : FVec Ideal S512x1024 .f32) (ix2 r y)) (fun y => c (ix2 r y)) (fun y => s₁ (ix2 r y)) (fun y => s₂ (ix2 r y)) 256 16 112 l _ _ _ (by first | rfl | omega | (simp only; omega)) (by first | rfl | omega | (simp only; omega)) (by first | rfl | omega | (simp only; omega)))

theorem q3 (c s₁ s₂ : FVec Ideal S512x128 .f32) (q : FVec Ideal S512x1024 .f32) (r : Fin 512) (l : Fin 128) :
    (k0_pay21 c s₁ s₂ q : FVec Ideal S512x128 .bf16) (ix2 r l) = tile (fun r y => (q : FVec Ideal S512x1024 .f32) (ix2 r y)) c s₁ s₂ 384 16 112 r l * scaleMla := by
  pointwise [k0_pay21]
  exact congrArg (· * scaleMla) (turn_at (fun y => (q : FVec Ideal S512x1024 .f32) (ix2 r y)) (fun y => c (ix2 r y)) (fun y => s₁ (ix2 r y)) (fun y => s₂ (ix2 r y)) 384 16 112 l _ _ _ (by first | rfl | omega | (simp only; omega)) (by first | rfl | omega | (simp only; omega)) (by first | rfl | omega | (simp only; omega)))

theorem q4 (c s₁ s₂ : FVec Ideal S512x128 .f32) (q : FVec Ideal S512x1024 .f32) (r : Fin 512) (l : Fin 128) :
    (k0_pay22 c s₁ s₂ q : FVec Ideal S512x128 .bf16) (ix2 r l) = tile (fun r y => (q : FVec Ideal S512x1024 .f32) (ix2 r y)) c s₁ s₂ 512 16 112 r l * scaleMla := by
  pointwise [k0_pay22]
  exact congrArg (· * scaleMla) (turn_at (fun y => (q : FVec Ideal S512x1024 .f32) (ix2 r y)) (fun y => c (ix2 r y)) (fun y => s₁ (ix2 r y)) (fun y => s₂ (ix2 r y)) 512 16 112 l _ _ _ (by first | rfl | omega | (simp only; omega)) (by first | rfl | omega | (simp only; omega)) (by first | rfl | omega | (simp only; omega)))

theorem q5 (c s₁ s₂ : FVec Ideal S512x128 .f32) (q : FVec Ideal S512x1024 .f32) (r : Fin 512) (l : Fin 128) :
    (k0_pay26 (k0_pay24 c s₁ q) (k0_pay25 s₂ q) : FVec Ideal S512x128 .bf16) (ix2 r l) = tile (fun r y => (q : FVec Ideal S512x1024 .f32) (ix2 r y)) c s₁ s₂ 640 16 112 r l * scaleMla := by
  pointwise [k0_pay26, k0_pay25, k0_pay24, k0_pay23]
  exact congrArg (· * scaleMla) (turn_at (fun y => (q : FVec Ideal S512x1024 .f32) (ix2 r y)) (fun y => c (ix2 r y)) (fun y => s₁ (ix2 r y)) (fun y => s₂ (ix2 r y)) 640 16 112 l _ _ _ (by first | rfl | omega | (simp only; omega)) (by first | rfl | omega | (simp only; omega)) (by first | rfl | omega | (simp only; omega)))

theorem q6 (c s₁ s₂ : FVec Ideal S512x128 .f32) (q : FVec Ideal S512x1024 .f32) (r : Fin 512) (l : Fin 128) :
    (k0_pay27 c s₁ s₂ q : FVec Ideal S512x128 .bf16) (ix2 r l) = tile (fun r y => (q : FVec Ideal S512x1024 .f32) (ix2 r y)) c s₁ s₂ 768 16 112 r l * scaleMla := by
  pointwise [k0_pay27]
  exact congrArg (· * scaleMla) (turn_at (fun y => (q : FVec Ideal S512x1024 .f32) (ix2 r y)) (fun y => c (ix2 r y)) (fun y => s₁ (ix2 r y)) (fun y => s₂ (ix2 r y)) 768 16 112 l _ _ _ (by first | rfl | omega | (simp only; omega)) (by first | rfl | omega | (simp only; omega)) (by first | rfl | omega | (simp only; omega)))

theorem q7 (c s₁ s₂ : FVec Ideal S512x128 .f32) (q : FVec Ideal S512x1024 .f32) (r : Fin 512) (l : Fin 128) :
    (k0_pay28 c s₁ s₂ q : FVec Ideal S512x128 .bf16) (ix2 r l) = tile (fun r y => (q : FVec Ideal S512x1024 .f32) (ix2 r y)) c s₁ s₂ 896 16 112 r l * scaleMla := by
  pointwise [k0_pay28]
  exact congrArg (· * scaleMla) (turn_at (fun y => (q : FVec Ideal S512x1024 .f32) (ix2 r y)) (fun y => c (ix2 r y)) (fun y => s₁ (ix2 r y)) (fun y => s₂ (ix2 r y)) 896 16 112 l _ _ _ (by first | rfl | omega | (simp only; omega)) (by first | rfl | omega | (simp only; omega)) (by first | rfl | omega | (simp only; omega)))

theorem b0 (h : FVec Ideal S512x1024 .bf16) (w : FVec Ideal S1024x512 .bf16) (c s₁ s₂ : FVec Ideal S512x128 .f32) (r : Fin 512) (l : Fin 128) :
    (k0_pay49 (k0_pay47 h c s₁ w) (k0_pay48 h s₂ w) : FVec Ideal S512x128 .bf16) (ix2 r l) = tile (fun r y => (k0_pay44 h w : FVec Ideal S512x512 .f32) (ix2 r y)) c s₁ s₂ 0 8 120 r l * scaleMoba := by
  pointwise [k0_pay49, k0_pay48, k0_pay47, k0_pay46]
  exact congrArg (· * scaleMoba) (turn_at (fun y => (k0_pay44 h w : FVec Ideal S512x512 .f32) (ix2 r y)) (fun y => c (ix2 r y)) (fun y => s₁ (ix2 r y)) (fun y => s₂ (ix2 r y)) 0 8 120 l _ _ _ (by first | rfl | omega | (simp only; omega)) (by first | rfl | omega | (simp only; omega)) (by first | rfl | omega | (simp only; omega)))

theorem b1 (c s₁ s₂ : FVec Ideal S512x128 .f32) (q : FVec Ideal S512x512 .f32) (r : Fin 512) (l : Fin 128) :
    (k0_pay57 s₁ s₂ (k0_pay54 q) (k0_pay55 c q) (k0_pay56 q) : FVec Ideal S512x128 .bf16) (ix2 r l) = tile (fun r y => (q : FVec Ideal S512x512 .f32) (ix2 r y)) c s₁ s₂ 128 8 120 r l * scaleMoba := by
  pointwise [k0_pay57, k0_pay56, k0_pay55, k0_pay54]
  exact congrArg (· * scaleMoba) (turn_at (fun y => (q : FVec Ideal S512x512 .f32) (ix2 r y)) (fun y => c (ix2 r y)) (fun y => s₁ (ix2 r y)) (fun y => s₂ (ix2 r y)) 128 8 120 l _ _ _ (by first | rfl | omega | (simp only; omega)) (by first | rfl | omega | (simp only; omega)) (by first | rfl | omega | (simp only; omega)))

theorem b2 (c s₁ s₂ : FVec Ideal S512x128 .f32) (q : FVec Ideal S512x512 .f32) (r : Fin 512) (l : Fin 128) :
    (k0_pay62 c s₁ s₂ q : FVec Ideal S512x128 .bf16) (ix2 r l) = tile (fun r y => (q : FVec Ideal S512x512 .f32) (ix2 r y)) c s₁ s₂ 256 8 120 r l * scaleMoba := by
  pointwise [k0_pay62]
  exact congrArg (· * scaleMoba) (turn_at (fun y => (q : FVec Ideal S512x512 .f32) (ix2 r y)) (fun y => c (ix2 r y)) (fun y => s₁ (ix2 r y)) (fun y => s₂ (ix2 r y)) 256 8 120 l _ _ _ (by first | rfl | omega | (simp only; omega)) (by first | rfl | omega | (simp only; omega)) (by first | rfl | omega | (simp only; omega)))

theorem b3 (c s₁ s₂ : FVec Ideal S512x128 .f32) (q : FVec Ideal S512x512 .f32) (r : Fin 512) (l : Fin 128) :
    (k0_pay68 c s₁ s₂ q : FVec Ideal S512x128 .bf16) (ix2 r l) = tile (fun r y => (q : FVec Ideal S512x512 .f32) (ix2 r y)) c s₁ s₂ 384 8 120 r l * scaleMoba := by
  pointwise [k0_pay68]
  exact congrArg (· * scaleMoba) (turn_at (fun y => (q : FVec Ideal S512x512 .f32) (ix2 r y)) (fun y => c (ix2 r y)) (fun y => s₁ (ix2 r y)) (fun y => s₂ (ix2 r y)) 384 8 120 l _ _ _ (by first | rfl | omega | (simp only; omega)) (by first | rfl | omega | (simp only; omega)) (by first | rfl | omega | (simp only; omega)))

theorem k0 (c s₁ s₂ : FVec Ideal S512x128 .f32) (q : FVec Ideal S512x512 .f32) (r : Fin 512) (l : Fin 128) :
    (k0_pay50 c s₁ s₂ q : FVec Ideal S512x128 .f32) (ix2 r l) = tile (fun r y => (q : FVec Ideal S512x512 .f32) (ix2 r y)) c s₁ s₂ 0 8 120 r l := by
  pointwise [k0_pay50]
  exact turn_at (fun y => (q : FVec Ideal S512x512 .f32) (ix2 r y)) (fun y => c (ix2 r y)) (fun y => s₁ (ix2 r y)) (fun y => s₂ (ix2 r y)) 0 8 120 l _ _ _ (by first | rfl | omega | (simp only; omega)) (by first | rfl | omega | (simp only; omega)) (by first | rfl | omega | (simp only; omega))

theorem k1 (c s₁ s₂ : FVec Ideal S512x128 .f32) (q : FVec Ideal S512x512 .f32) (r : Fin 512) (l : Fin 128) :
    (k0_pay58 c s₁ s₂ q : FVec Ideal S512x128 .f32) (ix2 r l) = tile (fun r y => (q : FVec Ideal S512x512 .f32) (ix2 r y)) c s₁ s₂ 128 8 120 r l := by
  pointwise [k0_pay58]
  exact turn_at (fun y => (q : FVec Ideal S512x512 .f32) (ix2 r y)) (fun y => c (ix2 r y)) (fun y => s₁ (ix2 r y)) (fun y => s₂ (ix2 r y)) 128 8 120 l _ _ _ (by first | rfl | omega | (simp only; omega)) (by first | rfl | omega | (simp only; omega)) (by first | rfl | omega | (simp only; omega))

theorem k2 (c s₁ s₂ : FVec Ideal S512x128 .f32) (q : FVec Ideal S512x512 .f32) (r : Fin 512) (l : Fin 128) :
    (k0_pay63 c s₁ s₂ q : FVec Ideal S512x128 .f32) (ix2 r l) = tile (fun r y => (q : FVec Ideal S512x512 .f32) (ix2 r y)) c s₁ s₂ 256 8 120 r l := by
  pointwise [k0_pay63]
  exact turn_at (fun y => (q : FVec Ideal S512x512 .f32) (ix2 r y)) (fun y => c (ix2 r y)) (fun y => s₁ (ix2 r y)) (fun y => s₂ (ix2 r y)) 256 8 120 l _ _ _ (by first | rfl | omega | (simp only; omega)) (by first | rfl | omega | (simp only; omega)) (by first | rfl | omega | (simp only; omega))

theorem k3 (c s₁ s₂ : FVec Ideal S512x128 .f32) (q : FVec Ideal S512x512 .f32) (r : Fin 512) (l : Fin 128) :
    (k0_pay69 c s₁ s₂ q : FVec Ideal S512x128 .f32) (ix2 r l) = tile (fun r y => (q : FVec Ideal S512x512 .f32) (ix2 r y)) c s₁ s₂ 384 8 120 r l := by
  pointwise [k0_pay69]
  exact turn_at (fun y => (q : FVec Ideal S512x512 .f32) (ix2 r y)) (fun y => c (ix2 r y)) (fun y => s₁ (ix2 r y)) (fun y => s₂ (ix2 r y)) 384 8 120 l _ _ _ (by first | rfl | omega | (simp only; omega)) (by first | rfl | omega | (simp only; omega)) (by first | rfl | omega | (simp only; omega))

/-- The token's own rotated lanes of the latent keys, the same in every head. -/
theorem kr (h : FVec Ideal S512x1024 .bf16) (c s₁ s₂ : FVec Ideal S512x128 .f32) (w : FVec Ideal S1024x128 .bf16) (r : Fin 512) (l : Fin 128) :
    (k0_pay34 h c s₁ s₂ w : FVec Ideal S512x128 .f32) (ix2 r l)
      = tile (fun r y => ∑ k : Fin 1024, h (ix2 r k) * w (ix2 k y)) c s₁ s₂ 0 16 112 r l := by
  pointwise [k0_pay34]
  exact turn_at (fun y => ∑ k : Fin 1024, h (ix2 r k) * w (ix2 k y)) (fun y => c (ix2 r y)) (fun y => s₁ (ix2 r y)) (fun y => s₂ (ix2 r y)) 0 16 112 l _ _ _ (by first | rfl | omega | (simp only; omega)) (by first | rfl | omega | (simp only; omega)) (by first | rfl | omega | (simp only; omega))

theorem km0 (h : FVec Ideal S512x1024 .bf16) (c s₁ s₂ : FVec Ideal S512x128 .f32) (a : FVec Ideal S512x256 .f32) (g : FVec Ideal S1x256 .f32) (b : FVec Ideal S512x1 .f32) (z : Ideal .f32) (w : FVec Ideal S256x1024 .bf16) (v : FVec Ideal S1024x128 .bf16) (r : Fin 512) (l : Fin 128) :
    (k0_pay35 h c s₁ s₂ a g b z w v : FVec Ideal S512x128 .bf16) (ix2 r l)
      = (k0_pay33 a g b z w : FVec Ideal S512x1024 .f32) (ix2 r (⟨l.val, by omega⟩ : Fin 1024)) + (k0_pay34 h c s₁ s₂ v : FVec Ideal S512x128 .f32) (ix2 r l) := by
  pointwise [k0_pay35]

theorem km1 (h : FVec Ideal S512x1024 .bf16) (c s₁ s₂ : FVec Ideal S512x128 .f32) (a : FVec Ideal S512x256 .f32) (g : FVec Ideal S1x256 .f32) (b : FVec Ideal S512x1 .f32) (z : Ideal .f32) (w : FVec Ideal S256x1024 .bf16) (v : FVec Ideal S1024x128 .bf16) (r : Fin 512) (l : Fin 128) :
    (k0_pay36 h c s₁ s₂ a g b z w v : FVec Ideal S512x128 .bf16) (ix2 r l)
      = (k0_pay33 a g b z w : FVec Ideal S512x1024 .f32) (ix2 r (⟨128 + l.val, by omega⟩ : Fin 1024)) + (k0_pay34 h c s₁ s₂ v : FVec Ideal S512x128 .f32) (ix2 r l) := by
  pointwise [k0_pay36]

theorem km2 (h : FVec Ideal S512x1024 .bf16) (c s₁ s₂ : FVec Ideal S512x128 .f32) (a : FVec Ideal S512x256 .f32) (g : FVec Ideal S1x256 .f32) (b : FVec Ideal S512x1 .f32) (z : Ideal .f32) (w : FVec Ideal S256x1024 .bf16) (v : FVec Ideal S1024x128 .bf16) (r : Fin 512) (l : Fin 128) :
    (k0_pay37 h c s₁ s₂ a g b z w v : FVec Ideal S512x128 .bf16) (ix2 r l)
      = (k0_pay33 a g b z w : FVec Ideal S512x1024 .f32) (ix2 r (⟨256 + l.val, by omega⟩ : Fin 1024)) + (k0_pay34 h c s₁ s₂ v : FVec Ideal S512x128 .f32) (ix2 r l) := by
  pointwise [k0_pay37]

theorem km3 (h : FVec Ideal S512x1024 .bf16) (c s₁ s₂ : FVec Ideal S512x128 .f32) (a : FVec Ideal S512x256 .f32) (g : FVec Ideal S1x256 .f32) (b : FVec Ideal S512x1 .f32) (z : Ideal .f32) (w : FVec Ideal S256x1024 .bf16) (v : FVec Ideal S1024x128 .bf16) (r : Fin 512) (l : Fin 128) :
    (k0_pay38 h c s₁ s₂ a g b z w v : FVec Ideal S512x128 .bf16) (ix2 r l)
      = (k0_pay33 a g b z w : FVec Ideal S512x1024 .f32) (ix2 r (⟨384 + l.val, by omega⟩ : Fin 1024)) + (k0_pay34 h c s₁ s₂ v : FVec Ideal S512x128 .f32) (ix2 r l) := by
  pointwise [k0_pay38]

theorem km4 (n : FVec Ideal S512x1024 .f32) (k : FVec Ideal S512x128 .f32) (r : Fin 512) (l : Fin 128) :
    (k0_pay39 n k : FVec Ideal S512x128 .bf16) (ix2 r l)
      = (n : FVec Ideal S512x1024 .f32) (ix2 r (⟨512 + l.val, by omega⟩ : Fin 1024)) + (k : FVec Ideal S512x128 .f32) (ix2 r l) := by
  pointwise [k0_pay39]

theorem km5 (n : FVec Ideal S512x1024 .f32) (k : FVec Ideal S512x128 .f32) (r : Fin 512) (l : Fin 128) :
    (k0_pay40 n k : FVec Ideal S512x128 .bf16) (ix2 r l)
      = (n : FVec Ideal S512x1024 .f32) (ix2 r (⟨640 + l.val, by omega⟩ : Fin 1024)) + (k : FVec Ideal S512x128 .f32) (ix2 r l) := by
  pointwise [k0_pay40]

theorem km6 (n : FVec Ideal S512x1024 .f32) (k : FVec Ideal S512x128 .f32) (r : Fin 512) (l : Fin 128) :
    (k0_pay41 n k : FVec Ideal S512x128 .bf16) (ix2 r l)
      = (n : FVec Ideal S512x1024 .f32) (ix2 r (⟨768 + l.val, by omega⟩ : Fin 1024)) + (k : FVec Ideal S512x128 .f32) (ix2 r l) := by
  pointwise [k0_pay41]

theorem km7 (n : FVec Ideal S512x1024 .f32) (k : FVec Ideal S512x128 .f32) (r : Fin 512) (l : Fin 128) :
    (k0_pay42 n k : FVec Ideal S512x128 .bf16) (ix2 r l)
      = (n : FVec Ideal S512x1024 .f32) (ix2 r (⟨896 + l.val, by omega⟩ : Fin 1024)) + (k : FVec Ideal S512x128 .f32) (ix2 r l) := by
  pointwise [k0_pay42]

/-! ## The block-sparse attention's keys: turned round, and their means -/

theorem kt0 (c s₁ s₂ : FVec Ideal S512x128 .f32) (q : FVec Ideal S512x512 .f32) (l : Fin 128) (r : Fin 512) :
    (k0_pay51 c s₁ s₂ q : FVec Ideal S1x128x512 .bf16) (ix3 (0 : Fin 1) l r) = (k0_pay50 c s₁ s₂ q : FVec Ideal S512x128 .f32) (ix2 r l) := by
  pointwise [k0_pay51]

theorem kt1 (c s₁ s₂ : FVec Ideal S512x128 .f32) (q : FVec Ideal S512x512 .f32) (l : Fin 128) (r : Fin 512) :
    (k0_pay59 c s₁ s₂ q : FVec Ideal S1x128x512 .bf16) (ix3 (0 : Fin 1) l r) = (k0_pay58 c s₁ s₂ q : FVec Ideal S512x128 .f32) (ix2 r l) := by
  pointwise [k0_pay59]

theorem kt2 (c s₁ s₂ : FVec Ideal S512x128 .f32) (q : FVec Ideal S512x512 .f32) (l : Fin 128) (r : Fin 512) :
    (k0_pay64 c s₁ s₂ q : FVec Ideal S1x128x512 .bf16) (ix3 (0 : Fin 1) l r) = (k0_pay63 c s₁ s₂ q : FVec Ideal S512x128 .f32) (ix2 r l) := by
  pointwise [k0_pay64]

theorem kt3 (c s₁ s₂ : FVec Ideal S512x128 .f32) (q : FVec Ideal S512x512 .f32) (l : Fin 128) (r : Fin 512) :
    (k0_pay70 c s₁ s₂ q : FVec Ideal S1x128x512 .bf16) (ix3 (0 : Fin 1) l r) = (k0_pay69 c s₁ s₂ q : FVec Ideal S512x128 .f32) (ix2 r l) := by
  pointwise [k0_pay70]

theorem mean00 (c s₁ s₂ : FVec Ideal S512x128 .f32) (q : FVec Ideal S512x512 .f32) (l : Fin 128) :
    (k0_pay52 c s₁ s₂ q : FVec Ideal S1x1x128 .f32) (ix3 (0 : Fin 1) (0 : Fin 1) l)
      = Ideal.div (∑ i : Fin 256, (k0_pay50 c s₁ s₂ q : FVec Ideal S512x128 .f32) (ix2 (⟨i.val, by omega⟩ : Fin 512) l)) (Ideal.ofBits FTy.f32 0x43800000#32) := by
  pointwise [k0_pay52]

theorem mean01 (c s₁ s₂ : FVec Ideal S512x128 .f32) (q : FVec Ideal S512x512 .f32) (l : Fin 128) :
    (k0_pay53 c s₁ s₂ q : FVec Ideal S1x1x128 .f32) (ix3 (0 : Fin 1) (0 : Fin 1) l)
      = Ideal.div (∑ i : Fin 256, (k0_pay50 c s₁ s₂ q : FVec Ideal S512x128 .f32) (ix2 (⟨256 + i.val, by omega⟩ : Fin 512) l)) (Ideal.ofBits FTy.f32 0x43800000#32) := by
  pointwise [k0_pay53]

theorem mean10 (c s₁ s₂ : FVec Ideal S512x128 .f32) (q : FVec Ideal S512x512 .f32) (l : Fin 128) :
    (k0_pay60 c s₁ s₂ q : FVec Ideal S1x1x128 .f32) (ix3 (0 : Fin 1) (0 : Fin 1) l)
      = Ideal.div (∑ i : Fin 256, (k0_pay58 c s₁ s₂ q : FVec Ideal S512x128 .f32) (ix2 (⟨i.val, by omega⟩ : Fin 512) l)) (Ideal.ofBits FTy.f32 0x43800000#32) := by
  pointwise [k0_pay60]

theorem mean11 (c s₁ s₂ : FVec Ideal S512x128 .f32) (q : FVec Ideal S512x512 .f32) (l : Fin 128) :
    (k0_pay61 c s₁ s₂ q : FVec Ideal S1x1x128 .f32) (ix3 (0 : Fin 1) (0 : Fin 1) l)
      = Ideal.div (∑ i : Fin 256, (k0_pay58 c s₁ s₂ q : FVec Ideal S512x128 .f32) (ix2 (⟨256 + i.val, by omega⟩ : Fin 512) l)) (Ideal.ofBits FTy.f32 0x43800000#32) := by
  pointwise [k0_pay61]

theorem mean20 (c s₁ s₂ : FVec Ideal S512x128 .f32) (q : FVec Ideal S512x512 .f32) (l : Fin 128) :
    (k0_pay65 c s₁ s₂ q : FVec Ideal S1x1x128 .f32) (ix3 (0 : Fin 1) (0 : Fin 1) l)
      = Ideal.div (∑ i : Fin 256, (k0_pay63 c s₁ s₂ q : FVec Ideal S512x128 .f32) (ix2 (⟨i.val, by omega⟩ : Fin 512) l)) (Ideal.ofBits FTy.f32 0x43800000#32) := by
  pointwise [k0_pay65]

theorem mean21 (c s₁ s₂ : FVec Ideal S512x128 .f32) (q : FVec Ideal S512x512 .f32) (l : Fin 128) :
    (k0_pay67 (k0_pay66 c s₁ s₂ q) : FVec Ideal S1x1x128 .f32) (ix3 (0 : Fin 1) (0 : Fin 1) l)
      = Ideal.div (∑ i : Fin 256, (k0_pay63 c s₁ s₂ q : FVec Ideal S512x128 .f32) (ix2 (⟨256 + i.val, by omega⟩ : Fin 512) l)) (Ideal.ofBits FTy.f32 0x43800000#32) := by
  pointwise [k0_pay67, k0_pay66]

theorem mean30 (c s₁ s₂ : FVec Ideal S512x128 .f32) (q : FVec Ideal S512x512 .f32) (l : Fin 128) :
    (k0_pay71 c s₁ s₂ q : FVec Ideal S1x1x128 .f32) (ix3 (0 : Fin 1) (0 : Fin 1) l)
      = Ideal.div (∑ i : Fin 256, (k0_pay69 c s₁ s₂ q : FVec Ideal S512x128 .f32) (ix2 (⟨i.val, by omega⟩ : Fin 512) l)) (Ideal.ofBits FTy.f32 0x43800000#32) := by
  pointwise [k0_pay71]

theorem mean31 (c s₁ s₂ : FVec Ideal S512x128 .f32) (q : FVec Ideal S512x512 .f32) (l : Fin 128) :
    (k0_pay1 (k0_pay72 c s₁ s₂ q) : FVec Ideal S1x1x128 .f32) (ix3 (0 : Fin 1) (0 : Fin 1) l)
      = Ideal.div (∑ i : Fin 256, (k0_pay69 c s₁ s₂ q : FVec Ideal S512x128 .f32) (ix2 (⟨256 + i.val, by omega⟩ : Fin 512) l)) (Ideal.ofBits FTy.f32 0x43800000#32) := by
  pointwise [k0_pay1, k0_pay72]

end Cert.Proj.Body

end
-- ==== Proof.ProjTile.lean ====
/- The body's blocks in terms of the call's arguments, given what its input blocks hold. -/
module

public import proofs.«01_k».proof.Proof.ProjRun
public import proofs.«01_k».proof.Proof.ProjPack
public import proofs.«01_k».proof.Proof.ProjSpec
public import proofs.«01_k».proof.Proof.ProjBody
public import Idealize.ShloMosaic.Lib.Pipeline.ValueKit
public import Idealize.ShloMosaic.Lib.Pointwise

@[expose] public section

set_option maxRecDepth 16384

noncomputable section

namespace Cert.Proj

open Idealize.ShloMosaic Idealize.ShloMosaic.TcCoe Idealize.SL.Sem
open Cert.Kernel2Ideal Cert.Kernel2Ideal.Gen Cert.Kernel2Ideal.Run Cert.Proj.Pack Cert.Proj.Body

/-- What the fourteen input blocks of a grid step hold: row `r` is token `R r`. -/
structure Reads (A : Args) (R : Fin 512 → Fin 65536) (x0 : Vec Ideal S512x1024 .f32) (x1 : Vec Ideal S1x1024 .f32) (x2 : Vec Ideal S1024x4736 .bf16)
    (x3 : Vec Ideal S1x768 .f32) (x4 : Vec Ideal S768x1024 .bf16) (x5 : Vec Ideal S1x256 .f32) (x6 : Vec Ideal S256x1024 .bf16) (x7 : Vec Ideal S256x512 .bf16)
    (x8 x9 x10 x11 x12 x13 : Vec Ideal S512x128 .f32) : Prop where
  x : ∀ (r : Fin 512) (k : Fin 1024), (show FVec Ideal S512x1024 .f32 from x0) (ix2 r k) = A.tok (R r) k
  g : ∀ k : Fin 1024, (show FVec Ideal S1x1024 .f32 from x1) (ix2 (0 : Fin 1) k) = A.g k
  w : ∀ (k : Fin 1024) (y : Fin 4736), (show FVec Ideal S1024x4736 .bf16 from x2) (ix2 k y) = packIn A.W (ix2 k y)
  gq : ∀ k : Fin 768, (show FVec Ideal S1x768 .f32 from x3) (ix2 (0 : Fin 1) k) = A.gq k
  uq : ∀ (k : Fin 768) (y : Fin 1024), (show FVec Ideal S768x1024 .bf16 from x4) (ix2 k y) = packUq A.Uq (ix2 k y)
  gk : ∀ k : Fin 256, (show FVec Ideal S1x256 .f32 from x5) (ix2 (0 : Fin 1) k) = A.gk k
  uk : ∀ (k : Fin 256) (y : Fin 1024), (show FVec Ideal S256x1024 .bf16 from x6) (ix2 k y) = packUk A.Uk (ix2 k y)
  uv : ∀ (k : Fin 256) (y : Fin 512), (show FVec Ideal S256x512 .bf16 from x7) (ix2 k y) = packUv A.Uk (ix2 k y)
  m0 : ∀ (r : Fin 512) (l : Fin 128), (show FVec Ideal S512x128 .f32 from x8) (ix2 r l) = tabM0 cosM (ix2 (⟨(R r).val % 8192, by omega⟩ : Fin 8192) l)
  m1 : ∀ (r : Fin 512) (l : Fin 128), (show FVec Ideal S512x128 .f32 from x9) (ix2 r l) = tabM1 sinM (ix2 (⟨(R r).val % 8192, by omega⟩ : Fin 8192) l)
  m2 : ∀ (r : Fin 512) (l : Fin 128), (show FVec Ideal S512x128 .f32 from x10) (ix2 r l) = tabM2 sinM (ix2 (⟨(R r).val % 8192, by omega⟩ : Fin 8192) l)
  b0 : ∀ (r : Fin 512) (l : Fin 128), (show FVec Ideal S512x128 .f32 from x11) (ix2 r l) = tabB0 cosB (ix2 (⟨(R r).val % 8192, by omega⟩ : Fin 8192) l)
  b1 : ∀ (r : Fin 512) (l : Fin 128), (show FVec Ideal S512x128 .f32 from x12) (ix2 r l) = tabB1 sinB (ix2 (⟨(R r).val % 8192, by omega⟩ : Fin 8192) l)
  b2 : ∀ (r : Fin 512) (l : Fin 128), (show FVec Ideal S512x128 .f32 from x13) (ix2 r l) = tabB2 sinB (ix2 (⟨(R r).val % 8192, by omega⟩ : Fin 8192) l)

namespace Reads

variable {A : Args} {R : Fin 512 → Fin 65536} {x0 : Vec Ideal S512x1024 .f32} {x1 : Vec Ideal S1x1024 .f32} {x2 : Vec Ideal S1024x4736 .bf16}
    {x3 : Vec Ideal S1x768 .f32} {x4 : Vec Ideal S768x1024 .bf16} {x5 : Vec Ideal S1x256 .f32} {x6 : Vec Ideal S256x1024 .bf16} {x7 : Vec Ideal S256x512 .bf16}
    {x8 x9 x10 x11 x12 x13 : Vec Ideal S512x128 .f32} (h : Reads A R x0 x1 x2 x3 x4 x5 x6 x7 x8 x9 x10 x11 x12 x13)
include h

/-! ## The loads -/

theorem x_ld (r : Fin 512) (k : Fin 1024) : (View.ld x0 r0_0 : FVec Ideal S512x1024 .f32) (ix2 r k) = A.tok (R r) k :=
  (congrArg x0 (by idx_ext)).trans (h.x r k)

theorem g_ld (k : Fin 1024) : (View.ld x1 r0_1 : FVec Ideal S1x1024 .f32) (ix2 (0 : Fin 1) k) = A.g k :=
  (congrArg x1 (by idx_ext)).trans (h.g k)

theorem gq_ld (k : Fin 768) : (View.ld x3 r0_4 : FVec Ideal S1x768 .f32) (ix2 (0 : Fin 1) k) = A.gq k :=
  (congrArg x3 (by idx_ext)).trans (h.gq k)

theorem gk_ld (k : Fin 256) : (View.ld x5 r0_15 : FVec Ideal S1x256 .f32) (ix2 (0 : Fin 1) k) = A.gk k :=
  (congrArg x5 (by idx_ext)).trans (h.gk k)

theorem w0_ld (k : Fin 1024) (y : Fin 768) : (View.ld x2 r0_3 : FVec Ideal S1024x768 .bf16) (ix2 k y) = A.w k (0 + y.val) := by
  refine (congrArg x2 (by idx_ext) : _ = x2 (ix2 k (⟨0 + y.val, by omega⟩ : Fin 4736))).trans ((h.w k _).trans ?_)
  rw [packIn_apply]
  simp only [if_pos (show 0 + y.val < 1024 by omega)]
  rfl

theorem w768_ld (k : Fin 1024) (y : Fin 256) : (View.ld x2 r0_14 : FVec Ideal S1024x256 .bf16) (ix2 k y) = A.w k (768 + y.val) := by
  refine (congrArg x2 (by idx_ext) : _ = x2 (ix2 k (⟨768 + y.val, by omega⟩ : Fin 4736))).trans ((h.w k _).trans ?_)
  rw [packIn_apply]
  simp only [if_pos (show 768 + y.val < 1024 by omega)]
  rfl

theorem w1152_ld (k : Fin 1024) (y : Fin 512) : (View.ld x2 r0_20 : FVec Ideal S1024x512 .bf16) (ix2 k y) = A.w k (1056 + y.val) := by
  refine (congrArg x2 (by idx_ext) : _ = x2 (ix2 k (⟨1152 + y.val, by omega⟩ : Fin 4736))).trans ((h.w k _).trans ?_)
  rw [packIn_apply]
  simp only [if_neg (show ¬ 1152 + y.val < 1024 by omega), if_neg (show ¬ 1152 + y.val < 1088 by omega), if_neg (show ¬ 1152 + y.val < 1120 by omega), if_neg (show ¬ 1152 + y.val < 1152 by omega), show 1152 + y.val - 96 = 1056 + y.val by omega]
  rfl

theorem w1664_ld (k : Fin 1024) (y : Fin 512) : (View.ld x2 r0_21 : FVec Ideal S1024x512 .bf16) (ix2 k y) = A.w k (1568 + y.val) := by
  refine (congrArg x2 (by idx_ext) : _ = x2 (ix2 k (⟨1664 + y.val, by omega⟩ : Fin 4736))).trans ((h.w k _).trans ?_)
  rw [packIn_apply]
  simp only [if_neg (show ¬ 1664 + y.val < 1024 by omega), if_neg (show ¬ 1664 + y.val < 1088 by omega), if_neg (show ¬ 1664 + y.val < 1120 by omega), if_neg (show ¬ 1664 + y.val < 1152 by omega), show 1664 + y.val - 96 = 1568 + y.val by omega]
  rfl

theorem w2176_ld (k : Fin 1024) (y : Fin 512) : (View.ld x2 r0_38 : FVec Ideal S1024x512 .bf16) (ix2 k y) = A.w k (2080 + y.val) := by
  refine (congrArg x2 (by idx_ext) : _ = x2 (ix2 k (⟨2176 + y.val, by omega⟩ : Fin 4736))).trans ((h.w k _).trans ?_)
  rw [packIn_apply]
  simp only [if_neg (show ¬ 2176 + y.val < 1024 by omega), if_neg (show ¬ 2176 + y.val < 1088 by omega), if_neg (show ¬ 2176 + y.val < 1120 by omega), if_neg (show ¬ 2176 + y.val < 1152 by omega), show 2176 + y.val - 96 = 2080 + y.val by omega]
  rfl

theorem w2688_ld (k : Fin 1024) (y : Fin 1024) : (View.ld x2 r0_39 : FVec Ideal S1024x1024 .bf16) (ix2 k y) = A.w k (2592 + y.val) := by
  refine (congrArg x2 (by idx_ext) : _ = x2 (ix2 k (⟨2688 + y.val, by omega⟩ : Fin 4736))).trans ((h.w k _).trans ?_)
  rw [packIn_apply]
  simp only [if_neg (show ¬ 2688 + y.val < 1024 by omega), if_neg (show ¬ 2688 + y.val < 1088 by omega), if_neg (show ¬ 2688 + y.val < 1120 by omega), if_neg (show ¬ 2688 + y.val < 1152 by omega), show 2688 + y.val - 96 = 2592 + y.val by omega]
  rfl

theorem w3712_ld (k : Fin 1024) (y : Fin 1024) : (View.ld x2 r0_40 : FVec Ideal S1024x1024 .bf16) (ix2 k y) = A.w k (3616 + y.val) := by
  refine (congrArg x2 (by idx_ext) : _ = x2 (ix2 k (⟨3712 + y.val, by omega⟩ : Fin 4736))).trans ((h.w k _).trans ?_)
  rw [packIn_apply]
  simp only [if_neg (show ¬ 3712 + y.val < 1024 by omega), if_neg (show ¬ 3712 + y.val < 1088 by omega), if_neg (show ¬ 3712 + y.val < 1120 by omega), if_neg (show ¬ 3712 + y.val < 1152 by omega), show 3712 + y.val - 96 = 3616 + y.val by omega]
  rfl

theorem w1024_ld (k : Fin 1024) (y : Fin 128) : (View.ld x2 r0_17 : FVec Ideal S1024x128 .bf16) (ix2 k y)
    = if y.val < 64 then 0 else if y.val < 96 then A.w k (1024 + (y.val - 64)) else 0 := by
  refine (congrArg x2 (by idx_ext) : _ = x2 (ix2 k (⟨1024 + y.val, by omega⟩ : Fin 4736))).trans ((h.w k _).trans ?_)
  rw [packIn_apply]
  rcases lt_or_ge y.val 64 with e | e
  · simp only [if_neg (show ¬ 1024 + y.val < 1024 by omega), if_pos (show 1024 + y.val < 1088 by omega), if_pos e]
  rcases lt_or_ge y.val 96 with e' | e'
  · simp only [if_neg (show ¬ 1024 + y.val < 1024 by omega), if_neg (show ¬ 1024 + y.val < 1088 by omega), if_pos (show 1024 + y.val < 1120 by omega), if_neg (not_lt.mpr e), if_pos e', show 1024 + y.val - 64 = 1024 + (y.val - 64) by omega]
    rfl
  · simp only [if_neg (show ¬ 1024 + y.val < 1024 by omega), if_neg (show ¬ 1024 + y.val < 1088 by omega), if_neg (show ¬ 1024 + y.val < 1120 by omega), if_pos (show 1024 + y.val < 1152 by omega), if_neg (not_lt.mpr e), if_neg (not_lt.mpr e')]

theorem uq_ld (k : Fin 768) (y : Fin 1024) : (View.ld x4 r0_5 : FVec Ideal S768x1024 .bf16) (ix2 k y) = if y.val % 128 < 96 then A.uq k (y.val / 128 * 96 + y.val % 128) else 0 :=
  (congrArg x4 (by idx_ext) : _ = x4 (ix2 k y)).trans ((h.uq k y).trans (packUq_apply A.Uq k y))

theorem uk_ld (k : Fin 256) (y : Fin 1024) : (View.ld x6 r0_16 : FVec Ideal S256x1024 .bf16) (ix2 k y) = if y.val % 128 < 64 then A.uk k (y.val / 128 * 128 + y.val % 128) else 0 :=
  (congrArg x6 (by idx_ext) : _ = x6 (ix2 k y)).trans ((h.uk k y).trans (packUk_apply A.Uk k y))

theorem uv_ld (k : Fin 256) (y : Fin 512) : (View.ld x7 r0_18 : FVec Ideal S256x512 .bf16) (ix2 k y) = A.uk k (y.val / 64 * 128 + 64 + y.val % 64) :=
  (congrArg x7 (by idx_ext) : _ = x7 (ix2 k y)).trans ((h.uv k y).trans (packUv_apply A.Uk k y))

theorem m0_ld (r : Fin 512) (l : Fin 128) : (k0_pay74 x0 x1 x2 x3 x4 x5 x6 x7 x8 x9 x10 x11 x12 x13 : FVec Ideal S512x128 .f32) (ix2 r l) = tabM0 cosM (ix2 (⟨(R r).val % 8192, by omega⟩ : Fin 8192) l) := by
  have e : (k0_pay6 (View.ld x8 r0_2) : FVec Ideal S512x128 .f32) (ix2 r l) = (View.ld x8 r0_2 : FVec Ideal S512x128 .f32) (ix2 r l) := by
    pointwise [k0_pay6]
  exact e.trans ((congrArg x8 (by idx_ext) : _ = x8 (ix2 r l)).trans (h.m0 r l))

theorem m1_ld (r : Fin 512) (l : Fin 128) : (k0_pay75 x0 x1 x2 x3 x4 x5 x6 x7 x8 x9 x10 x11 x12 x13 : FVec Ideal S512x128 .f32) (ix2 r l) = tabM1 sinM (ix2 (⟨(R r).val % 8192, by omega⟩ : Fin 8192) l) := by
  have e : (k0_pay7 (View.ld x9 r0_2) : FVec Ideal S512x128 .f32) (ix2 r l) = (View.ld x9 r0_2 : FVec Ideal S512x128 .f32) (ix2 r l) := by
    pointwise [k0_pay7]
  exact e.trans ((congrArg x9 (by idx_ext) : _ = x9 (ix2 r l)).trans (h.m1 r l))

theorem m2_ld (r : Fin 512) (l : Fin 128) : (k0_pay76 x0 x1 x2 x3 x4 x5 x6 x7 x8 x9 x10 x11 x12 x13 : FVec Ideal S512x128 .f32) (ix2 r l) = tabM2 sinM (ix2 (⟨(R r).val % 8192, by omega⟩ : Fin 8192) l) := by
  have e : (k0_pay8 (View.ld x10 r0_2) : FVec Ideal S512x128 .f32) (ix2 r l) = (View.ld x10 r0_2 : FVec Ideal S512x128 .f32) (ix2 r l) := by
    pointwise [k0_pay8]
  exact e.trans ((congrArg x10 (by idx_ext) : _ = x10 (ix2 r l)).trans (h.m2 r l))

theorem b0_ld (r : Fin 512) (l : Fin 128) : (k0_pay77 x0 x1 x2 x3 x4 x5 x6 x7 x8 x9 x10 x11 x12 x13 : FVec Ideal S512x128 .f32) (ix2 r l) = tabB0 cosB (ix2 (⟨(R r).val % 8192, by omega⟩ : Fin 8192) l) := by
  have e : (k0_pay9 (View.ld x11 r0_2) : FVec Ideal S512x128 .f32) (ix2 r l) = (View.ld x11 r0_2 : FVec Ideal S512x128 .f32) (ix2 r l) := by
    pointwise [k0_pay9]
  exact e.trans ((congrArg x11 (by idx_ext) : _ = x11 (ix2 r l)).trans (h.b0 r l))

theorem b1_ld (r : Fin 512) (l : Fin 128) : (k0_pay78 x0 x1 x2 x3 x4 x5 x6 x7 x8 x9 x10 x11 x12 x13 : FVec Ideal S512x128 .f32) (ix2 r l) = tabB1 sinB (ix2 (⟨(R r).val % 8192, by omega⟩ : Fin 8192) l) := by
  have e : (k0_pay10 (View.ld x12 r0_2) : FVec Ideal S512x128 .f32) (ix2 r l) = (View.ld x12 r0_2 : FVec Ideal S512x128 .f32) (ix2 r l) := by
    pointwise [k0_pay10]
  exact e.trans ((congrArg x12 (by idx_ext) : _ = x12 (ix2 r l)).trans (h.b1 r l))

theorem b2_ld (r : Fin 512) (l : Fin 128) : (k0_pay79 x0 x1 x2 x3 x4 x5 x6 x7 x8 x9 x10 x11 x12 x13 : FVec Ideal S512x128 .f32) (ix2 r l) = tabB2 sinB (ix2 (⟨(R r).val % 8192, by omega⟩ : Fin 8192) l) := by
  have e : (k0_pay11 (View.ld x13 r0_2) : FVec Ideal S512x128 .f32) (ix2 r l) = (View.ld x13 r0_2 : FVec Ideal S512x128 .f32) (ix2 r l) := by
    pointwise [k0_pay11]
  exact e.trans ((congrArg x13 (by idx_ext) : _ = x13 (ix2 r l)).trans (h.b2 r l))

/-! ## The products -/

theorem tok_normed (r : Fin 512) (k : Fin 1024) :
    (k0_pay73 x0 x1 x2 x3 x4 x5 x6 x7 x8 x9 x10 x11 x12 x13 : FVec Ideal S512x1024 .bf16) (ix2 r k) = rms 0x44800000#32 (A.tok (R r)) A.g k := by
  refine (normed _ _ r k).trans ?_
  rw [show (fun j => (View.ld x0 r0_0 : FVec Ideal S512x1024 .f32) (ix2 r j)) = A.tok (R r) from funext (h.x_ld r),
    show (fun j => (View.ld x1 r0_1 : FVec Ideal S1x1024 .f32) (ix2 (0 : Fin 1) j)) = A.g from funext h.g_ld]

/-- A product with columns of the joint weights. -/
theorem dots_eq {d : ℕ} (v : FVec Ideal (⟨2, ![1024, d]⟩ : Shape) .bf16) (r : Fin 512) (y : Fin d) (n : ℕ) (e : ∀ k : Fin 1024, v (ix2 k y) = A.w k n) :
    ∑ k : Fin 1024, (k0_pay73 x0 x1 x2 x3 x4 x5 x6 x7 x8 x9 x10 x11 x12 x13 : FVec Ideal S512x1024 .bf16) (ix2 r k) * v (ix2 k y) = A.seg (R r) n :=
  Finset.sum_congr rfl fun k _ => congrArg₂ (· * ·) (h.tok_normed r k) (e k)

theorem p84 (r : Fin 512) (y : Fin 256) : (k0_pay84 x0 x1 x2 x3 x4 x5 x6 x7 x8 x9 x10 x11 x12 x13 : FVec Ideal S512x256 .f32) (ix2 r y) = A.seg (R r) (768 + y.val) :=
  (pay29_apply _ _ r y).trans (h.dots_eq _ r y _ fun k => h.w768_ld k y)

theorem p89 (r : Fin 512) (y : Fin 512) : (k0_pay89 x0 x1 x2 x3 x4 x5 x6 x7 x8 x9 x10 x11 x12 x13 : FVec Ideal S512x512 .f32) (ix2 r y) = A.seg (R r) (1056 + y.val) :=
  (pay44_apply _ _ r y).trans (h.dots_eq _ r y _ fun k => h.w1152_ld k y)

theorem p90 (r : Fin 512) (y : Fin 512) : (k0_pay90 x0 x1 x2 x3 x4 x5 x6 x7 x8 x9 x10 x11 x12 x13 : FVec Ideal S512x512 .f32) (ix2 r y) = A.seg (R r) (1568 + y.val) :=
  (pay45_apply _ _ r y).trans (h.dots_eq _ r y _ fun k => h.w1664_ld k y)

theorem vb (r : Fin 512) (y : Fin 512) : (k0_pay2 (k0_pay73 x0 x1 x2 x3 x4 x5 x6 x7 x8 x9 x10 x11 x12 x13) (View.ld x2 r0_38) : FVec Ideal S512x512 .bf16) (ix2 r y) = A.seg (R r) (2080 + y.val) :=
  (pay2_apply _ _ r y).trans (h.dots_eq _ r y _ fun k => h.w2176_ld k y)

theorem ga (r : Fin 512) (y : Fin 1024) : (k0_pay3 (k0_pay73 x0 x1 x2 x3 x4 x5 x6 x7 x8 x9 x10 x11 x12 x13) (View.ld x2 r0_39) : FVec Ideal S512x1024 .bf16) (ix2 r y) = A.seg (R r) (2592 + y.val) :=
  (pay3_apply _ _ r y).trans (h.dots_eq _ r y _ fun k => h.w2688_ld k y)

theorem gb (r : Fin 512) (y : Fin 1024) : (k0_pay4 (k0_pay73 x0 x1 x2 x3 x4 x5 x6 x7 x8 x9 x10 x11 x12 x13) (View.ld x2 r0_40) : FVec Ideal S512x1024 .bf16) (ix2 r y) = A.seg (R r) (3616 + y.val) :=
  (pay4_apply _ _ r y).trans (h.dots_eq _ r y _ fun k => h.w3712_ld k y)

theorem p80 (r : Fin 512) (y : Fin 768) : (k0_pay80 x0 x1 x2 x3 x4 x5 x6 x7 x8 x9 x10 x11 x12 x13 : FVec Ideal S512x768 .f32) (ix2 r y) = A.seg (R r) y.val := by
  refine (pay12_apply _ _ _ r y).trans ((h.dots_eq _ r y _ fun k => h.w0_ld k y).trans ?_)
  rw [Nat.zero_add]

theorem p81 (k : Fin 768) : (k0_pay81 x0 x1 x2 x3 x4 x5 x6 x7 x8 x9 x10 x11 x12 x13 : FVec Ideal S1x768 .f32) (ix2 (0 : Fin 1) k) = A.gq k := by
  have e : (k0_pay13 (View.ld x3 r0_4) : FVec Ideal S1x768 .f32) (ix2 (0 : Fin 1) k) = (View.ld x3 r0_4 : FVec Ideal S1x768 .f32) (ix2 (0 : Fin 1) k) := by
    pointwise [k0_pay13]
  exact e.trans (h.gq_ld k)

/-- The queries, their heads padded to 128 lanes. -/
theorem p83 (r : Fin 512) (y : Fin 1024) : (k0_pay83 x0 x1 x2 x3 x4 x5 x6 x7 x8 x9 x10 x11 x12 x13 : FVec Ideal S512x1024 .f32) (ix2 r y)
    = if y.val % 128 < 96 then A.query (R r) (y.val / 128 * 96 + y.val % 128) else 0 := by
  refine (pay15_apply (k0_pay80 x0 x1 x2 x3 x4 x5 x6 x7 x8 x9 x10 x11 x12 x13) (k0_pay81 x0 x1 x2 x3 x4 x5 x6 x7 x8 x9 x10 x11 x12 x13) (View.ld x4 r0_5) r y).trans ?_
  rw [show (fun j => (k0_pay80 x0 x1 x2 x3 x4 x5 x6 x7 x8 x9 x10 x11 x12 x13 : FVec Ideal S512x768 .f32) (ix2 r j)) = fun j => A.seg (R r) j.val from funext (h.p80 r),
    show (fun j => (k0_pay81 x0 x1 x2 x3 x4 x5 x6 x7 x8 x9 x10 x11 x12 x13 : FVec Ideal S1x768 .f32) (ix2 (0 : Fin 1) j)) = A.gq from funext h.p81]
  split
  next e => exact Finset.sum_congr rfl fun k _ => congrArg (_ * ·) ((h.uq_ld k y).trans (if_pos e))
  next e => exact Finset.sum_eq_zero fun k _ => (congrArg (_ * ·) ((h.uq_ld k y).trans (if_neg e))).trans (mul_zero _)

/-- The latent keys and values, normed. -/
theorem p32 (r : Fin 512) (y : Fin 256) :
    (k0_pay32 (k0_pay84 x0 x1 x2 x3 x4 x5 x6 x7 x8 x9 x10 x11 x12 x13) (k0_pay85 x0 x1 x2 x3 x4 x5 x6 x7 x8 x9 x10 x11 x12 x13) (k0_pay86 x0 x1 x2 x3 x4 x5 x6 x7 x8 x9 x10 x11 x12 x13) (Scalar.ofBits .f32 0x43800000#32) : FVec Ideal S512x256 .bf16) (ix2 r y)
      = rms 0x43800000#32 (fun j : Fin 256 => A.seg (R r) (768 + j.val)) A.gk y := by
  refine (pay32_apply (k0_pay73 x0 x1 x2 x3 x4 x5 x6 x7 x8 x9 x10 x11 x12 x13) (View.ld x2 r0_14) (View.ld x5 r0_15) r y).trans ?_
  rw [show (fun j => (k0_pay29 (k0_pay73 x0 x1 x2 x3 x4 x5 x6 x7 x8 x9 x10 x11 x12 x13) (View.ld x2 r0_14) : FVec Ideal S512x256 .f32) (ix2 r j)) = fun j => A.seg (R r) (768 + j.val) from funext (h.p84 r),
    show (fun j => (View.ld x5 r0_15 : FVec Ideal S1x256 .f32) (ix2 (0 : Fin 1) j)) = A.gk from funext h.gk_ld]

/-- The keys' own lanes, their heads padded to 128. -/
theorem p87 (r : Fin 512) (y : Fin 1024) : (k0_pay87 x0 x1 x2 x3 x4 x5 x6 x7 x8 x9 x10 x11 x12 x13 : FVec Ideal S512x1024 .f32) (ix2 r y)
    = if y.val % 128 < 64 then A.latent (R r) (y.val / 128 * 128 + y.val % 128) else 0 := by
  refine (pay33_apply (k0_pay84 x0 x1 x2 x3 x4 x5 x6 x7 x8 x9 x10 x11 x12 x13) (k0_pay85 x0 x1 x2 x3 x4 x5 x6 x7 x8 x9 x10 x11 x12 x13) (k0_pay86 x0 x1 x2 x3 x4 x5 x6 x7 x8 x9 x10 x11 x12 x13) (Scalar.ofBits .f32 0x43800000#32) (View.ld x6 r0_16) r y).trans ?_
  split
  next e => exact Finset.sum_congr rfl fun k _ => congrArg₂ (· * ·) (h.p32 r k) ((h.uk_ld k y).trans (if_pos e))
  next e => exact Finset.sum_eq_zero fun k _ => (congrArg (_ * ·) ((h.uk_ld k y).trans (if_neg e))).trans (mul_zero _)

/-- The latent attention's values. -/
theorem vm (r : Fin 512) (y : Fin 512) :
    (k0_pay43 (k0_pay32 (k0_pay84 x0 x1 x2 x3 x4 x5 x6 x7 x8 x9 x10 x11 x12 x13) (k0_pay85 x0 x1 x2 x3 x4 x5 x6 x7 x8 x9 x10 x11 x12 x13) (k0_pay86 x0 x1 x2 x3 x4 x5 x6 x7 x8 x9 x10 x11 x12 x13) (Scalar.ofBits .f32 0x43800000#32)) (View.ld x7 r0_18) : FVec Ideal S512x512 .bf16) (ix2 r y)
      = A.latent (R r) (y.val / 64 * 128 + 64 + y.val % 64) :=
  (pay43_apply _ _ r y).trans (Finset.sum_congr rfl fun k _ => congrArg₂ (· * ·) (h.p32 r k) (h.uv_ld k y))

/-! ## The rotated tiles -/

theorem tabs (r : Fin 512) :
    (∀ n < 128, num (fun y => (k0_pay74 x0 x1 x2 x3 x4 x5 x6 x7 x8 x9 x10 x11 x12 x13 : FVec Ideal S512x128 .f32) (ix2 r y)) n = if n < 64 then 1 else if n < 80 then at16 cosM (R r) (n - 64) else if n < 96 then at16 cosM (R r) (n - 80) else 1)
    ∧ (∀ n < 128, num (fun y => (k0_pay75 x0 x1 x2 x3 x4 x5 x6 x7 x8 x9 x10 x11 x12 x13 : FVec Ideal S512x128 .f32) (ix2 r y)) n = if n < 64 then 0 else if n < 80 then -at16 sinM (R r) (n - 64) else 0)
    ∧ (∀ n < 128, num (fun y => (k0_pay76 x0 x1 x2 x3 x4 x5 x6 x7 x8 x9 x10 x11 x12 x13 : FVec Ideal S512x128 .f32) (ix2 r y)) n = if n < 80 then 0 else if n < 96 then at16 sinM (R r) (n - 80) else 0) := by
  refine ⟨fun n hn => ?_, fun n hn => ?_, fun n hn => ?_⟩
  · exact (num_of _ n (⟨n, hn⟩ : Fin 128) rfl).trans ((h.m0_ld r _).trans (tabM0_apply _ _ _))
  · exact (num_of _ n (⟨n, hn⟩ : Fin 128) rfl).trans ((h.m1_ld r _).trans (tabM1_apply _ _ _))
  · exact (num_of _ n (⟨n, hn⟩ : Fin 128) rfl).trans ((h.m2_ld r _).trans (tabM2_apply _ _ _))

/-- The tile of head `e` of the queries. -/
theorem tile_q (e o : ℕ) (he : e < 8) (ho : o = 128 * e) (r : Fin 512) (l : Fin 128) :
    tile (fun r y => (k0_pay83 x0 x1 x2 x3 x4 x5 x6 x7 x8 x9 x10 x11 x12 x13 : FVec Ideal S512x1024 .f32) (ix2 r y)) (k0_pay74 x0 x1 x2 x3 x4 x5 x6 x7 x8 x9 x10 x11 x12 x13) (k0_pay75 x0 x1 x2 x3 x4 x5 x6 x7 x8 x9 x10 x11 x12 x13) (k0_pay76 x0 x1 x2 x3 x4 x5 x6 x7 x8 x9 x10 x11 x12 x13) o 16 112 r l
      = wide (fun n => A.query (R r) (e * 96 + n)) (at16 cosM (R r)) (at16 sinM (R r)) l.val := by
  have q (n : ℕ) (hn : n < 128) := (num_of (fun y => (k0_pay83 x0 x1 x2 x3 x4 x5 x6 x7 x8 x9 x10 x11 x12 x13 : FVec Ideal S512x1024 .f32) (ix2 r y)) (o + n) (⟨o + n, by omega⟩ : Fin 1024) rfl).trans (h.p83 r _)
  refine turn_wide _ _ _ _ _ _ _ l.val l.isLt (fun n hn => ?_) (fun n hn hn' => ?_) (h.tabs r).1 (h.tabs r).2.1 (h.tabs r).2.2
  · rw [q n (by omega)]
    simp only [show (o + n) % 128 = n by omega, show (o + n) / 128 = e by omega, if_pos hn]
  · rw [q n hn']
    simp only [show (o + n) % 128 = n by omega, if_neg (not_lt.mpr hn)]

/-- The rotated lanes all heads of the keys share. -/
theorem p88 (r : Fin 512) (l : Fin 128) : (k0_pay88 x0 x1 x2 x3 x4 x5 x6 x7 x8 x9 x10 x11 x12 x13 : FVec Ideal S512x128 .f32) (ix2 r l)
    = wide (fun n => if n < 64 then 0 else A.seg (R r) (1024 + (n - 64))) (at16 cosM (R r)) (at16 sinM (R r)) l.val := by
  refine (kr (k0_pay73 x0 x1 x2 x3 x4 x5 x6 x7 x8 x9 x10 x11 x12 x13) (k0_pay74 x0 x1 x2 x3 x4 x5 x6 x7 x8 x9 x10 x11 x12 x13) (k0_pay75 x0 x1 x2 x3 x4 x5 x6 x7 x8 x9 x10 x11 x12 x13) (k0_pay76 x0 x1 x2 x3 x4 x5 x6 x7 x8 x9 x10 x11 x12 x13) (View.ld x2 r0_17) r l).trans ?_
  have q (n : ℕ) (hn : n < 128) := num_of (fun y : Fin 128 => ∑ k : Fin 1024, (k0_pay73 x0 x1 x2 x3 x4 x5 x6 x7 x8 x9 x10 x11 x12 x13 : FVec Ideal S512x1024 .bf16) (ix2 r k) * (View.ld x2 r0_17 : FVec Ideal S1024x128 .bf16) (ix2 k y)) (0 + n) (⟨n, hn⟩ : Fin 128) (Nat.zero_add n).symm
  refine turn_wide _ _ _ _ _ _ _ l.val l.isLt (fun n hn => ?_) (fun n hn hn' => ?_) (h.tabs r).1 (h.tabs r).2.1 (h.tabs r).2.2
  · refine (q n (by omega)).trans ?_
    split
    next e => exact Finset.sum_eq_zero fun k _ => (congrArg (_ * ·) ((h.w1024_ld k _).trans (if_pos e))).trans (mul_zero _)
    next e => exact h.dots_eq _ r _ _ fun k => (h.w1024_ld k _).trans ((if_neg e).trans (if_pos hn))
  · refine (q n hn').trans (Finset.sum_eq_zero fun k _ => (congrArg (_ * ·) ((h.w1024_ld k _).trans ((if_neg (by simp only; omega)).trans (if_neg (by simp only; omega))))).trans (mul_zero _))

/-- Head `e` of the keys: its own lanes and the shared ones. -/
theorem head_k (e : ℕ) (he : e < 8) (r : Fin 512) (l : Fin 128) (y : Fin 1024) (hy : y.val = 128 * e + l.val) :
    (k0_pay87 x0 x1 x2 x3 x4 x5 x6 x7 x8 x9 x10 x11 x12 x13 : FVec Ideal S512x1024 .f32) (ix2 r y) + (k0_pay88 x0 x1 x2 x3 x4 x5 x6 x7 x8 x9 x10 x11 x12 x13 : FVec Ideal S512x128 .f32) (ix2 r l)
      = wide (fun n => if n < 64 then A.latent (R r) (e * 128 + n) else A.seg (R r) (1024 + (n - 64))) (at16 cosM (R r)) (at16 sinM (R r)) l.val := by
  rw [h.p87, h.p88]
  simp only [show y.val % 128 = l.val by omega, show y.val / 128 = e by omega]
  exact wide_add (fun n => A.latent (R r) (e * 128 + n)) (fun n => A.seg (R r) (1024 + (n - 64))) (at16 cosM (R r)) (at16 sinM (R r)) l.val

/-- The tables of the block-sparse attention's tiles: lane `l` of either head. -/
theorem tabsB (r : Fin 512) (o l : ℕ) (ho : o = 0 ∨ o = 64) (hl : l < 64) :
    num (fun y => (k0_pay77 x0 x1 x2 x3 x4 x5 x6 x7 x8 x9 x10 x11 x12 x13 : FVec Ideal S512x128 .f32) (ix2 r y)) (o + l) = (if l < 8 then at8 cosB (R r) l else if l < 16 then at8 cosB (R r) (l - 8) else 1)
    ∧ num (fun y => (k0_pay78 x0 x1 x2 x3 x4 x5 x6 x7 x8 x9 x10 x11 x12 x13 : FVec Ideal S512x128 .f32) (ix2 r y)) (o + l) = (if l < 8 then -at8 sinB (R r) l else 0)
    ∧ num (fun y => (k0_pay79 x0 x1 x2 x3 x4 x5 x6 x7 x8 x9 x10 x11 x12 x13 : FVec Ideal S512x128 .f32) (ix2 r y)) (o + l) = (if l < 8 then 0 else if l < 16 then at8 sinB (R r) (l - 8) else 0) := by
  have e : (o + l) % 64 = l := by omega
  refine ⟨?_, ?_, ?_⟩
  · refine (num_of _ (o + l) (⟨o + l, by omega⟩ : Fin 128) rfl).trans ((h.b0_ld r _).trans ((tabB0_apply _ _ _).trans ?_))
    simp only [e]; rfl
  · refine (num_of _ (o + l) (⟨o + l, by omega⟩ : Fin 128) rfl).trans ((h.b1_ld r _).trans ((tabB1_apply _ _ _).trans ?_))
    simp only [e]; rfl
  · refine (num_of _ (o + l) (⟨o + l, by omega⟩ : Fin 128) rfl).trans ((h.b2_ld r _).trans ((tabB2_apply _ _ _).trans ?_))
    simp only [e]; rfl

/-- A tile of two heads of the block-sparse attention's queries or keys. -/
theorem tile_b (q : FVec Ideal S512x512 .f32) (b o : ℕ) (ho : o + 128 ≤ 512) (ho' : o % 64 = 0) (r : Fin 512) (l : Fin 128) (hq : ∀ y : Fin 512, q (ix2 r y) = A.seg (R r) (b + y.val)) :
    tile (fun r y => q (ix2 r y)) (k0_pay77 x0 x1 x2 x3 x4 x5 x6 x7 x8 x9 x10 x11 x12 x13) (k0_pay78 x0 x1 x2 x3 x4 x5 x6 x7 x8 x9 x10 x11 x12 x13) (k0_pay79 x0 x1 x2 x3 x4 x5 x6 x7 x8 x9 x10 x11 x12 x13) o 8 120 r l
      = narrow (fun n => A.seg (R r) (b + (o + l.val) / 64 * 64 + n)) (at8 cosB (R r)) (at8 sinB (R r)) ((o + l.val) % 64) := by
  have hl := l.isLt
  have t := h.tabsB r (l.val / 64 * 64) (l.val % 64) (by omega) (by omega)
  have a := turn_narrow (fun n => num (fun y => q (ix2 r y)) (o + n)) _ _ _ _ _ (l.val / 64 * 64) (l.val % 64) (by omega) (by omega) t.1 t.2.1 t.2.2
  rw [show l.val / 64 * 64 + l.val % 64 = l.val by omega] at a
  refine Eq.trans a ?_
  rw [show (o + l.val) % 64 = l.val % 64 by omega]
  refine narrow_congr _ _ _ _ _ (by omega) fun n hn => ?_
  refine (num_of _ _ (⟨o + (l.val / 64 * 64 + n), by omega⟩ : Fin 512) rfl).trans ((hq _).trans (congrArg _ ?_))
  simp only; omega

end Reads

end Cert.Proj

end
-- ==== Proof.ProjReads.lean ====
/- What the blocks of the projections' call hold, together. -/
module

public import proofs.«01_k».proof.Proof.ProjEntry
public import proofs.«01_k».proof.Proof.ProjTile

@[expose] public section

set_option maxRecDepth 16384

noncomputable section

namespace Cert.Proj

open Idealize.ShloMosaic Idealize.ShloMosaic.TcCoe Idealize.SL.Sem
open Idealize.ShloMosaic.Pipeline (Dat)
open Cert.Kernel2Ideal Cert.Kernel2Ideal.Gen Cert.Kernel2Ideal.Run Cert.Proj.Pack Cert.Proj.Body

variable (m : (ℓ : Loc nD τ sig) → Buf (Elt Ideal) ℓ)

/-! Loads of whole blocks. -/

theorem ld4 (x : Vec Ideal S768x1024 .bf16) : (View.ld (e' := .bf16) x r0_5 : Vec Ideal S768x1024 .bf16) = x := by
  funext j
  idx_vars j
  exact congrArg x (by idx_ext)

theorem ld6 (x : Vec Ideal S256x1024 .bf16) : (View.ld (e' := .bf16) x r0_16 : Vec Ideal S256x1024 .bf16) = x := by
  funext j
  idx_vars j
  exact congrArg x (by idx_ext)

theorem ld7 (x : Vec Ideal S256x512 .bf16) : (View.ld (e' := .bf16) x r0_18 : Vec Ideal S256x512 .bf16) = x := by
  funext j
  idx_vars j
  exact congrArg x (by idx_ext)

theorem at512_val (t : Fin cfg0.N) (r : Fin 512) : (at512 t r).val = t.val * 512 + r.val := rfl

/-- What the input blocks of grid point `t` hold. -/
theorem reads (c : Dev nD) (t : Fin cfg0.N) : Reads (args m c) (at512 t) (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) (iblk m c 13 t) :=
  ⟨x_block m c t, g_block m c t, win_block m c t, gq_block m c t, uq_block m c t, gk_block m c t, uk_block m c t, uv_block m c t,
    m0_block m c t, m1_block m c t, m2_block m c t, b0_block m c t, b1_block m c t, b2_block m c t⟩

end Cert.Proj

end
-- ==== Proof.ProjQm.lean ====
/- The latent attention's queries, as the projections' call leaves them. -/
module

public import proofs.«01_k».proof.Proof.ProjReads

@[expose] public section

set_option maxRecDepth 16384

noncomputable section

namespace Cert.Proj

open Idealize.ShloMosaic Idealize.ShloMosaic.TcCoe Idealize.SL.Sem
open Idealize.ShloMosaic.Pipeline (Dat)
open Cert.Kernel2Ideal Cert.Kernel2Ideal.Gen Cert.Kernel2Ideal.Run Cert.Proj.Pack Cert.Proj.Body

variable (m : (ℓ : Loc nD τ sig) → Buf (Elt Ideal) ℓ)

theorem block14 (t : Fin cfg0.N) : win0_14.index t = ![t.val, 0] := by simp only [idx t]

set_option maxHeartbeats 1000000 in
/-- The latent attention's queries. -/
theorem qm_eq (c : Dev nD) : (dats m 0 c).arrAt 14 cfg0.N = qM (args m c) cosM sinM scaleMla := by
  refine (dats m 0 c).arrAt_eq_of_covers 14 _ (by decide +kernel) fun t hf y => ?_
  have ht := t.isLt
  have hN := points
  blk_simp
  rw [after0_14]
  unfold out0_14
  frame_out
  canon_tiles x h
  · idx_vars x
    refine ((q7 _ _ _ _ x0 x1).trans (congrArg (· * scaleMla) ((reads m c t).tile_q 7 896 (by omega) rfl x0 x1))).trans (qM_at _ _ _ _ _ (at512 t x0) 7 _ ?_ ?_ x1.isLt)
    all_goals (blk_simp [block14 t, at512_val] <;> omega)
  · idx_vars x
    refine ((q6 _ _ _ _ x0 x1).trans (congrArg (· * scaleMla) ((reads m c t).tile_q 6 768 (by omega) rfl x0 x1))).trans (qM_at _ _ _ _ _ (at512 t x0) 6 _ ?_ ?_ x1.isLt)
    all_goals (blk_simp [block14 t, at512_val] <;> omega)
  · idx_vars x
    refine ((q5 _ _ _ _ x0 x1).trans (congrArg (· * scaleMla) ((reads m c t).tile_q 5 640 (by omega) rfl x0 x1))).trans (qM_at _ _ _ _ _ (at512 t x0) 5 _ ?_ ?_ x1.isLt)
    all_goals (blk_simp [block14 t, at512_val] <;> omega)
  · idx_vars x
    refine ((q4 _ _ _ _ x0 x1).trans (congrArg (· * scaleMla) ((reads m c t).tile_q 4 512 (by omega) rfl x0 x1))).trans (qM_at _ _ _ _ _ (at512 t x0) 4 _ ?_ ?_ x1.isLt)
    all_goals (blk_simp [block14 t, at512_val] <;> omega)
  · idx_vars x
    refine ((q3 _ _ _ _ x0 x1).trans (congrArg (· * scaleMla) ((reads m c t).tile_q 3 384 (by omega) rfl x0 x1))).trans (qM_at _ _ _ _ _ (at512 t x0) 3 _ ?_ ?_ x1.isLt)
    all_goals (blk_simp [block14 t, at512_val] <;> omega)
  · idx_vars x
    have q := (reads m c t).tile_q 2 256 (by omega) rfl x0 x1
    unfold k0_pay83 at q
    rw [ld4] at q
    refine (q2 _ _ _ _ _ _ _ x0 x1).trans ((congrArg (· * scaleMla) q).trans (qM_at _ _ _ _ _ (at512 t x0) 2 _ ?_ ?_ x1.isLt))
    all_goals (blk_simp [block14 t, at512_val] <;> omega)
  · idx_vars x
    have q := (reads m c t).tile_q 1 128 (by omega) rfl x0 x1
    unfold k0_pay83 at q
    rw [ld4] at q
    refine (q1 _ _ _ _ _ _ _ x0 x1).trans ((congrArg (· * scaleMla) q).trans (qM_at _ _ _ _ _ (at512 t x0) 1 _ ?_ ?_ x1.isLt))
    all_goals (blk_simp [block14 t, at512_val] <;> omega)
  · idx_vars x
    have q := (reads m c t).tile_q 0 0 (by omega) rfl x0 x1
    unfold k0_pay83 at q
    rw [ld4] at q
    refine (q0 _ _ _ _ _ _ _ x0 x1).trans ((congrArg (· * scaleMla) q).trans (qM_at _ _ _ _ _ (at512 t x0) 0 _ ?_ ?_ x1.isLt))
    all_goals (blk_simp [block14 t, at512_val] <;> omega)

end Cert.Proj

end
-- ==== Proof.ProjKm.lean ====
/- The latent attention's keys, as the projections' call leaves them. -/
module

public import proofs.«01_k».proof.Proof.ProjReads

@[expose] public section

set_option maxRecDepth 16384

noncomputable section

namespace Cert.Proj

open Idealize.ShloMosaic Idealize.ShloMosaic.TcCoe Idealize.SL.Sem
open Idealize.ShloMosaic.Pipeline (Dat)
open Cert.Kernel2Ideal Cert.Kernel2Ideal.Gen Cert.Kernel2Ideal.Run Cert.Proj.Pack Cert.Proj.Body

variable (m : (ℓ : Loc nD τ sig) → Buf (Elt Ideal) ℓ)

theorem block15 (t : Fin cfg0.N) : win0_15.index t = ![t.val, 0] := by simp only [idx t]

set_option maxHeartbeats 1000000 in
/-- Its keys. -/
theorem km_eq (c : Dev nD) : (dats m 0 c).arrAt 15 cfg0.N = kM (args m c) cosM sinM := by
  refine (dats m 0 c).arrAt_eq_of_covers 15 _ (by decide +kernel) fun t hf y => ?_
  have ht := t.isLt
  have hN := points
  blk_simp
  rw [after0_15]
  unfold out0_15
  frame_out
  canon_tiles x h
  · idx_vars x
    refine ((km7 _ _ x0 x1).trans ((reads m c t).head_k 7 (by omega) x0 x1 _ (by first | rfl | (simp only; omega)))).trans (kM_at _ _ _ _ (at512 t x0) 7 _ ?_ ?_ x1.isLt)
    all_goals (blk_simp [block15 t, at512_val] <;> omega)
  · idx_vars x
    refine ((km6 _ _ x0 x1).trans ((reads m c t).head_k 6 (by omega) x0 x1 _ (by first | rfl | (simp only; omega)))).trans (kM_at _ _ _ _ (at512 t x0) 6 _ ?_ ?_ x1.isLt)
    all_goals (blk_simp [block15 t, at512_val] <;> omega)
  · idx_vars x
    refine ((km5 _ _ x0 x1).trans ((reads m c t).head_k 5 (by omega) x0 x1 _ (by first | rfl | (simp only; omega)))).trans (kM_at _ _ _ _ (at512 t x0) 5 _ ?_ ?_ x1.isLt)
    all_goals (blk_simp [block15 t, at512_val] <;> omega)
  · idx_vars x
    refine ((km4 _ _ x0 x1).trans ((reads m c t).head_k 4 (by omega) x0 x1 _ (by first | rfl | (simp only; omega)))).trans (kM_at _ _ _ _ (at512 t x0) 4 _ ?_ ?_ x1.isLt)
    all_goals (blk_simp [block15 t, at512_val] <;> omega)
  · idx_vars x
    have q := (reads m c t).head_k 3 (by omega) x0 x1 ⟨384 + x1.val, by omega⟩ (by first | rfl | (simp only; omega))
    unfold k0_pay87 k0_pay88 at q
    rw [ld6] at q
    refine (km3 _ _ _ _ _ _ _ _ _ _ x0 x1).trans (q.trans (kM_at _ _ _ _ (at512 t x0) 3 _ ?_ ?_ x1.isLt))
    all_goals (blk_simp [block15 t, at512_val] <;> omega)
  · idx_vars x
    have q := (reads m c t).head_k 2 (by omega) x0 x1 ⟨256 + x1.val, by omega⟩ (by first | rfl | (simp only; omega))
    unfold k0_pay87 k0_pay88 at q
    rw [ld6] at q
    refine (km2 _ _ _ _ _ _ _ _ _ _ x0 x1).trans (q.trans (kM_at _ _ _ _ (at512 t x0) 2 _ ?_ ?_ x1.isLt))
    all_goals (blk_simp [block15 t, at512_val] <;> omega)
  · idx_vars x
    have q := (reads m c t).head_k 1 (by omega) x0 x1 ⟨128 + x1.val, by omega⟩ (by first | rfl | (simp only; omega))
    unfold k0_pay87 k0_pay88 at q
    rw [ld6] at q
    refine (km1 _ _ _ _ _ _ _ _ _ _ x0 x1).trans (q.trans (kM_at _ _ _ _ (at512 t x0) 1 _ ?_ ?_ x1.isLt))
    all_goals (blk_simp [block15 t, at512_val] <;> omega)
  · idx_vars x
    have q := (reads m c t).head_k 0 (by omega) x0 x1 ⟨x1.val, by omega⟩ (by first | rfl | (simp only; omega))
    unfold k0_pay87 k0_pay88 at q
    rw [ld6] at q
    refine (km0 _ _ _ _ _ _ _ _ _ _ x0 x1).trans (q.trans (kM_at _ _ _ _ (at512 t x0) 0 _ ?_ ?_ x1.isLt))
    all_goals (blk_simp [block15 t, at512_val] <;> omega)

end Cert.Proj

end
-- ==== Proof.ProjVm.lean ====
/- The latent attention's values, as the projections' call leaves them. -/
module

public import proofs.«01_k».proof.Proof.ProjReads

@[expose] public section

set_option maxRecDepth 16384

noncomputable section

namespace Cert.Proj

open Idealize.ShloMosaic Idealize.ShloMosaic.TcCoe Idealize.SL.Sem
open Idealize.ShloMosaic.Pipeline (Dat)
open Cert.Kernel2Ideal Cert.Kernel2Ideal.Gen Cert.Kernel2Ideal.Run Cert.Proj.Pack Cert.Proj.Body

variable (m : (ℓ : Loc nD τ sig) → Buf (Elt Ideal) ℓ)

theorem block16 (t : Fin cfg0.N) : win0_16.index t = ![t.val, 0] := by simp only [idx t]

set_option maxHeartbeats 1000000 in
/-- The latent attention's values. -/
theorem vm_eq (c : Dev nD) : (dats m 0 c).arrAt 16 cfg0.N = vM (args m c) := by
  refine (dats m 0 c).arrAt_eq_of_covers 16 _ (by decide +kernel) fun t hf y => ?_
  have ht := t.isLt
  have hN := points
  blk_simp
  rw [after0_16]
  unfold out0_16
  frame_out
  obtain ⟨x, rfl⟩ : ∃ x : S512x512.Idx, x = y := ⟨y, rfl⟩
  · idx_vars x
    have q := (reads m c t).vm x0 x1
    rw [ld7] at q
    refine q.trans (vM_at _ _ (at512 t x0) _ ?_ ?_)
    all_goals (blk_simp [block16 t, at512_val] <;> omega)

end Cert.Proj

end
-- ==== Proof.ProjQb.lean ====
/- The block-sparse attention's queries, as the projections' call leaves them. -/
module

public import proofs.«01_k».proof.Proof.ProjReads

@[expose] public section

set_option maxRecDepth 16384

noncomputable section

namespace Cert.Proj

open Idealize.ShloMosaic Idealize.ShloMosaic.TcCoe Idealize.SL.Sem
open Idealize.ShloMosaic.Pipeline (Dat)
open Cert.Kernel2Ideal Cert.Kernel2Ideal.Gen Cert.Kernel2Ideal.Run Cert.Proj.Pack Cert.Proj.Body

variable (m : (ℓ : Loc nD τ sig) → Buf (Elt Ideal) ℓ)

theorem block17 (t : Fin cfg0.N) : win0_17.index t = ![t.val, 0] := by simp only [idx t]

set_option maxHeartbeats 1000000 in
/-- The block-sparse attention's queries. -/
theorem qb_eq (c : Dev nD) : (dats m 0 c).arrAt 17 cfg0.N = qB (args m c) cosB sinB scaleMoba := by
  refine (dats m 0 c).arrAt_eq_of_covers 17 _ (by decide +kernel) fun t hf y => ?_
  have ht := t.isLt
  have hN := points
  blk_simp
  rw [after0_17]
  unfold out0_17
  frame_out
  canon_tiles x h
  · idx_vars x
    refine ((b3 _ _ _ _ x0 x1).trans (congrArg (· * scaleMoba) ((reads m c t).tile_b _ 1056 384 (by omega) (by omega) x0 x1 ((reads m c t).p89 x0)))).trans (qB_at _ _ _ _ _ (at512 t x0) _ ?_ ?_)
    all_goals (blk_simp [block17 t, at512_val] <;> omega)
  · idx_vars x
    refine ((b2 _ _ _ _ x0 x1).trans (congrArg (· * scaleMoba) ((reads m c t).tile_b _ 1056 256 (by omega) (by omega) x0 x1 ((reads m c t).p89 x0)))).trans (qB_at _ _ _ _ _ (at512 t x0) _ ?_ ?_)
    all_goals (blk_simp [block17 t, at512_val] <;> omega)
  · idx_vars x
    refine ((b1 _ _ _ _ x0 x1).trans (congrArg (· * scaleMoba) ((reads m c t).tile_b _ 1056 128 (by omega) (by omega) x0 x1 ((reads m c t).p89 x0)))).trans (qB_at _ _ _ _ _ (at512 t x0) _ ?_ ?_)
    all_goals (blk_simp [block17 t, at512_val] <;> omega)
  · idx_vars x
    refine ((b0 _ _ _ _ _ x0 x1).trans (congrArg (· * scaleMoba) ((reads m c t).tile_b _ 1056 0 (by omega) (by omega) x0 x1 ((reads m c t).p89 x0)))).trans (qB_at _ _ _ _ _ (at512 t x0) _ ?_ ?_)
    all_goals (blk_simp [block17 t, at512_val] <;> omega)

end Cert.Proj

end
-- ==== Proof.ProjKb.lean ====
/- The block-sparse attention's keys, transposed, as the projections' call leaves them. -/
module

public import proofs.«01_k».proof.Proof.ProjReads

@[expose] public section

set_option maxRecDepth 16384

noncomputable section

namespace Cert.Proj

open Idealize.ShloMosaic Idealize.ShloMosaic.TcCoe Idealize.SL.Sem
open Idealize.ShloMosaic.Pipeline (Dat)
open Cert.Kernel2Ideal Cert.Kernel2Ideal.Gen Cert.Kernel2Ideal.Run Cert.Proj.Pack Cert.Proj.Body

variable (m : (ℓ : Loc nD τ sig) → Buf (Elt Ideal) ℓ)

theorem block18 (t : Fin cfg0.N) : win0_18.index t = ![t.val / 2, 0, t.val % 2] := by simp only [idx t]

set_option maxHeartbeats 1000000 in
/-- Its keys. -/
theorem kb_eq (c : Dev nD) : (dats m 0 c).arrAt 18 cfg0.N = kB (args m c) cosB sinB := by
  refine (dats m 0 c).arrAt_eq_of_covers 18 _ (by decide +kernel) fun t hf y => ?_
  have ht := t.isLt
  have hN := points
  blk_simp
  rw [after0_18]
  unfold out0_18
  frame_out
  canon_tiles x h
  · idx_vars x
    obtain rfl : x0 = 0 := Subsingleton.elim _ _
    refine ((kt3 _ _ _ _ x1 x2).trans ((k3 _ _ _ _ x2 x1).trans ((reads m c t).tile_b _ 1568 384 (by omega) (by omega) x2 x1 ((reads m c t).p90 x2)))).trans (kB_at _ _ _ _ (at512 t x2) _ ?_ ?_)
    all_goals (blk_simp [block18 t, at512_val] <;> omega)
  · idx_vars x
    obtain rfl : x0 = 0 := Subsingleton.elim _ _
    refine ((kt2 _ _ _ _ x1 x2).trans ((k2 _ _ _ _ x2 x1).trans ((reads m c t).tile_b _ 1568 256 (by omega) (by omega) x2 x1 ((reads m c t).p90 x2)))).trans (kB_at _ _ _ _ (at512 t x2) _ ?_ ?_)
    all_goals (blk_simp [block18 t, at512_val] <;> omega)
  · idx_vars x
    obtain rfl : x0 = 0 := Subsingleton.elim _ _
    refine ((kt1 _ _ _ _ x1 x2).trans ((k1 _ _ _ _ x2 x1).trans ((reads m c t).tile_b _ 1568 128 (by omega) (by omega) x2 x1 ((reads m c t).p90 x2)))).trans (kB_at _ _ _ _ (at512 t x2) _ ?_ ?_)
    all_goals (blk_simp [block18 t, at512_val] <;> omega)
  · idx_vars x
    obtain rfl : x0 = 0 := Subsingleton.elim _ _
    refine ((kt0 _ _ _ _ x1 x2).trans ((k0 _ _ _ _ x2 x1).trans ((reads m c t).tile_b _ 1568 0 (by omega) (by omega) x2 x1 ((reads m c t).p90 x2)))).trans (kB_at _ _ _ _ (at512 t x2) _ ?_ ?_)
    all_goals (blk_simp [block18 t, at512_val] <;> omega)

end Cert.Proj

end
-- ==== Proof.ProjVb.lean ====
/- The block-sparse attention's values, as the projections' call leaves them. -/
module

public import proofs.«01_k».proof.Proof.ProjReads

@[expose] public section

set_option maxRecDepth 16384

noncomputable section

namespace Cert.Proj

open Idealize.ShloMosaic Idealize.ShloMosaic.TcCoe Idealize.SL.Sem
open Idealize.ShloMosaic.Pipeline (Dat)
open Cert.Kernel2Ideal Cert.Kernel2Ideal.Gen Cert.Kernel2Ideal.Run Cert.Proj.Pack Cert.Proj.Body

variable (m : (ℓ : Loc nD τ sig) → Buf (Elt Ideal) ℓ)

theorem block19 (t : Fin cfg0.N) : win0_19.index t = ![t.val, 0] := by simp only [idx t]

set_option maxHeartbeats 1000000 in
/-- The block-sparse attention's values. -/
theorem vb_eq (c : Dev nD) : (dats m 0 c).arrAt 19 cfg0.N = vB (args m c) := by
  refine (dats m 0 c).arrAt_eq_of_covers 19 _ (by decide +kernel) fun t hf y => ?_
  have ht := t.isLt
  have hN := points
  blk_simp
  rw [after0_19]
  unfold out0_19
  frame_out
  obtain ⟨x, rfl⟩ : ∃ x : S512x512.Idx, x = y := ⟨y, rfl⟩
  · idx_vars x
    refine ((reads m c t).vb x0 x1).trans (vB_at _ _ (at512 t x0) _ ?_ ?_)
    all_goals (blk_simp [block19 t, at512_val] <;> omega)

end Cert.Proj

end
-- ==== Proof.ProjMean.lean ====
/- The means of the keys' blocks, as the projections' call leaves them. -/
module

public import proofs.«01_k».proof.Proof.ProjReads

@[expose] public section

set_option maxRecDepth 16384

noncomputable section

namespace Cert.Proj

open Idealize.ShloMosaic Idealize.ShloMosaic.TcCoe Idealize.SL.Sem
open Idealize.ShloMosaic.Pipeline (Dat)
open Cert.Kernel2Ideal Cert.Kernel2Ideal.Gen Cert.Kernel2Ideal.Run Cert.Proj.Pack Cert.Proj.Body

variable (m : (ℓ : Loc nD τ sig) → Buf (Elt Ideal) ℓ)

theorem block20 (t : Fin cfg0.N) : win0_20.index t = ![t.val, 0, 0] := by simp only [idx t]

set_option maxHeartbeats 1000000 in
/-- The blocks' mean keys. -/
theorem mean_eq (c : Dev nD) : (dats m 0 c).arrAt 20 cfg0.N = meanB (args m c) cosB sinB := by
  refine (dats m 0 c).arrAt_eq_of_covers 20 _ (by decide +kernel) fun t hf y => ?_
  have ht := t.isLt
  have hN := points
  blk_simp
  rw [after0_20]
  unfold out0_20
  frame_out
  canon_tiles x h
  · idx_vars x
    obtain rfl : x0 = 0 := Subsingleton.elim _ _
    obtain rfl : x1 = 0 := Subsingleton.elim _ _
    refine ((mean31 _ _ _ _ x2).trans (congrArg (Ideal.div · _) (Finset.sum_congr rfl fun i _ => (k3 _ _ _ _ _ x2).trans ((reads m c t).tile_b _ 1568 384 (by omega) (by omega) _ x2 ((reads m c t).p90 _))))).trans (meanB_at _ _ _ _ (fun i => at512 t ⟨256 + i.val, by omega⟩) _ (fun i => ?_) ?_)
    all_goals (blk_simp [block20 t, at512_val] <;> (try dsimp only) <;> omega)
  · idx_vars x
    obtain rfl : x0 = 0 := Subsingleton.elim _ _
    obtain rfl : x1 = 0 := Subsingleton.elim _ _
    refine ((mean30 _ _ _ _ x2).trans (congrArg (Ideal.div · _) (Finset.sum_congr rfl fun i _ => (k3 _ _ _ _ _ x2).trans ((reads m c t).tile_b _ 1568 384 (by omega) (by omega) _ x2 ((reads m c t).p90 _))))).trans (meanB_at _ _ _ _ (fun i => at512 t ⟨i.val, by omega⟩) _ (fun i => ?_) ?_)
    all_goals (blk_simp [block20 t, at512_val] <;> (try dsimp only) <;> omega)
  · idx_vars x
    obtain rfl : x0 = 0 := Subsingleton.elim _ _
    obtain rfl : x1 = 0 := Subsingleton.elim _ _
    refine ((mean21 _ _ _ _ x2).trans (congrArg (Ideal.div · _) (Finset.sum_congr rfl fun i _ => (k2 _ _ _ _ _ x2).trans ((reads m c t).tile_b _ 1568 256 (by omega) (by omega) _ x2 ((reads m c t).p90 _))))).trans (meanB_at _ _ _ _ (fun i => at512 t ⟨256 + i.val, by omega⟩) _ (fun i => ?_) ?_)
    all_goals (blk_simp [block20 t, at512_val] <;> (try dsimp only) <;> omega)
  · idx_vars x
    obtain rfl : x0 = 0 := Subsingleton.elim _ _
    obtain rfl : x1 = 0 := Subsingleton.elim _ _
    refine ((mean20 _ _ _ _ x2).trans (congrArg (Ideal.div · _) (Finset.sum_congr rfl fun i _ => (k2 _ _ _ _ _ x2).trans ((reads m c t).tile_b _ 1568 256 (by omega) (by omega) _ x2 ((reads m c t).p90 _))))).trans (meanB_at _ _ _ _ (fun i => at512 t ⟨i.val, by omega⟩) _ (fun i => ?_) ?_)
    all_goals (blk_simp [block20 t, at512_val] <;> (try dsimp only) <;> omega)
  · idx_vars x
    obtain rfl : x0 = 0 := Subsingleton.elim _ _
    obtain rfl : x1 = 0 := Subsingleton.elim _ _
    refine ((mean11 _ _ _ _ x2).trans (congrArg (Ideal.div · _) (Finset.sum_congr rfl fun i _ => (k1 _ _ _ _ _ x2).trans ((reads m c t).tile_b _ 1568 128 (by omega) (by omega) _ x2 ((reads m c t).p90 _))))).trans (meanB_at _ _ _ _ (fun i => at512 t ⟨256 + i.val, by omega⟩) _ (fun i => ?_) ?_)
    all_goals (blk_simp [block20 t, at512_val] <;> (try dsimp only) <;> omega)
  · idx_vars x
    obtain rfl : x0 = 0 := Subsingleton.elim _ _
    obtain rfl : x1 = 0 := Subsingleton.elim _ _
    refine ((mean10 _ _ _ _ x2).trans (congrArg (Ideal.div · _) (Finset.sum_congr rfl fun i _ => (k1 _ _ _ _ _ x2).trans ((reads m c t).tile_b _ 1568 128 (by omega) (by omega) _ x2 ((reads m c t).p90 _))))).trans (meanB_at _ _ _ _ (fun i => at512 t ⟨i.val, by omega⟩) _ (fun i => ?_) ?_)
    all_goals (blk_simp [block20 t, at512_val] <;> (try dsimp only) <;> omega)
  · idx_vars x
    obtain rfl : x0 = 0 := Subsingleton.elim _ _
    obtain rfl : x1 = 0 := Subsingleton.elim _ _
    refine ((mean01 _ _ _ _ x2).trans (congrArg (Ideal.div · _) (Finset.sum_congr rfl fun i _ => (k0 _ _ _ _ _ x2).trans ((reads m c t).tile_b _ 1568 0 (by omega) (by omega) _ x2 ((reads m c t).p90 _))))).trans (meanB_at _ _ _ _ (fun i => at512 t ⟨256 + i.val, by omega⟩) _ (fun i => ?_) ?_)
    all_goals (blk_simp [block20 t, at512_val] <;> (try dsimp only) <;> omega)
  · idx_vars x
    obtain rfl : x0 = 0 := Subsingleton.elim _ _
    obtain rfl : x1 = 0 := Subsingleton.elim _ _
    refine ((mean00 _ _ _ _ x2).trans (congrArg (Ideal.div · _) (Finset.sum_congr rfl fun i _ => (k0 _ _ _ _ _ x2).trans ((reads m c t).tile_b _ 1568 0 (by omega) (by omega) _ x2 ((reads m c t).p90 _))))).trans (meanB_at _ _ _ _ (fun i => at512 t ⟨i.val, by omega⟩) _ (fun i => ?_) ?_)
    all_goals (blk_simp [block20 t, at512_val] <;> (try dsimp only) <;> omega)

end Cert.Proj

end
-- ==== Proof.ProjGa.lean ====
/- The first branch's gates, as the projections' call leaves them. -/
module

public import proofs.«01_k».proof.Proof.ProjReads

@[expose] public section

set_option maxRecDepth 16384

noncomputable section

namespace Cert.Proj

open Idealize.ShloMosaic Idealize.ShloMosaic.TcCoe Idealize.SL.Sem
open Idealize.ShloMosaic.Pipeline (Dat)
open Cert.Kernel2Ideal Cert.Kernel2Ideal.Gen Cert.Kernel2Ideal.Run Cert.Proj.Pack Cert.Proj.Body

variable (m : (ℓ : Loc nD τ sig) → Buf (Elt Ideal) ℓ)

theorem block21 (t : Fin cfg0.N) : win0_21.index t = ![t.val, 0] := by simp only [idx t]

set_option maxHeartbeats 1000000 in
/-- The first gate. -/
theorem ga_eq (c : Dev nD) : (dats m 0 c).arrAt 21 cfg0.N = gA (args m c) := by
  refine (dats m 0 c).arrAt_eq_of_covers 21 _ (by decide +kernel) fun t hf y => ?_
  have ht := t.isLt
  have hN := points
  blk_simp
  rw [after0_21]
  unfold out0_21
  frame_out
  obtain ⟨x, rfl⟩ : ∃ x : S512x1024.Idx, x = y := ⟨y, rfl⟩
  · idx_vars x
    refine ((reads m c t).ga x0 x1).trans (gA_at _ _ (at512 t x0) _ ?_ ?_)
    all_goals (blk_simp [block21 t, at512_val] <;> omega)

end Cert.Proj

end
-- ==== Proof.ProjGb.lean ====
/- The second branch's gates, as the projections' call leaves them. -/
module

public import proofs.«01_k».proof.Proof.ProjReads

@[expose] public section

set_option maxRecDepth 16384

noncomputable section

namespace Cert.Proj

open Idealize.ShloMosaic Idealize.ShloMosaic.TcCoe Idealize.SL.Sem
open Idealize.ShloMosaic.Pipeline (Dat)
open Cert.Kernel2Ideal Cert.Kernel2Ideal.Gen Cert.Kernel2Ideal.Run Cert.Proj.Pack Cert.Proj.Body

variable (m : (ℓ : Loc nD τ sig) → Buf (Elt Ideal) ℓ)

theorem block22 (t : Fin cfg0.N) : win0_22.index t = ![t.val, 0] := by simp only [idx t]

set_option maxHeartbeats 1000000 in
/-- The second gate. -/
theorem gb_eq (c : Dev nD) : (dats m 0 c).arrAt 22 cfg0.N = gB (args m c) := by
  refine (dats m 0 c).arrAt_eq_of_covers 22 _ (by decide +kernel) fun t hf y => ?_
  have ht := t.isLt
  have hN := points
  blk_simp
  rw [after0_22]
  unfold out0_22
  frame_out
  obtain ⟨x, rfl⟩ : ∃ x : S512x1024.Idx, x = y := ⟨y, rfl⟩
  · idx_vars x
    refine ((reads m c t).gb x0 x1).trans (gB_at _ _ (at512 t x0) _ ?_ ?_)
    all_goals (blk_simp [block22 t, at512_val] <;> omega)

end Cert.Proj

end
-- ==== Proof.ProjRef.lean ====
/- What the reference's projections compute, entry by entry. -/
module

public import proofs.«01_k».proof.Proof.Gen.Reference2Ideal.Run
public import Idealize.ShloMosaic.Lib.Pointwise
public import proofs.«01_k».proof.Proof.ProjPack
public import proofs.«01_k».proof.Proof.ProjSpec

@[expose] public section

set_option maxRecDepth 16384

noncomputable section

namespace Cert.Proj.Ref

open Idealize.ShloMosaic Idealize.ShloMosaic.TcCoe Idealize.SL.Sem
open Cert.Reference2Ideal Cert.Reference2Ideal.Gen Cert.Reference2Ideal.Value Cert.Proj

/-! ## The stages, over any arrays -/

/-- The tokens normed, times the joint weights. -/
def first (X : FVec Ideal S8x8192x1024 .f32) (G : FVec Ideal S1024 .f32) (W : FVec Ideal S1024x4640 .f32) : FVec Ideal S8x8192x4640 .f32 :=
  Host.dotGeneral dot_S8x8192x1024_S1024x4640_S8x8192x4640_2_0_01_1_n_n none (mulf (mulf X (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf X X) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 G))) W

/-- The queries' latent row normed, times its weights, head by head. -/
def queries (P : FVec Ideal S8x8192x4640 .f32) (G : FVec Ideal S768 .f32) (U : FVec Ideal S768x768 .f32) : FVec Ideal S8x8192x8x96 .f32 :=
  shapeCast _ (Host.dotGeneral dot_S8x8192x768_S768x768_S8x8192x768_2_0_01_1_n_n none (mulf (mulf (extractStridedSlice S8x8192x768 ![0, 0, 0] P slices_S8x8192x4640_S8x8192x768_0_0_0) (broadcastInDim S8x8192x768 ![0, 1, 2] bcast_S8x8192x1_S8x8192x768_0_1_2 (Host.rsqrt (addf (Host.divf (broadcastInDim S8x8192x1 ![0, 1] bcast_S8x8192_S8x8192x1_0_1 (Host.reduceAdd (mulf (extractStridedSlice S8x8192x768 ![0, 0, 0] P slices_S8x8192x4640_S8x8192x768_0_0_0) (extractStridedSlice S8x8192x768 ![0, 0, 0] P slices_S8x8192x4640_S8x8192x768_0_0_0)) (constant S_ .f32 0x00000000#32) reducesTo_S8x8192x768_S8x8192_d2 h_S_)) (broadcastInDim S8x8192x1 ![] bcast_S_S8x8192x1 (constant S_ .f32 0x44400000#32))) (broadcastInDim S8x8192x1 ![] bcast_S_S8x8192x1 (constant S_ .f32 0x358637BD#32)))))) (broadcastInDim S8x8192x768 ![0, 1, 2] bcast_S1x1x768_S8x8192x768_0_1_2 (broadcastInDim S1x1x768 ![2] bcast_S768_S1x1x768_2 G))) U) shapeCasts_S8x8192x768_S8x8192x8x96

/-- The keys' and values' latent row normed, times its weights, head by head. -/
def latents (P : FVec Ideal S8x8192x4640 .f32) (G : FVec Ideal S256 .f32) (U : FVec Ideal S256x1024 .f32) : FVec Ideal S8x8192x8x128 .f32 :=
  shapeCast _ (Host.dotGeneral dot_S8x8192x256_S256x1024_S8x8192x1024_2_0_01_1_n_n none (mulf (mulf (extractStridedSlice S8x8192x256 ![0, 0, 768] P slices_S8x8192x4640_S8x8192x256_0_0_768) (broadcastInDim S8x8192x256 ![0, 1, 2] bcast_S8x8192x1_S8x8192x256_0_1_2 (Host.rsqrt (addf (Host.divf (broadcastInDim S8x8192x1 ![0, 1] bcast_S8x8192_S8x8192x1_0_1 (Host.reduceAdd (mulf (extractStridedSlice S8x8192x256 ![0, 0, 768] P slices_S8x8192x4640_S8x8192x256_0_0_768) (extractStridedSlice S8x8192x256 ![0, 0, 768] P slices_S8x8192x4640_S8x8192x256_0_0_768)) (constant S_ .f32 0x00000000#32) reducesTo_S8x8192x256_S8x8192_d2 h_S_)) (broadcastInDim S8x8192x1 ![] bcast_S_S8x8192x1 (constant S_ .f32 0x43800000#32))) (broadcastInDim S8x8192x1 ![] bcast_S_S8x8192x1 (constant S_ .f32 0x358637BD#32)))))) (broadcastInDim S8x8192x256 ![0, 1, 2] bcast_S1x1x256_S8x8192x256_0_1_2 (broadcastInDim S1x1x256 ![2] bcast_S256_S1x1x256_2 G))) U) shapeCasts_S8x8192x1024_S8x8192x8x128

/-- 32 lanes rotated, for each head. -/
def rotM (x : FVec Ideal S8x8192x8x32 .f32) (c s : FVec Ideal S8192x16 .f32) : FVec Ideal S8x8192x8x32 .f32 :=
  concatenate S8x8192x8x32 3 [⟨S8x8192x8x16, (subf (mulf (extractStridedSlice S8x8192x8x16 ![0, 0, 0, 0] x slices_S8x8192x8x32_S8x8192x8x16_0_0_0_0) (broadcastInDim S8x8192x8x16 ![0, 1, 2, 3] bcast_S1x8192x1x16_S8x8192x8x16_0_1_2_3 (broadcastInDim S1x8192x1x16 ![1, 3] bcast_S8192x16_S1x8192x1x16_1_3 c))) (mulf (extractStridedSlice S8x8192x8x16 ![0, 0, 0, 16] x slices_S8x8192x8x32_S8x8192x8x16_0_0_0_16) (broadcastInDim S8x8192x8x16 ![0, 1, 2, 3] bcast_S1x8192x1x16_S8x8192x8x16_0_1_2_3 (broadcastInDim S1x8192x1x16 ![1, 3] bcast_S8192x16_S1x8192x1x16_1_3 s))) : FVec Ideal S8x8192x8x16 .f32)⟩, ⟨S8x8192x8x16, (addf (mulf (extractStridedSlice S8x8192x8x16 ![0, 0, 0, 16] x slices_S8x8192x8x32_S8x8192x8x16_0_0_0_16) (broadcastInDim S8x8192x8x16 ![0, 1, 2, 3] bcast_S1x8192x1x16_S8x8192x8x16_0_1_2_3 (broadcastInDim S1x8192x1x16 ![1, 3] bcast_S8192x16_S1x8192x1x16_1_3 c))) (mulf (extractStridedSlice S8x8192x8x16 ![0, 0, 0, 0] x slices_S8x8192x8x32_S8x8192x8x16_0_0_0_0) (broadcastInDim S8x8192x8x16 ![0, 1, 2, 3] bcast_S1x8192x1x16_S8x8192x8x16_0_1_2_3 (broadcastInDim S1x8192x1x16 ![1, 3] bcast_S8192x16_S1x8192x1x16_1_3 s))) : FVec Ideal S8x8192x8x16 .f32)⟩] concatenates_S8x8192x8x16_S8x8192x8x16_S8x8192x8x32_d3

/-- The 32 lanes all heads share, rotated. -/
def rotK (x : FVec Ideal S8x8192x1x32 .f32) (c s : FVec Ideal S8192x16 .f32) : FVec Ideal S8x8192x1x32 .f32 :=
  concatenate S8x8192x1x32 3 [⟨S8x8192x1x16, (subf (mulf (extractStridedSlice S8x8192x1x16 ![0, 0, 0, 0] x slices_S8x8192x1x32_S8x8192x1x16_0_0_0_0) (broadcastInDim S8x8192x1x16 ![0, 1, 2, 3] bcast_S1x8192x1x16_S8x8192x1x16_0_1_2_3 (broadcastInDim S1x8192x1x16 ![1, 3] bcast_S8192x16_S1x8192x1x16_1_3 c))) (mulf (extractStridedSlice S8x8192x1x16 ![0, 0, 0, 16] x slices_S8x8192x1x32_S8x8192x1x16_0_0_0_16) (broadcastInDim S8x8192x1x16 ![0, 1, 2, 3] bcast_S1x8192x1x16_S8x8192x1x16_0_1_2_3 (broadcastInDim S1x8192x1x16 ![1, 3] bcast_S8192x16_S1x8192x1x16_1_3 s))) : FVec Ideal S8x8192x1x16 .f32)⟩, ⟨S8x8192x1x16, (addf (mulf (extractStridedSlice S8x8192x1x16 ![0, 0, 0, 16] x slices_S8x8192x1x32_S8x8192x1x16_0_0_0_16) (broadcastInDim S8x8192x1x16 ![0, 1, 2, 3] bcast_S1x8192x1x16_S8x8192x1x16_0_1_2_3 (broadcastInDim S1x8192x1x16 ![1, 3] bcast_S8192x16_S1x8192x1x16_1_3 c))) (mulf (extractStridedSlice S8x8192x1x16 ![0, 0, 0, 0] x slices_S8x8192x1x32_S8x8192x1x16_0_0_0_0) (broadcastInDim S8x8192x1x16 ![0, 1, 2, 3] bcast_S1x8192x1x16_S8x8192x1x16_0_1_2_3 (broadcastInDim S1x8192x1x16 ![1, 3] bcast_S8192x16_S1x8192x1x16_1_3 s))) : FVec Ideal S8x8192x1x16 .f32)⟩] concatenates_S8x8192x1x16_S8x8192x1x16_S8x8192x1x32_d3

/-- The first 16 lanes rotated, for each head. -/
def rotB (x : FVec Ideal S8x8192x8x16 .f32) (c s : FVec Ideal S8192x8 .f32) : FVec Ideal S8x8192x8x16 .f32 :=
  concatenate S8x8192x8x16 3 [⟨S8x8192x8x8, (subf (mulf (extractStridedSlice S8x8192x8x8 ![0, 0, 0, 0] x slices_S8x8192x8x16_S8x8192x8x8_0_0_0_0) (broadcastInDim S8x8192x8x8 ![0, 1, 2, 3] bcast_S1x8192x1x8_S8x8192x8x8_0_1_2_3 (broadcastInDim S1x8192x1x8 ![1, 3] bcast_S8192x8_S1x8192x1x8_1_3 c))) (mulf (extractStridedSlice S8x8192x8x8 ![0, 0, 0, 8] x slices_S8x8192x8x16_S8x8192x8x8_0_0_0_8) (broadcastInDim S8x8192x8x8 ![0, 1, 2, 3] bcast_S1x8192x1x8_S8x8192x8x8_0_1_2_3 (broadcastInDim S1x8192x1x8 ![1, 3] bcast_S8192x8_S1x8192x1x8_1_3 s))) : FVec Ideal S8x8192x8x8 .f32)⟩, ⟨S8x8192x8x8, (addf (mulf (extractStridedSlice S8x8192x8x8 ![0, 0, 0, 8] x slices_S8x8192x8x16_S8x8192x8x8_0_0_0_8) (broadcastInDim S8x8192x8x8 ![0, 1, 2, 3] bcast_S1x8192x1x8_S8x8192x8x8_0_1_2_3 (broadcastInDim S1x8192x1x8 ![1, 3] bcast_S8192x8_S1x8192x1x8_1_3 c))) (mulf (extractStridedSlice S8x8192x8x8 ![0, 0, 0, 0] x slices_S8x8192x8x16_S8x8192x8x8_0_0_0_0) (broadcastInDim S8x8192x8x8 ![0, 1, 2, 3] bcast_S1x8192x1x8_S8x8192x8x8_0_1_2_3 (broadcastInDim S1x8192x1x8 ![1, 3] bcast_S8192x8_S1x8192x1x8_1_3 s))) : FVec Ideal S8x8192x8x8 .f32)⟩] concatenates_S8x8192x8x8_S8x8192x8x8_S8x8192x8x16_d3

/-- The block-sparse attention's heads, their first 16 lanes rotated. -/
def headB (x : FVec Ideal S8x8192x8x64 .f32) (c s : FVec Ideal S8192x8 .f32) : FVec Ideal S8x8192x8x64 .f32 :=
  concatenate S8x8192x8x64 3 [⟨S8x8192x8x16, rotB (extractStridedSlice S8x8192x8x16 ![0, 0, 0, 0] x slices_S8x8192x8x64_S8x8192x8x16_0_0_0_0) c s⟩, ⟨S8x8192x8x48, (extractStridedSlice S8x8192x8x48 ![0, 0, 0, 16] x slices_S8x8192x8x64_S8x8192x8x48_0_0_0_16 : FVec Ideal S8x8192x8x48 .f32)⟩] concatenates_S8x8192x8x16_S8x8192x8x48_S8x8192x8x64_d3

def headsQ (P : FVec Ideal S8x8192x4640 .f32) : FVec Ideal S8x8192x8x64 .f32 :=
  shapeCast _ (extractStridedSlice S8x8192x512 ![0, 0, 1056] P slices_S8x8192x4640_S8x8192x512_0_0_1056 : FVec Ideal S8x8192x512 .f32) shapeCasts_S8x8192x512_S8x8192x8x64

def headsK (P : FVec Ideal S8x8192x4640 .f32) : FVec Ideal S8x8192x8x64 .f32 :=
  shapeCast _ (extractStridedSlice S8x8192x512 ![0, 0, 1568] P slices_S8x8192x4640_S8x8192x512_0_0_1568 : FVec Ideal S8x8192x512 .f32) shapeCasts_S8x8192x512_S8x8192x8x64

/-- The base-two logarithm of Euler's number, as the reference has it. -/
def log2e : FVec Ideal S_ .f32 := Host.divf (constant S_ .f32 0x3F800000#32) (Host.log (constant S_ .f32 0x40000000#32))

def outQM (q : FVec Ideal S8x8192x8x96 .f32) (c s : FVec Ideal S8192x16 .f32) : FVec Ideal S65536x1024 .bf16 :=
  truncf .bf16 (shapeCast _ (mulf (pad S8x8192x8x128 ![0, 0, 0, 0] ![0, 0, 0, 32] ![0, 0, 0, 0] (concatenate S8x8192x8x96 3 [⟨S8x8192x8x64, (extractStridedSlice S8x8192x8x64 ![0, 0, 0, 0] q slices_S8x8192x8x96_S8x8192x8x64_0_0_0_0 : FVec Ideal S8x8192x8x64 .f32)⟩, ⟨S8x8192x8x32, rotM (extractStridedSlice S8x8192x8x32 ![0, 0, 0, 64] q slices_S8x8192x8x96_S8x8192x8x32_0_0_0_64) c s⟩] concatenates_S8x8192x8x64_S8x8192x8x32_S8x8192x8x96_d3) (sitofp .f32 (constantI S_ 32 0#32)) pads_S8x8192x8x96_S8x8192x8x128_000_000_000_0320 h_S_) (broadcastInDim S8x8192x8x128 ![] bcast_S_S8x8192x8x128 (mulf (Host.rsqrt (constant S_ .f32 0x42C00000#32)) log2e)) : FVec Ideal S8x8192x8x128 .f32) shapeCasts_S8x8192x8x128_S65536x1024) bitsLt_bf16_f32

def outKM (k : FVec Ideal S8x8192x8x128 .f32) (P : FVec Ideal S8x8192x4640 .f32) (c s : FVec Ideal S8192x16 .f32) : FVec Ideal S65536x1024 .bf16 :=
  truncf .bf16 (shapeCast _ (pad S8x8192x8x128 ![0, 0, 0, 0] ![0, 0, 0, 32] ![0, 0, 0, 0] (concatenate S8x8192x8x96 3 [⟨S8x8192x8x64, (extractStridedSlice S8x8192x8x64 ![0, 0, 0, 0] k slices_S8x8192x8x128_S8x8192x8x64_0_0_0_0 : FVec Ideal S8x8192x8x64 .f32)⟩, ⟨S8x8192x8x32, (broadcastInDim S8x8192x8x32 ![0, 1, 2, 3] bcast_S8x8192x1x32_S8x8192x8x32_0_1_2_3 (rotK (broadcastInDim S8x8192x1x32 ![0, 1, 3] bcast_S8x8192x32_S8x8192x1x32_0_1_3 (extractStridedSlice S8x8192x32 ![0, 0, 1024] P slices_S8x8192x4640_S8x8192x32_0_0_1024)) c s) : FVec Ideal S8x8192x8x32 .f32)⟩] concatenates_S8x8192x8x64_S8x8192x8x32_S8x8192x8x96_d3) (sitofp .f32 (constantI S_ 32 0#32)) pads_S8x8192x8x96_S8x8192x8x128_000_000_000_0320 h_S_ : FVec Ideal S8x8192x8x128 .f32) shapeCasts_S8x8192x8x128_S65536x1024) bitsLt_bf16_f32

def outVM (k : FVec Ideal S8x8192x8x128 .f32) : FVec Ideal S65536x512 .bf16 :=
  truncf .bf16 (shapeCast _ (extractStridedSlice S8x8192x8x64 ![0, 0, 0, 64] k slices_S8x8192x8x128_S8x8192x8x64_0_0_0_64 : FVec Ideal S8x8192x8x64 .f32) shapeCasts_S8x8192x8x64_S65536x512) bitsLt_bf16_f32

def outQB (h : FVec Ideal S8x8192x8x64 .f32) : FVec Ideal S65536x512 .bf16 :=
  truncf .bf16 (shapeCast _ (mulf h (broadcastInDim S8x8192x8x64 ![] bcast_S_S8x8192x8x64 (mulf (Host.rsqrt (constant S_ .f32 0x42800000#32)) log2e)) : FVec Ideal S8x8192x8x64 .f32) shapeCasts_S8x8192x8x64_S65536x512) bitsLt_bf16_f32

def outKB (h : FVec Ideal S8x8192x8x64 .f32) : FVec Ideal S64x512x1024 .bf16 :=
  truncf .bf16 (transpose S64x512x1024 [0, 2, 1] (shapeCast _ h shapeCasts_S8x8192x8x64_S64x1024x512) transposes_S64x1024x512_S64x512x1024_0_2_1 : FVec Ideal S64x512x1024 .f32) bitsLt_bf16_f32

def outVB (P : FVec Ideal S8x8192x4640 .f32) : FVec Ideal S65536x512 .bf16 :=
  truncf .bf16 (shapeCast _ (extractStridedSlice S8x8192x512 ![0, 0, 2080] P slices_S8x8192x4640_S8x8192x512_0_0_2080 : FVec Ideal S8x8192x512 .f32) shapeCasts_S8x8192x512_S65536x512) bitsLt_bf16_f32

def outMean (h : FVec Ideal S8x8192x8x64 .f32) : FVec Ideal S256x1x512 .f32 :=
  shapeCast _ (Host.divf (Host.reduceAdd (shapeCast _ h shapeCasts_S8x8192x8x64_S8x32x256x8x64) (constant S_ .f32 0x00000000#32) reducesTo_S8x32x256x8x64_S8x32x8x64_d2 h_S_) (broadcastInDim S8x32x8x64 ![] bcast_S_S8x32x8x64 (constant S_ .f32 0x43800000#32)) : FVec Ideal S8x32x8x64 .f32) shapeCasts_S8x32x8x64_S256x1x512

def outGA (P : FVec Ideal S8x8192x4640 .f32) : FVec Ideal S65536x1024 .bf16 :=
  truncf .bf16 (shapeCast _ (extractStridedSlice S8x8192x1024 ![0, 0, 2592] P slices_S8x8192x4640_S8x8192x1024_0_0_2592 : FVec Ideal S8x8192x1024 .f32) shapeCasts_S8x8192x1024_S65536x1024) bitsLt_bf16_f32

def outGB (P : FVec Ideal S8x8192x4640 .f32) : FVec Ideal S65536x1024 .bf16 :=
  truncf .bf16 (shapeCast _ (extractStridedSlice S8x8192x1024 ![0, 0, 3616] P slices_S8x8192x4640_S8x8192x1024_0_0_3616 : FVec Ideal S8x8192x1024 .f32) shapeCasts_S8x8192x1024_S65536x1024) bitsLt_bf16_f32

/-! ## Their entries -/

/-- Batch, position and token. -/
abbrev bat (R : Fin 65536) : Fin 8 := ⟨R.val / 8192, by omega⟩
abbrev pos (R : Fin 65536) : Fin 8192 := ⟨R.val % 8192, by omega⟩

variable (A : Args)

theorem first_apply (b : Fin 8) (s : Fin 8192) (y : Fin 4640) (R : Fin 65536) (hb : b = bat R) (hs : s = pos R) :
    first A.X A.G A.W (ix3 b s y) = A.seg R y.val := by
  subst hb hs
  have e : ∀ k, A.w k y.val = A.W (ix2 k y) := fun k => num_of _ _ y rfl
  unfold Args.seg Proj.seg dots rms eps Args.tok Args.g
  simp only [e]
  pointwise [first]

theorem queries_apply (P : FVec Ideal S8x8192x4640 .f32) (R : Fin 65536) (hP : ∀ y : Fin 4640, P (ix3 (bat R) (pos R) y) = A.seg R y.val) (h : Fin 8) (l : Fin 96) :
    queries P A.Gq A.Uq (ix4 (bat R) (pos R) h l) = A.query R (h.val * 96 + l.val) := by
  have e : ∀ k, A.uq k (h.val * 96 + l.val) = A.Uq (ix2 k (⟨h.val * 96 + l.val, by omega⟩ : Fin 768)) := fun k => num_of _ _ _ rfl
  have hP' : ∀ k : Fin 768, seg (A.tok R) A.g A.w k.val = P (ix3 (bat R) (pos R) (⟨k.val, by omega⟩ : Fin 4640)) := fun k => (hP ⟨k.val, by omega⟩).symm
  unfold Args.query Proj.query dots rms eps Args.gq
  simp only [e, hP']
  pointwise [queries]

theorem latents_apply (P : FVec Ideal S8x8192x4640 .f32) (R : Fin 65536) (hP : ∀ y : Fin 4640, P (ix3 (bat R) (pos R) y) = A.seg R y.val) (h : Fin 8) (l : Fin 128) :
    latents P A.Gk A.Uk (ix4 (bat R) (pos R) h l) = A.latent R (h.val * 128 + l.val) := by
  have e : ∀ k, A.uk k (h.val * 128 + l.val) = A.Uk (ix2 k (⟨h.val * 128 + l.val, by omega⟩ : Fin 1024)) := fun k => num_of _ _ _ rfl
  have hP' : ∀ k : Fin 256, seg (A.tok R) A.g A.w (768 + k.val) = P (ix3 (bat R) (pos R) (⟨768 + k.val, by omega⟩ : Fin 4640)) := fun k => (hP ⟨768 + k.val, by omega⟩).symm
  unfold Args.latent Proj.latent dots rms eps Args.gk
  simp only [e, hP']
  pointwise [latents]

theorem sub_lanes {ι κ : Type} (f : ι → EReal) (c s : κ → EReal) {a a' b b' : ι} {d d' e e' : κ} (h₁ : a = a') (h₂ : d = d') (h₃ : b = b') (h₄ : e = e') :
    f a * c d - f b * s e = f a' * c d' - f b' * s e' := by
  rw [h₁, h₂, h₃, h₄]

theorem add_lanes {ι κ : Type} (f : ι → EReal) (c s : κ → EReal) {a a' b b' : ι} {d d' e e' : κ} (h₁ : a = a') (h₂ : d = d') (h₃ : b = b') (h₄ : e = e') :
    f a * c d + f b * s e = f a' * c d' + f b' * s e' := by
  rw [h₁, h₂, h₃, h₄]

theorem headB_apply (x : FVec Ideal S8x8192x8x64 .f32) (c s : FVec Ideal S8192x8 .f32) (R : Fin 65536) (h : Fin 8) (l : Fin 64) :
    headB x c s (ix4 (bat R) (pos R) h l) = narrow (num fun y => x (ix4 (bat R) (pos R) h y)) (at8 c R) (at8 s R) l.val := by
  pointwise [headB, rotB]
  simp only [narrow, num, at8]
  repeat' split
  all_goals first | omega | rfl | exact Cert.Proj.Pack.padWord | exact sub_lanes x c s (by idx_ext) (by idx_ext) (by idx_ext) (by idx_ext) | exact add_lanes x c s (by idx_ext) (by idx_ext) (by idx_ext) (by idx_ext) | exact congrArg x (by idx_ext) | exact congrArg k (by idx_ext)

theorem headsQ_apply (P : FVec Ideal S8x8192x4640 .f32) (R : Fin 65536) (hP : ∀ y : Fin 4640, P (ix3 (bat R) (pos R) y) = A.seg R y.val) (h : Fin 8) (l : Fin 64) :
    headsQ P (ix4 (bat R) (pos R) h l) = A.seg R (1056 + h.val * 64 + l.val) := by
  rw [show 1056 + h.val * 64 + l.val = (⟨1056 + (h.val * 64 + l.val), by omega⟩ : Fin 4640).val by simp only; omega, ← hP]
  pointwise [headsQ]

theorem headsK_apply (P : FVec Ideal S8x8192x4640 .f32) (R : Fin 65536) (hP : ∀ y : Fin 4640, P (ix3 (bat R) (pos R) y) = A.seg R y.val) (h : Fin 8) (l : Fin 64) :
    headsK P (ix4 (bat R) (pos R) h l) = A.seg R (1568 + h.val * 64 + l.val) := by
  rw [show 1568 + h.val * 64 + l.val = (⟨1568 + (h.val * 64 + l.val), by omega⟩ : Fin 4640).val by simp only; omega, ← hP]
  pointwise [headsK]

theorem outQM_apply (q : FVec Ideal S8x8192x8x96 .f32) (c s : FVec Ideal S8192x16 .f32) (R : Fin 65536) (y : Fin 1024) :
    outQM q c s (ix2 R y) = wide (num fun l => q (ix4 (bat R) (pos R) (⟨y.val / 128, by omega⟩ : Fin 8) l)) (at16 c R) (at16 s R) (y.val % 128)
      * (Ideal.rsqrt (Ideal.ofBits FTy.f32 0x42C00000#32) * Ideal.div (Ideal.ofBits FTy.f32 0x3F800000#32) (Ideal.log (Ideal.ofBits FTy.f32 0x40000000#32))) := by
  pointwise [outQM, rotM, log2e]
  refine congrArg (· * _) ?_
  simp only [wide, num, at16]
  repeat' split
  all_goals first | omega | rfl | exact Cert.Proj.Pack.padWord | exact sub_lanes q c s (by idx_ext) (by idx_ext) (by idx_ext) (by idx_ext) | exact add_lanes q c s (by idx_ext) (by idx_ext) (by idx_ext) (by idx_ext) | exact congrArg q (by idx_ext) | exact congrArg k (by idx_ext)

theorem outKM_apply (k : FVec Ideal S8x8192x8x128 .f32) (P : FVec Ideal S8x8192x4640 .f32) (c s : FVec Ideal S8192x16 .f32) (R : Fin 65536) (y : Fin 1024) :
    outKM k P c s (ix2 R y) = wide (fun n => if n < 64 then num (fun l => k (ix4 (bat R) (pos R) (⟨y.val / 128, by omega⟩ : Fin 8) l)) n
      else num (fun l => P (ix3 (bat R) (pos R) l)) (1024 + (n - 64))) (at16 c R) (at16 s R) (y.val % 128) := by
  pointwise [outKM, rotK]
  simp only [wide, num, at16]
  repeat' split
  all_goals first | omega | rfl | exact Cert.Proj.Pack.padWord | exact sub_lanes P c s (by idx_ext) (by idx_ext) (by idx_ext) (by idx_ext) | exact add_lanes P c s (by idx_ext) (by idx_ext) (by idx_ext) (by idx_ext) | exact congrArg P (by idx_ext) | exact congrArg k (by idx_ext)

theorem outVM_apply (k : FVec Ideal S8x8192x8x128 .f32) (R : Fin 65536) (y : Fin 512) :
    outVM k (ix2 R y) = k (ix4 (bat R) (pos R) (⟨y.val / 64, by omega⟩ : Fin 8) (⟨64 + y.val % 64, by omega⟩ : Fin 128)) := by
  pointwise [outVM]

theorem outQB_apply (h : FVec Ideal S8x8192x8x64 .f32) (R : Fin 65536) (y : Fin 512) :
    outQB h (ix2 R y) = h (ix4 (bat R) (pos R) (⟨y.val / 64, by omega⟩ : Fin 8) (⟨y.val % 64, by omega⟩ : Fin 64))
      * (Ideal.rsqrt (Ideal.ofBits FTy.f32 0x42800000#32) * Ideal.div (Ideal.ofBits FTy.f32 0x3F800000#32) (Ideal.log (Ideal.ofBits FTy.f32 0x40000000#32))) := by
  pointwise [outQB, log2e]

theorem outKB_apply (h : FVec Ideal S8x8192x8x64 .f32) (a : Fin 64) (y : Fin 512) (p : Fin 1024) (R : Fin 65536) (hR : a.val * 1024 + p.val = R.val) :
    outKB h (ix3 a y p) = h (ix4 (bat R) (pos R) (⟨y.val / 64, by omega⟩ : Fin 8) (⟨y.val % 64, by omega⟩ : Fin 64)) := by
  have hr : a.val * 1024 + p.val < 65536 := by omega
  obtain rfl : (⟨a.val * 1024 + p.val, hr⟩ : Fin 65536) = R := Fin.ext hR
  pointwise [outKB]
  exact congrArg h (by idx_ext)

theorem outVB_apply (P : FVec Ideal S8x8192x4640 .f32) (R : Fin 65536) (y : Fin 512) :
    outVB P (ix2 R y) = P (ix3 (bat R) (pos R) (⟨2080 + y.val, by omega⟩ : Fin 4640)) := by
  pointwise [outVB]

theorem outMean_apply (h : FVec Ideal S8x8192x8x64 .f32) (a : Fin 256) (u : Fin 1) (y : Fin 512) :
    outMean h (ix3 a u y) = Ideal.div (∑ i : Fin 256, h (ix4 (bat (⟨a.val * 256 + i.val, by omega⟩ : Fin 65536)) (pos (⟨a.val * 256 + i.val, by omega⟩ : Fin 65536)) (⟨y.val / 64, by omega⟩ : Fin 8) (⟨y.val % 64, by omega⟩ : Fin 64)))
      (Ideal.ofBits FTy.f32 0x43800000#32) := by
  obtain rfl : u = 0 := Subsingleton.elim _ _
  pointwise [outMean]
  exact congrArg (Ideal.div · _) (Finset.sum_congr rfl fun i _ => congrArg h (by idx_ext))

theorem outGA_apply (P : FVec Ideal S8x8192x4640 .f32) (R : Fin 65536) (y : Fin 1024) :
    outGA P (ix2 R y) = P (ix3 (bat R) (pos R) (⟨2592 + y.val, by omega⟩ : Fin 4640)) := by
  pointwise [outGA]

theorem outGB_apply (P : FVec Ideal S8x8192x4640 .f32) (R : Fin 65536) (y : Fin 1024) :
    outGB P (ix2 R y) = P (ix3 (bat R) (pos R) (⟨3616 + y.val, by omega⟩ : Fin 4640)) := by
  pointwise [outGB]

end Cert.Proj.Ref

end
-- ==== Proof.ProjEquation.lean ====
/- The reference's nine arrays are the specification's, and so the projections' call and the reference agree. -/
module

public import proofs.«01_k».proof.Proof.ProjRef
public import proofs.«01_k».proof.Proof.ProjBody
public import proofs.«01_k».proof.Proof.Equation

@[expose] public section

set_option maxRecDepth 16384

noncomputable section

namespace Cert.Proj.Ref

open Idealize.ShloMosaic Idealize.ShloMosaic.TcCoe Idealize.SL.Sem Idealize.ShloMosaic.StableHlo
open Cert.Reference2Ideal Cert.Reference2Ideal.Gen Cert.Reference2Ideal.Value Cert.Proj Cert.Proj.Pack

/-! ## The two scales -/

/-- One over the logarithm of two, as the reference has it. -/
theorem log2e_eq : Ideal.div (Ideal.ofBits FTy.f32 0x3F800000#32) (Ideal.log (Ideal.ofBits FTy.f32 0x40000000#32)) = (((Real.log 2)⁻¹ : ℝ) : EReal) := by
  have hl : (0 : ℝ) < Real.log 2 := Real.log_pos (by norm_num)
  have h0 : ((Real.log 2 : ℝ) : EReal) ≠ 0 := by exact_mod_cast hl.ne'
  have h1 : Ideal.ofBits FTy.f32 0x3F800000#32 = 1 := by
    simp [Ideal.ofBits, Ideal.ieee]
    rw [← EReal.coe_mul]
    norm_num
  rw [Cert.Mla.word2, Ideal.log_coe, if_neg (by norm_num), Ideal.div, if_neg h0, h1, one_mul]
  exact (EReal.coe_inv _).symm

theorem rsqrt64 : Ideal.rsqrt (Ideal.ofBits FTy.f32 0x42800000#32) = (((Real.sqrt 64)⁻¹ : ℝ) : EReal) := by
  have h : Ideal.ofBits FTy.f32 0x42800000#32 = ((64 : ℝ) : EReal) := by
    simp [Ideal.ofBits, Ideal.ieee]
    rw [← EReal.coe_mul]
    norm_num
  rw [h, Ideal.rsqrt_coe, if_neg (by norm_num), if_neg (by norm_num)]

/-- The named constant of the latent attention's queries is the reference's scale. -/
theorem scaleMla_eq : Ideal.rsqrt (Ideal.ofBits FTy.f32 0x42C00000#32) * Ideal.div (Ideal.ofBits FTy.f32 0x3F800000#32) (Ideal.log (Ideal.ofBits FTy.f32 0x40000000#32)) = Body.scaleMla := by
  have e : Body.scaleMla = (((Real.sqrt 96)⁻¹ * (Real.log 2)⁻¹ : ℝ) : EReal) := IdealRules.named_const.ideal_named_scalar _ _ _ _ rfl
  rw [e, log2e_eq, Cert.Mla.rsqrt96, EReal.coe_mul]

/-- And so is the block-sparse attention's. -/
theorem scaleMoba_eq : Ideal.rsqrt (Ideal.ofBits FTy.f32 0x42800000#32) * Ideal.div (Ideal.ofBits FTy.f32 0x3F800000#32) (Ideal.log (Ideal.ofBits FTy.f32 0x40000000#32)) = Body.scaleMoba := by
  have e : Body.scaleMoba = (((Real.sqrt 64)⁻¹ * (Real.log 2)⁻¹ : ℝ) : EReal) := IdealRules.named_const.ideal_named_scalar _ _ _ _ rfl
  rw [e, log2e_eq, rsqrt64, EReal.coe_mul]

/-! ## A head depends on its lanes alone -/

theorem wide_congr (f f' c s : ℕ → EReal) (l : ℕ) (h : ∀ n < 96, f n = f' n) : wide f c s l = wide f' c s l := by
  rw [wide, wide]
  rcases lt_or_ge l 64 with a | a
  · simp only [if_pos a, h l (by omega)]
  · rcases lt_or_ge l 80 with b | b
    · simp only [if_neg (not_lt.mpr a), if_pos b, h l (by omega), h (l + 16) (by omega)]
    · rcases lt_or_ge l 96 with d | d
      · simp only [if_neg (not_lt.mpr a), if_neg (not_lt.mpr b), if_pos d, h l d, h (l - 16) (by omega)]
      · simp only [if_neg (not_lt.mpr a), if_neg (not_lt.mpr b), if_neg (not_lt.mpr d)]

theorem num_lt {n : ℕ} (q : Fin n → EReal) (l : ℕ) (h : l < n) : num q l = q ⟨l, h⟩ := num_of q l ⟨l, h⟩ rfl

variable (m : (ℓ : Loc nD τ sig) → Buf (Elt Ideal) ℓ)

/-- The reference's arguments. -/
def args (c : Dev nD) : Args :=
  ⟨m ((c.tc : Thread nD τ).loc main_arg0), m ((c.tc : Thread nD τ).loc main_arg1), m ((c.tc : Thread nD τ).loc main_arg2), m ((c.tc : Thread nD τ).loc main_arg3),
    m ((c.tc : Thread nD τ).loc main_arg4), m ((c.tc : Thread nD τ).loc main_arg5), m ((c.tc : Thread nD τ).loc main_arg6)⟩

/-- The first product, and its entries. -/
def P (c : Dev nD) : FVec Ideal S8x8192x4640 .f32 := first (args m c).X (args m c).G (args m c).W

theorem P_apply (c : Dev nD) (R : Fin 65536) (y : Fin 4640) : P m c (ix3 (bat R) (pos R) y) = (args m c).seg R y.val :=
  first_apply (args m c) (bat R) (pos R) y R rfl rfl

/-- A rotated key of the block-sparse attention. -/
theorem key_apply (c : Dev nD) (R : Fin 65536) (y : ℕ) (hy : y < 512) :
    headB (headsK (P m c)) cosB sinB (ix4 (bat R) (pos R) (⟨y / 64, by omega⟩ : Fin 8) (⟨y % 64, by omega⟩ : Fin 64)) = keyB (args m c) cosB sinB R y := by
  refine (headB_apply _ _ _ R _ _).trans (narrow_congr _ _ _ _ _ (by simp only; omega) fun n hn => ?_)
  exact (num_lt _ n hn).trans (headsK_apply (args m c) _ R (P_apply m c R) _ _)

/-! ## The nine arrays -/

theorem qm_eq (c : Dev nD) : ((truncf .bf16 (shapeCast _ (mulf (pad S8x8192x8x128 ![0, 0, 0, 0] ![0, 0, 0, 32] ![0, 0, 0, 0] (concatenate S8x8192x8x96 3 [⟨S8x8192x8x64, (extractStridedSlice S8x8192x8x64 ![0, 0, 0, 0] (res_main_v64 (launchContents m c)) slices_S8x8192x8x96_S8x8192x8x64_0_0_0_0)⟩, ⟨S8x8192x8x32, (concatenate S8x8192x8x32 3 [⟨S8x8192x8x16, (subf (mulf (res_main_v67 (launchContents m c)) (broadcastInDim S8x8192x8x16 ![0, 1, 2, 3] bcast_S1x8192x1x16_S8x8192x8x16_0_1_2_3 (res_main_v69 (launchContents m c)))) (mulf (res_main_v68 (launchContents m c)) (broadcastInDim S8x8192x8x16 ![0, 1, 2, 3] bcast_S1x8192x1x16_S8x8192x8x16_0_1_2_3 (res_main_v70 (launchContents m c)))))⟩, ⟨S8x8192x8x16, (addf (mulf (res_main_v68 (launchContents m c)) (broadcastInDim S8x8192x8x16 ![0, 1, 2, 3] bcast_S1x8192x1x16_S8x8192x8x16_0_1_2_3 (res_main_v69 (launchContents m c)))) (mulf (res_main_v67 (launchContents m c)) (broadcastInDim S8x8192x8x16 ![0, 1, 2, 3] bcast_S1x8192x1x16_S8x8192x8x16_0_1_2_3 (res_main_v70 (launchContents m c)))))⟩] concatenates_S8x8192x8x16_S8x8192x8x16_S8x8192x8x32_d3)⟩] concatenates_S8x8192x8x64_S8x8192x8x32_S8x8192x8x96_d3) (sitofp .f32 (constantI S_ 32 0#32)) pads_S8x8192x8x96_S8x8192x8x128_000_000_000_0320 h_S_) (broadcastInDim S8x8192x8x128 ![] bcast_S_S8x8192x8x128 (mulf (Host.rsqrt (constant S_ .f32 0x42C00000#32)) (res_main_v161 (launchContents m c))))) shapeCasts_S8x8192x8x128_S65536x1024) bitsLt_bf16_f32) : FVec Ideal S65536x1024 .bf16)
    = qM (args m c) cosM sinM Body.scaleMla := by
  have e : ((outQM (queries (P m c) (args m c).Gq (args m c).Uq) cosM sinM) : FVec Ideal S65536x1024 .bf16) = qM (args m c) cosM sinM Body.scaleMla := by
    funext j
    idx_vars j
    refine (outQM_apply _ _ _ j0 j1).trans ((congrArg (_ * ·) scaleMla_eq).trans (congrArg (· * Body.scaleMla) (wide_congr _ _ _ _ _ fun n hn => ?_)))
    exact (num_lt _ n hn).trans (queries_apply (args m c) _ j0 (P_apply m c j0) _ _)
  exact e

theorem km_eq (c : Dev nD) : ((truncf .bf16 (shapeCast _ (pad S8x8192x8x128 ![0, 0, 0, 0] ![0, 0, 0, 32] ![0, 0, 0, 0] (concatenate S8x8192x8x96 3 [⟨S8x8192x8x64, (extractStridedSlice S8x8192x8x64 ![0, 0, 0, 0] (res_main_v97 (launchContents m c)) slices_S8x8192x8x128_S8x8192x8x64_0_0_0_0)⟩, ⟨S8x8192x8x32, (broadcastInDim S8x8192x8x32 ![0, 1, 2, 3] bcast_S8x8192x1x32_S8x8192x8x32_0_1_2_3 (concatenate S8x8192x1x32 3 [⟨S8x8192x1x16, (subf (mulf (res_main_v101 (launchContents m c)) (broadcastInDim S8x8192x1x16 ![0, 1, 2, 3] bcast_S1x8192x1x16_S8x8192x1x16_0_1_2_3 (res_main_v103 (launchContents m c)))) (mulf (res_main_v102 (launchContents m c)) (broadcastInDim S8x8192x1x16 ![0, 1, 2, 3] bcast_S1x8192x1x16_S8x8192x1x16_0_1_2_3 (res_main_v104 (launchContents m c)))))⟩, ⟨S8x8192x1x16, (addf (mulf (res_main_v102 (launchContents m c)) (broadcastInDim S8x8192x1x16 ![0, 1, 2, 3] bcast_S1x8192x1x16_S8x8192x1x16_0_1_2_3 (res_main_v103 (launchContents m c)))) (mulf (res_main_v101 (launchContents m c)) (broadcastInDim S8x8192x1x16 ![0, 1, 2, 3] bcast_S1x8192x1x16_S8x8192x1x16_0_1_2_3 (res_main_v104 (launchContents m c)))))⟩] concatenates_S8x8192x1x16_S8x8192x1x16_S8x8192x1x32_d3))⟩] concatenates_S8x8192x8x64_S8x8192x8x32_S8x8192x8x96_d3) (sitofp .f32 (constantI S_ 32 0#32)) pads_S8x8192x8x96_S8x8192x8x128_000_000_000_0320 h_S_) shapeCasts_S8x8192x8x128_S65536x1024) bitsLt_bf16_f32) : FVec Ideal S65536x1024 .bf16)
    = kM (args m c) cosM sinM := by
  have e : ((outKM (latents (P m c) (args m c).Gk (args m c).Uk) (P m c) cosM sinM) : FVec Ideal S65536x1024 .bf16) = kM (args m c) cosM sinM := by
    funext j
    idx_vars j
    refine (outKM_apply _ _ _ _ j0 j1).trans (wide_congr _ _ _ _ _ fun n hn => ?_)
    rcases lt_or_ge n 64 with a | a
    · simp only [if_pos a]
      exact (num_lt _ n (by omega)).trans (latents_apply (args m c) _ j0 (P_apply m c j0) _ _)
    · simp only [if_neg (not_lt.mpr a)]
      exact (num_lt _ _ (by omega)).trans (P_apply m c j0 _)
  exact e

theorem vm_eq (c : Dev nD) : ((truncf .bf16 (shapeCast _ (extractStridedSlice S8x8192x8x64 ![0, 0, 0, 64] (res_main_v97 (launchContents m c)) slices_S8x8192x8x128_S8x8192x8x64_0_0_0_64) shapeCasts_S8x8192x8x64_S65536x512) bitsLt_bf16_f32) : FVec Ideal S65536x512 .bf16)
    = vM (args m c) := by
  have e : ((outVM (latents (P m c) (args m c).Gk (args m c).Uk)) : FVec Ideal S65536x512 .bf16) = vM (args m c) := by
    funext j
    idx_vars j
    refine (outVM_apply _ j0 j1).trans ((latents_apply (args m c) _ j0 (P_apply m c j0) _ _).trans (congrArg ((args m c).latent j0) ?_))
    exact (Nat.add_assoc _ _ _).symm
  exact e

theorem qb_eq (c : Dev nD) : ((truncf .bf16 (shapeCast _ (mulf (concatenate S8x8192x8x64 3 [⟨S8x8192x8x16, (concatenate S8x8192x8x16 3 [⟨S8x8192x8x8, (subf (mulf (res_main_v121 (launchContents m c)) (broadcastInDim S8x8192x8x8 ![0, 1, 2, 3] bcast_S1x8192x1x8_S8x8192x8x8_0_1_2_3 (res_main_v123 (launchContents m c)))) (mulf (res_main_v122 (launchContents m c)) (broadcastInDim S8x8192x8x8 ![0, 1, 2, 3] bcast_S1x8192x1x8_S8x8192x8x8_0_1_2_3 (res_main_v124 (launchContents m c)))))⟩, ⟨S8x8192x8x8, (addf (mulf (res_main_v122 (launchContents m c)) (broadcastInDim S8x8192x8x8 ![0, 1, 2, 3] bcast_S1x8192x1x8_S8x8192x8x8_0_1_2_3 (res_main_v123 (launchContents m c)))) (mulf (res_main_v121 (launchContents m c)) (broadcastInDim S8x8192x8x8 ![0, 1, 2, 3] bcast_S1x8192x1x8_S8x8192x8x8_0_1_2_3 (res_main_v124 (launchContents m c)))))⟩] concatenates_S8x8192x8x8_S8x8192x8x8_S8x8192x8x16_d3)⟩, ⟨S8x8192x8x48, (extractStridedSlice S8x8192x8x48 ![0, 0, 0, 16] (res_main_v118 (launchContents m c)) slices_S8x8192x8x64_S8x8192x8x48_0_0_0_16)⟩] concatenates_S8x8192x8x16_S8x8192x8x48_S8x8192x8x64_d3) (broadcastInDim S8x8192x8x64 ![] bcast_S_S8x8192x8x64 (mulf (Host.rsqrt (constant S_ .f32 0x42800000#32)) (res_main_v161 (launchContents m c))))) shapeCasts_S8x8192x8x64_S65536x512) bitsLt_bf16_f32) : FVec Ideal S65536x512 .bf16)
    = qB (args m c) cosB sinB Body.scaleMoba := by
  have e : ((outQB (headB (headsQ (P m c)) cosB sinB)) : FVec Ideal S65536x512 .bf16) = qB (args m c) cosB sinB Body.scaleMoba := by
    funext j
    idx_vars j
    refine (outQB_apply _ j0 j1).trans ((congrArg (_ * ·) scaleMoba_eq).trans (congrArg (· * Body.scaleMoba) ((headB_apply _ _ _ j0 _ _).trans (narrow_congr _ _ _ _ _ (by simp only; omega) fun n hn => ?_))))
    exact (num_lt _ n hn).trans (headsQ_apply (args m c) _ j0 (P_apply m c j0) _ _)
  exact e

theorem kb_eq (c : Dev nD) : ((truncf .bf16 (transpose S64x512x1024 [0, 2, 1] (shapeCast _ (res_main_v155 (launchContents m c)) shapeCasts_S8x8192x8x64_S64x1024x512) transposes_S64x1024x512_S64x512x1024_0_2_1) bitsLt_bf16_f32) : FVec Ideal S64x512x1024 .bf16)
    = kB (args m c) cosB sinB := by
  have e : ((outKB (headB (headsK (P m c)) cosB sinB)) : FVec Ideal S64x512x1024 .bf16) = kB (args m c) cosB sinB := by
    funext j
    idx_vars j
    have hr : j0.val * 1024 + j2.val < 65536 := by omega
    exact (outKB_apply _ j0 j1 j2 ⟨_, hr⟩ rfl).trans ((key_apply m c _ j1.val j1.isLt).trans (kB_at (args m c) cosB sinB (ix3 j0 j1 j2) ⟨_, hr⟩ j1.val rfl rfl))
  exact e

theorem vb_eq (c : Dev nD) : ((truncf .bf16 (shapeCast _ (extractStridedSlice S8x8192x512 ![0, 0, 2080] (res_main_v41 (launchContents m c)) slices_S8x8192x4640_S8x8192x512_0_0_2080) shapeCasts_S8x8192x512_S65536x512) bitsLt_bf16_f32) : FVec Ideal S65536x512 .bf16)
    = vB (args m c) := by
  have e : ((outVB (P m c)) : FVec Ideal S65536x512 .bf16) = vB (args m c) := by
    funext j
    idx_vars j
    exact (outVB_apply _ j0 j1).trans (P_apply m c j0 _)
  exact e

theorem mean_eq (c : Dev nD) : ((shapeCast _ (Host.divf (Host.reduceAdd (shapeCast _ (res_main_v155 (launchContents m c)) shapeCasts_S8x8192x8x64_S8x32x256x8x64) (constant S_ .f32 0x00000000#32) reducesTo_S8x32x256x8x64_S8x32x8x64_d2 h_S_) (broadcastInDim S8x32x8x64 ![] bcast_S_S8x32x8x64 (constant S_ .f32 0x43800000#32))) shapeCasts_S8x32x8x64_S256x1x512) : FVec Ideal S256x1x512 .f32)
    = meanB (args m c) cosB sinB := by
  have e : ((outMean (headB (headsK (P m c)) cosB sinB)) : FVec Ideal S256x1x512 .f32) = meanB (args m c) cosB sinB := by
    funext j
    idx_vars j
    refine (outMean_apply _ j0 j1 j2).trans ((congrArg (Ideal.div · _) (Finset.sum_congr rfl fun i _ => key_apply m c _ j2.val j2.isLt)).trans ?_)
    exact meanB_at (args m c) cosB sinB (ix3 j0 j1 j2) (fun i => ⟨j0.val * 256 + i.val, by omega⟩) j2.val (fun i => rfl) rfl
  exact e

theorem ga_eq (c : Dev nD) : ((truncf .bf16 (shapeCast _ (extractStridedSlice S8x8192x1024 ![0, 0, 2592] (res_main_v41 (launchContents m c)) slices_S8x8192x4640_S8x8192x1024_0_0_2592) shapeCasts_S8x8192x1024_S65536x1024) bitsLt_bf16_f32) : FVec Ideal S65536x1024 .bf16)
    = gA (args m c) := by
  have e : ((outGA (P m c)) : FVec Ideal S65536x1024 .bf16) = gA (args m c) := by
    funext j
    idx_vars j
    exact (outGA_apply _ j0 j1).trans (P_apply m c j0 _)
  exact e

theorem gb_eq (c : Dev nD) : ((truncf .bf16 (shapeCast _ (extractStridedSlice S8x8192x1024 ![0, 0, 3616] (res_main_v41 (launchContents m c)) slices_S8x8192x4640_S8x8192x1024_0_0_3616) shapeCasts_S8x8192x1024_S65536x1024) bitsLt_bf16_f32) : FVec Ideal S65536x1024 .bf16)
    = gB (args m c) := by
  have e : ((outGB (P m c)) : FVec Ideal S65536x1024 .bf16) = gB (args m c) := by
    funext j
    idx_vars j
    exact (outGB_apply _ j0 j1).trans (P_apply m c j0 _)
  exact e

end Cert.Proj.Ref

end
-- ==== Proof.lean ====
/- The claims about the attention call and about the projections' call: the frames, the preserved texts, the value claims.
   The attention's value claim is one equation: the kernel's array is `Cert.Mla.attention` of the arguments (Proof/Array.lean),
   and on finite queries and keys so is the reference's (Proof/Equation.lean).
   The projections' is nine: kernel (Proof/ProjQm.lean and its neighbours) and reference (Proof/ProjEquation.lean) both
   return the arrays of Proof/ProjSpec.lean. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Reference2Ideal
public import proofs.«01_k».proof.Proof.Gen.Reference2Ideal.Run
public import proofs.«01_k».proof.Proof.Equation
public import proofs.«01_k».proof.Proof.Pre
public import proofs.«01_k».proof.Proof.ProjBits
public import proofs.«01_k».proof.Proof.ProjRun
public import proofs.«01_k».proof.Proof.ProjQm
public import proofs.«01_k».proof.Proof.ProjKm
public import proofs.«01_k».proof.Proof.ProjVm
public import proofs.«01_k».proof.Proof.ProjQb
public import proofs.«01_k».proof.Proof.ProjKb
public import proofs.«01_k».proof.Proof.ProjVb
public import proofs.«01_k».proof.Proof.ProjMean
public import proofs.«01_k».proof.Proof.ProjGa
public import proofs.«01_k».proof.Proof.ProjGb
public import proofs.«01_k».proof.Proof.ProjEquation
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

instance : Cert.Pre_finite_scores.Facts := Cert.Mla.Pre.facts

/-- The reference runs, changes no argument and leaves every semaphore at zero: it declares none. -/
theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- On finite queries and keys kernel and reference end with equal arrays. -/
theorem algebraic : Cert.algebraic_KernelIdeal_ReferenceIdeal_pre_finite_scores := by
  pair_intro
  · run_from Cert.KernelIdeal.Value.run_blocks m g
  · run_from Cert.ReferenceIdeal.Value.run m' g'
    obtain ⟨hQ, hK⟩ := Cert.Mla.Pre.finite _ _ _ (hpre c)
    exact (Cert.Mla.reference_eq m' c _ _ _ (hagree c).1 (hagree c).2.1 (hagree c).2.2 hQ hK).trans (Cert.Mla.result_eq m c).symm

/-- The projections' reference runs, changes no argument and leaves every semaphore at zero. -/
theorem reference2_frame : Cert.quiescent_Reference2Ideal := fun m g _ =>
  (θ_run Cert.Reference2Ideal.defs _ _).mono (fun r h => ⟨fun c => (h c).2.2.2.2.2.2.2.2.2, sem_eq_zero_of_no_sems (by decide) r.2⟩)
    (Cert.Reference2Ideal.Value.run (F := Ideal) m g)

/-- The two named constants have the values that stand for the kernel's two words. -/
theorem preserves2 : Cert.preserves_Kernel2_Kernel2Ideal :=
  ⟨IdealRules.named_const.statement Cert.Kernel2Ideal.κ "scale_mla" .f32 0x3E16C740#32 (((Real.sqrt 96)⁻¹ * (Real.log 2)⁻¹ : ℝ) : EReal) rfl,
    IdealRules.named_const.statement Cert.Kernel2Ideal.κ "scale_moba" .f32 0x3E38AA3B#32 (((Real.sqrt 64)⁻¹ * (Real.log 2)⁻¹ : ℝ) : EReal) rfl⟩

set_option maxHeartbeats 4000000 in
/-- On any arguments the projections' kernel and reference end with nine equal arrays. -/
theorem algebraic2 : Cert.algebraic_Kernel2Ideal_Reference2Ideal := by
  pair_intro
  · exact Cert.Kernel2Ideal.Run.run_blocks m g
  · refine (θ_run Cert.Reference2Ideal.defs _ _).mono (fun r hr c => ?_) (Cert.Reference2Ideal.Value.run (F := Ideal) m' g')
    have hA : Cert.Proj.Ref.args m' c = Cert.Proj.args m c := by
      obtain ⟨a0, a1, a2, a3, a4, a5, a6⟩ := hagree c
      rw [Cert.Proj.Ref.args, Cert.Proj.args, a0, a1, a2, a3, a4, a5, a6]
    obtain ⟨h0, h1, h2, h3, h4, h5, h6, h7, h8, kept⟩ := hr c
    refine ⟨h0.trans ?_, h1.trans ?_, h2.trans ?_, h3.trans ?_, h4.trans ?_, h5.trans ?_, h6.trans ?_, h7.trans ?_, h8.trans ?_, kept⟩
    · exact (Cert.Proj.Ref.qm_eq m' c).trans ((congrArg (fun A => Cert.Proj.qM A Cert.Proj.Pack.cosM Cert.Proj.Pack.sinM Cert.Proj.Body.scaleMla) hA).trans (Cert.Proj.qm_eq m c).symm)
    · exact (Cert.Proj.Ref.km_eq m' c).trans ((congrArg (fun A => Cert.Proj.kM A Cert.Proj.Pack.cosM Cert.Proj.Pack.sinM) hA).trans (Cert.Proj.km_eq m c).symm)
    · exact (Cert.Proj.Ref.vm_eq m' c).trans ((congrArg (fun A => Cert.Proj.vM A) hA).trans (Cert.Proj.vm_eq m c).symm)
    · exact (Cert.Proj.Ref.qb_eq m' c).trans ((congrArg (fun A => Cert.Proj.qB A Cert.Proj.Pack.cosB Cert.Proj.Pack.sinB Cert.Proj.Body.scaleMoba) hA).trans (Cert.Proj.qb_eq m c).symm)
    · exact (Cert.Proj.Ref.kb_eq m' c).trans ((congrArg (fun A => Cert.Proj.kB A Cert.Proj.Pack.cosB Cert.Proj.Pack.sinB) hA).trans (Cert.Proj.kb_eq m c).symm)
    · exact (Cert.Proj.Ref.vb_eq m' c).trans ((congrArg (fun A => Cert.Proj.vB A) hA).trans (Cert.Proj.vb_eq m c).symm)
    · exact (Cert.Proj.Ref.mean_eq m' c).trans ((congrArg (fun A => Cert.Proj.meanB A Cert.Proj.Pack.cosB Cert.Proj.Pack.sinB) hA).trans (Cert.Proj.mean_eq m c).symm)
    · exact (Cert.Proj.Ref.ga_eq m' c).trans ((congrArg (fun A => Cert.Proj.gA A) hA).trans (Cert.Proj.ga_eq m c).symm)
    · exact (Cert.Proj.Ref.gb_eq m' c).trans ((congrArg (fun A => Cert.Proj.gB A) hA).trans (Cert.Proj.gb_eq m c).symm)

/-- Every claim of the statement. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Mla.Pre.facts,
  fun m g _ => Cert.Kernel.Gen.frame m g, fun m g _ => Cert.KernelIdeal.Gen.frame m g, fun m g _ => Cert.KernelIdeal.Gen.frame m g,
  reference_frame, fun m g _ => reference_frame m g True.intro,
  fun m g _ => Cert.Kernel2.Run.frame m g, fun m g _ => Cert.Kernel2Ideal.Run.frame m g, reference2_frame,
  trivial, algebraic, preserves2, algebraic2⟩

end Cert.Proof

end
